-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_magnitude_finite [hPre_magnitude_finite : Cert.Pre_magnitude_finite.Facts] (m : (ℓ : Loc Cert.KernelIdeal.nD Cert.KernelIdeal.τ Cert.KernelIdeal.sig) → Buf (Elt Ideal) ℓ) : Prop :=
  ∀ c : Dev Cert.KernelIdeal.nD,
    (Cert.Pre_magnitude_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_magnitude_finite [hPre_magnitude_finite : Cert.Pre_magnitude_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_magnitude_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_magnitude_finite [hKernelIdeal : Cert.KernelIdeal.Facts] [hPre_magnitude_finite : Cert.Pre_magnitude_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_magnitude_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_magnitude_finite [hReferenceIdeal : Cert.ReferenceIdeal.Facts] [hPre_magnitude_finite : Cert.Pre_magnitude_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_magnitude_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_magnitude_finite [hKernelIdeal : Cert.KernelIdeal.Facts] [hReferenceIdeal : Cert.ReferenceIdeal.Facts] [hPre_magnitude_finite : Cert.Pre_magnitude_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_magnitude_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_magnitude_finite : Cert.Pre_magnitude_finite.Facts),
    quiescent_Kernel (hKernel := hKernel)
    ∧ quiescent_KernelIdeal (hKernelIdeal := hKernelIdeal)
    ∧ quiescent_KernelIdeal_pre_magnitude_finite (hKernelIdeal := hKernelIdeal) (hPre_magnitude_finite := hPre_magnitude_finite)
    ∧ quiescent_ReferenceIdeal (hReferenceIdeal := hReferenceIdeal)
    ∧ quiescent_ReferenceIdeal_pre_magnitude_finite (hReferenceIdeal := hReferenceIdeal) (hPre_magnitude_finite := hPre_magnitude_finite)
    ∧ preserves_Kernel_KernelIdeal
    ∧ algebraic_KernelIdeal_ReferenceIdeal_pre_magnitude_finite (hKernelIdeal := hKernelIdeal) (hReferenceIdeal := hReferenceIdeal) (hPre_magnitude_finite := hPre_magnitude_finite)
-- ==== Pre_magnitude_finite.lean ====
abbrev S2x18432x7168 : Shape := ⟨3, ![2, 18432, 7168]⟩
abbrev S2x144x56 : Shape := ⟨3, ![2, 144, 56]⟩
abbrev S2x64x7168 : Shape := ⟨3, ![2, 64, 7168]⟩
abbrev S2x18432x64 : Shape := ⟨3, ![2, 18432, 64]⟩
abbrev S2x18432 : Shape := ⟨2, ![2, 18432]⟩
abbrev S_ : Shape := ⟨0, ![]⟩

class Facts : Prop where
  bcast_S_S2x18432 : S_.BroadcastsInDim S2x18432 (![] : Fin 0 → Fin S2x18432.rank)

variable [Facts]

def fn {F : FTy → Type} [FloatOps F] (main_arg0 : FVec F S2x18432x7168 .fp8e4m3) (main_arg1 : FVec F S2x144x56 .f32) (main_arg2 : FVec F S2x64x7168 .bf16) (main_arg3 : FVec F S2x18432x64 .bf16) (main_arg4 : FVec F S2x18432 .f32) : IVec S2x18432 1 :=
  let main_v0 : FVec F S2x18432 .f32 := Host.absf main_arg4
  let main_cst : FVec F S_ .f32 := constant S_ .f32 0x7F7FFFFF#32
  let main_v1 : FVec F S2x18432 .f32 := broadcastInDim S2x18432 ![] bcast_S_S2x18432 main_cst
  let main_v2 : IVec S2x18432 1 := cmpf .ole main_v0 main_v1
  main_v2
-- ==== Kernel.lean ====
abbrev S2x18432x7168 : Shape := ⟨3, ![2, 18432, 7168]⟩
abbrev S2x144x56 : Shape := ⟨3, ![2, 144, 56]⟩
abbrev S2x64x7168 : Shape := ⟨3, ![2, 64, 7168]⟩
abbrev S2x18432x64 : Shape := ⟨3, ![2, 18432, 64]⟩
abbrev S2x18432 : Shape := ⟨2, ![2, 18432]⟩
abbrev S36864x7168 : Shape := ⟨2, ![36864, 7168]⟩
abbrev S16128 : Shape := ⟨1, ![16128]⟩
abbrev S36864x64 : Shape := ⟨2, ![36864, 64]⟩
abbrev S288x56 : Shape := ⟨2, ![288, 56]⟩
abbrev S128x7168 : Shape := ⟨2, ![128, 7168]⟩
abbrev S1x64x7168 : Shape := ⟨3, ![1, 64, 7168]⟩
abbrev S128x64 : Shape := ⟨2, ![128, 64]⟩
abbrev S2x128 : Shape := ⟨2, ![2, 128]⟩
abbrev S128x256 : Shape := ⟨2, ![128, 256]⟩
abbrev S28x128x256 : Shape := ⟨3, ![28, 128, 256]⟩
abbrev S128x128 : Shape := ⟨2, ![128, 128]⟩
abbrev S56x8x128 : Shape := ⟨3, ![56, 8, 128]⟩
abbrev S8x128 : Shape := ⟨2, ![8, 128]⟩
abbrev S1x128x128 : Shape := ⟨3, ![1, 128, 128]⟩
abbrev S16x8x128 : Shape := ⟨3, ![16, 8, 128]⟩
abbrev S1x8x128 : Shape := ⟨3, ![1, 8, 128]⟩
abbrev S8x16x128 : Shape := ⟨3, ![8, 16, 128]⟩
abbrev S1 : Shape := ⟨1, ![1]⟩
abbrev S16x128 : Shape := ⟨2, ![16, 128]⟩
abbrev S1x16x128 : Shape := ⟨3, ![1, 16, 128]⟩
abbrev S1x64x256 : Shape := ⟨3, ![1, 64, 256]⟩
abbrev S64x256 : Shape := ⟨2, ![64, 256]⟩
abbrev S256x256 : Shape := ⟨2, ![256, 256]⟩
abbrev S1x128x256 : Shape := ⟨3, ![1, 128, 256]⟩
abbrev S1x56 : Shape := ⟨2, ![1, 56]⟩
abbrev S8 : Shape := ⟨1, ![8]⟩
abbrev S8x1 : Shape := ⟨2, ![8, 1]⟩
abbrev S128 : Shape := ⟨1, ![128]⟩
abbrev S1x128 : Shape := ⟨2, ![1, 128]⟩

abbrev nBuf : Space → Nat
  | .hbm => 10
  | .vmem => 19
  | .smem => 1
  | _ => 0

abbrev bufTy : (tb : Table) → Fin (tcTables nBuf tb) → BufTy
  | .hbm, ⟨0, _⟩ => ⟨S2x18432x7168, .fp8e4m3⟩
  | .hbm, ⟨1, _⟩ => ⟨S2x144x56, .f32⟩
  | .hbm, ⟨2, _⟩ => ⟨S2x64x7168, .bf16⟩
  | .hbm, ⟨3, _⟩ => ⟨S2x18432x64, .bf16⟩
  | .hbm, ⟨4, _⟩ => ⟨S2x18432, .f32⟩
  | .hbm, ⟨5, _⟩ => ⟨S36864x7168, .fp8e4m3⟩
  | .hbm, ⟨6, _⟩ => ⟨S16128, .f32⟩
  | .hbm, ⟨7, _⟩ => ⟨S36864x64, .bf16⟩
  | .hbm, ⟨8, _⟩ => ⟨S36864x7168, .fp8e4m3⟩
  | .hbm, ⟨9, _⟩ => ⟨S288x56, .f32⟩
  | .local _ .vmem, ⟨0, _⟩ => ⟨S128x7168, .fp8e4m3⟩
  | .local _ .vmem, ⟨1, _⟩ => ⟨S128x7168, .fp8e4m3⟩
  | .local _ .vmem, ⟨2, _⟩ => ⟨S1x64x7168, .bf16⟩
  | .local _ .vmem, ⟨3, _⟩ => ⟨S1x64x7168, .bf16⟩
  | .local _ .vmem, ⟨4, _⟩ => ⟨S128x64, .bf16⟩
  | .local _ .vmem, ⟨5, _⟩ => ⟨S128x64, .bf16⟩
  | .local _ .vmem, ⟨6, _⟩ => ⟨S2x128, .f32⟩
  | .local _ .vmem, ⟨7, _⟩ => ⟨S2x128, .f32⟩
  | .local _ .vmem, ⟨8, _⟩ => ⟨S128x7168, .fp8e4m3⟩
  | .local _ .vmem, ⟨9, _⟩ => ⟨S128x7168, .fp8e4m3⟩
  | .local _ .vmem, ⟨10, _⟩ => ⟨S288x56, .f32⟩
  | .local _ .vmem, ⟨11, _⟩ => ⟨S128x256, .bf16⟩
  | .local _ .vmem, ⟨12, _⟩ => ⟨S28x128x256, .f32⟩
  | .local _ .vmem, ⟨13, _⟩ => ⟨S28x128x256, .f32⟩
  | .local _ .vmem, ⟨14, _⟩ => ⟨S128x128, .f32⟩
  | .local _ .vmem, ⟨15, _⟩ => ⟨S128x128, .f32⟩
  | .local _ .vmem, ⟨16, _⟩ => ⟨S56x8x128, .f32⟩
  | .local _ .vmem, ⟨17, _⟩ => ⟨S56x8x128, .f32⟩
  | .local _ .vmem, ⟨18, _⟩ => ⟨S8x128, .f32⟩
  | .local _ .smem, ⟨0, _⟩ => ⟨S16128, .f32⟩
  | _, _ => ⟨S2x18432x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![290], ![false]⟩

@[reducible] def k0_t1_loop : Scf.Loop 32 :=
  let c0_i32_6 : BitVec 32 := 0#32
  let c7_i32 : BitVec 32 := 7#32
  let v15 : BitVec 32 := Scalar.addi c0_i32_6 c7_i32
  let c1_i32 : BitVec 32 := 1#32
  ⟨c0_i32_6, v15, c1_i32⟩
def k0_mult1 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_399 : BitVec 32 := 4#32
  let v986 : BitVec 32 := Scalar.muli arg16 c4_i32_399
  let c0_i32_400 : BitVec 32 := 0#32
  let v987 : BitVec 32 := Scalar.addi v986 c0_i32_400
  let c256_i32 : BitVec 32 := 256#32
  let v988 : BitVec 32 := Scalar.muli v987 c256_i32
  v988
def k0_off1 (k0_t1 : Fin k0_t1_loop.trips) (c0_i32_400 : BitVec 32) : Fin 3 → Nat :=
  let c0_i32_6 : BitVec 32 := 0#32
  let c1_i32 : BitVec 32 := 1#32
  let arg16 : BitVec 32 := Scf.iv c0_i32_6 c1_i32 k0_t1
  let c4_i32_399 : BitVec 32 := 4#32
  let v986 : BitVec 32 := Scalar.muli arg16 c4_i32_399
  let v987 : BitVec 32 := Scalar.addi v986 c0_i32_400
  let v990 : Index := Scalar.indexCast v987
  let c0_401 : Index := 0#32
  let c0_402 : Index := 0#32
  ![v990.toNat, 0, 0]
def k0_off2 (k0_t1 : Fin k0_t1_loop.trips) (c0_i32_400 : BitVec 32) (c0_i32_404 : BitVec 32) : Fin 3 → Nat :=
  let c0_i32_6 : BitVec 32 := 0#32
  let c1_i32 : BitVec 32 := 1#32
  let arg16 : BitVec 32 := Scf.iv c0_i32_6 c1_i32 k0_t1
  let c4_i32_399 : BitVec 32 := 4#32
  let v986 : BitVec 32 := Scalar.muli arg16 c4_i32_399
  let v987 : BitVec 32 := Scalar.addi v986 c0_i32_400
  let c2_i32_403 : BitVec 32 := 2#32
  let v994 : BitVec 32 := Scalar.muli v987 c2_i32_403
  let v995 : BitVec 32 := Scalar.addi v994 c0_i32_404
  let v996 : Index := Scalar.indexCast v995
  let c0_405 : Index := 0#32
  let c0_406 : Index := 0#32
  ![v996.toNat, 0, 0]
def k0_off3 (k0_t1 : Fin k0_t1_loop.trips) (c0_i32_400 : BitVec 32) : Fin 3 → Nat :=
  let c0_i32_6 : BitVec 32 := 0#32
  let c1_i32 : BitVec 32 := 1#32
  let arg16 : BitVec 32 := Scf.iv c0_i32_6 c1_i32 k0_t1
  let c4_i32_399 : BitVec 32 := 4#32
  let v986 : BitVec 32 := Scalar.muli arg16 c4_i32_399
  let v987 : BitVec 32 := Scalar.addi v986 c0_i32_400
  let v1008 : Index := Scalar.indexCast v987
  let c0_409 : Index := 0#32
  let c128_410 : Index := 128#32
  ![v1008.toNat, 0, 128]
def k0_off4 (k0_t1 : Fin k0_t1_loop.trips) (c0_i32_400 : BitVec 32) : Fin 2 → Nat :=
  let c0_417 : Index := 0#32
  let c0_i32_6 : BitVec 32 := 0#32
  let c1_i32 : BitVec 32 := 1#32
  let arg16 : BitVec 32 := Scf.iv c0_i32_6 c1_i32 k0_t1
  let c4_i32_399 : BitVec 32 := 4#32
  let v986 : BitVec 32 := Scalar.muli arg16 c4_i32_399
  let v987 : BitVec 32 := Scalar.addi v986 c0_i32_400
  let c256_i32 : BitVec 32 := 256#32
  let v988 : BitVec 32 := Scalar.muli v987 c256_i32
  let v989 : BitVec 32 := v988
  let v1027 : Index := Scalar.indexCast v989
  ![0, v1027.toNat]
def k0_mult2 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_418 : BitVec 32 := 4#32
  let v1029 : BitVec 32 := Scalar.muli arg16 c4_i32_418
  let c1_i32_419 : BitVec 32 := 1#32
  let v1030 : BitVec 32 := Scalar.addi v1029 c1_i32_419
  let c256_i32_420 : BitVec 32 := 256#32
  let v1031 : BitVec 32 := Scalar.muli v1030 c256_i32_420
  v1031
def k0_mult3 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_438 : BitVec 32 := 4#32
  let v1072 : BitVec 32 := Scalar.muli arg16 c4_i32_438
  let c2_i32_439 : BitVec 32 := 2#32
  let v1073 : BitVec 32 := Scalar.addi v1072 c2_i32_439
  let c256_i32_440 : BitVec 32 := 256#32
  let v1074 : BitVec 32 := Scalar.muli v1073 c256_i32_440
  v1074
def k0_mult4 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_458 : BitVec 32 := 4#32
  let v1115 : BitVec 32 := Scalar.muli arg16 c4_i32_458
  let c3_i32_459 : BitVec 32 := 3#32
  let v1116 : BitVec 32 := Scalar.addi v1115 c3_i32_459
  let c256_i32_460 : BitVec 32 := 256#32
  let v1117 : BitVec 32 := Scalar.muli v1116 c256_i32_460
  v1117
def k0_mult5 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_574 : BitVec 32 := 4#32
  let v1310 : BitVec 32 := Scalar.muli arg16 c4_i32_574
  let c0_i32_575 : BitVec 32 := 0#32
  let v1311 : BitVec 32 := Scalar.addi v1310 c0_i32_575
  let c256_i32_576 : BitVec 32 := 256#32
  let v1312 : BitVec 32 := Scalar.muli v1311 c256_i32_576
  v1312
def k0_off5 (i : grid0.Coords) (k0_t1 : Fin k0_t1_loop.trips) (c0_i32_575 : BitVec 32) (c0_i32_579 : BitVec 32) : Fin 1 → Nat :=
  let arg0 : BitVec 32 := BitVec.ofNat 32 (i 0).val
  let c287_i32 : BitVec 32 := 287#32
  let v3 : BitVec 32 := Scalar.minsi arg0 c287_i32
  let c56_i32 : BitVec 32 := 56#32
  let v1322 : BitVec 32 := Scalar.muli v3 c56_i32
  let c0_i32_6 : BitVec 32 := 0#32
  let c1_i32 : BitVec 32 := 1#32
  let arg16 : BitVec 32 := Scf.iv c0_i32_6 c1_i32 k0_t1
  let c4_i32_574 : BitVec 32 := 4#32
  let v1310 : BitVec 32 := Scalar.muli arg16 c4_i32_574
  let v1311 : BitVec 32 := Scalar.addi v1310 c0_i32_575
  let c2_i32_578 : BitVec 32 := 2#32
  let v1320 : BitVec 32 := Scalar.muli v1311 c2_i32_578
  let v1321 : BitVec 32 := Scalar.addi v1320 c0_i32_579
  let v1323 : BitVec 32 := Scalar.addi v1322 v1321
  let v1324 : Index := Scalar.indexCast v1323
  ![v1324.toNat]
def k0_off6 (k0_t1 : Fin k0_t1_loop.trips) (c0_i32_575 : BitVec 32) : Fin 3 → Nat :=
  let c0_583 : Index := 0#32
  let c0_584 : Index := 0#32
  let c0_i32_6 : BitVec 32 := 0#32
  let c1_i32 : BitVec 32 := 1#32
  let arg16 : BitVec 32 := Scf.iv c0_i32_6 c1_i32 k0_t1
  let c4_i32_574 : BitVec 32 := 4#32
  let v1310 : BitVec 32 := Scalar.muli arg16 c4_i32_574
  let v1311 : BitVec 32 := Scalar.addi v1310 c0_i32_575
  let c256_i32_576 : BitVec 32 := 256#32
  let v1312 : BitVec 32 := Scalar.muli v1311 c256_i32_576
  let v1313 : BitVec 32 := v1312
  let v1347 : Index := Scalar.indexCast v1313
  ![0, 0, v1347.toNat]
def k0_off7 (k0_t1 : Fin k0_t1_loop.trips) (c0_i32_575 : BitVec 32) : Fin 3 → Nat :=
  let c0_i32_6 : BitVec 32 := 0#32
  let c1_i32 : BitVec 32 := 1#32
  let arg16 : BitVec 32 := Scf.iv c0_i32_6 c1_i32 k0_t1
  let c4_i32_574 : BitVec 32 := 4#32
  let v1310 : BitVec 32 := Scalar.muli arg16 c4_i32_574
  let v1311 : BitVec 32 := Scalar.addi v1310 c0_i32_575
  let v1354 : Index := Scalar.indexCast v1311
  let c0_589 : Index := 0#32
  let c0_590 : Index := 0#32
  ![v1354.toNat, 0, 0]
def k0_mult6 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_591 : BitVec 32 := 4#32
  let v1362 : BitVec 32 := Scalar.muli arg16 c4_i32_591
  let c1_i32_592 : BitVec 32 := 1#32
  let v1363 : BitVec 32 := Scalar.addi v1362 c1_i32_592
  let c256_i32_593 : BitVec 32 := 256#32
  let v1364 : BitVec 32 := Scalar.muli v1363 c256_i32_593
  v1364
def k0_mult7 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_609 : BitVec 32 := 4#32
  let v1415 : BitVec 32 := Scalar.muli arg16 c4_i32_609
  let c2_i32_610 : BitVec 32 := 2#32
  let v1416 : BitVec 32 := Scalar.addi v1415 c2_i32_610
  let c256_i32_611 : BitVec 32 := 256#32
  let v1417 : BitVec 32 := Scalar.muli v1416 c256_i32_611
  v1417
def k0_mult8 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c4_i32_627 : BitVec 32 := 4#32
  let v1468 : BitVec 32 := Scalar.muli arg16 c4_i32_627
  let c3_i32_628 : BitVec 32 := 3#32
  let v1469 : BitVec 32 := Scalar.addi v1468 c3_i32_628
  let c256_i32_629 : BitVec 32 := 256#32
  let v1470 : BitVec 32 := Scalar.muli v1469 c256_i32_629
  v1470
def k0_off8 (i : grid0.Coords) : Fin 2 → Nat :=
  let c287_i32_9 : BitVec 32 := 287#32
  let c0_i32_8 : BitVec 32 := 0#32
  let arg0 : BitVec 32 := BitVec.ofNat 32 (i 0).val
  let c2_i32 : BitVec 32 := 2#32
  let v16 : BitVec 32 := Scalar.subi arg0 c2_i32
  let v17 : BitVec 32 := Scalar.maxsi c0_i32_8 v16
  let v18 : BitVec 32 := Scalar.minsi c287_i32_9 v17
  let v20 : Index := Scalar.indexCast v18
  let c0_12 : Index := 0#32
  ![v20.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c287_i32 : BitVec 32 := 287#32
  let v0 : BitVec 32 := Scalar.minsi arg0 c287_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c287_i32 : BitVec 32 := 287#32
  let v0 : BitVec 32 := Scalar.minsi arg0 c287_i32
  let c144_i32 : BitVec 32 := 144#32
  let v1 : BitVec 32 := Scalar.divsi v0 c144_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c144_i32 c0_i32_1
  let v8 : BitVec 32 := Scalar.extui v7
  let c0_i32_2 : BitVec 32 := 0#32
  let v9 : BitVec 1 := Scalar.cmpi .slt c144_i32 c0_i32_2
  let v10 : BitVec 32 := Scalar.extui v9
  let v11 : BitVec 32 := Scalar.subi v8 v10
  let v12 : BitVec 1 := Scalar.cmpi .ne v6 v11
  let v13 : BitVec 32 := Scalar.remsi v0 c144_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c287_i32 : BitVec 32 := 287#32
  let v0 : BitVec 32 := Scalar.minsi arg0 c287_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c287_i32 : BitVec 32 := 287#32
  let v0 : BitVec 32 := Scalar.minsi arg0 c287_i32
  let c144_i32 : BitVec 32 := 144#32
  let c0_i32 : BitVec 32 := 0#32
  let v1 : BitVec 1 := Scalar.cmpi .eq c144_i32 c0_i32
  let c1_i32 : BitVec 32 := 1#32
  let v2 : BitVec 32 := Scalar.select v1 c1_i32 c144_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c287_i32 : BitVec 32 := 287#32
  let v1 : BitVec 32 := Scalar.maxsi c0_i32 v0
  let v2 : BitVec 32 := Scalar.minsi c287_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S288x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x18432x7168 : Shape := ⟨3, ![2, 18432, 7168]⟩
abbrev S2x144x56 : Shape := ⟨3, ![2, 144, 56]⟩
abbrev S2x64x7168 : Shape := ⟨3, ![2, 64, 7168]⟩
abbrev S2x18432x64 : Shape := ⟨3, ![2, 18432, 64]⟩
abbrev S2x18432 : Shape := ⟨2, ![2, 18432]⟩
abbrev S36864x7168 : Shape := ⟨2, ![36864, 7168]⟩
abbrev S288x56 : Shape := ⟨2, ![288, 56]⟩
abbrev S2x144x128x56x128 : Shape := ⟨5, ![2, 144, 128, 56, 128]⟩
abbrev S2x144x1x56x1 : Shape := ⟨5, ![2, 144, 1, 56, 1]⟩
abbrev S2x144x128 : Shape := ⟨3, ![2, 144, 128]⟩
abbrev S2x144x128x1x1 : Shape := ⟨5, ![2, 144, 128, 1, 1]⟩
abbrev S2x144x56x254 : Shape := ⟨4, ![2, 144, 56, 254]⟩
abbrev S2x144x56x1 : Shape := ⟨4, ![2, 144, 56, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x18432x7168, .fp8e4m3⟩
  | .hbm, ⟨1, _⟩ => ⟨S2x144x56, .f32⟩
  | .hbm, ⟨2, _⟩ => ⟨S2x64x7168, .bf16⟩
  | .hbm, ⟨3, _⟩ => ⟨S2x18432x64, .bf16⟩
  | .hbm, ⟨4, _⟩ => ⟨S2x18432, .f32⟩
  | .hbm, ⟨5, _⟩ => ⟨S2x18432x7168, .f32⟩
  | .hbm, ⟨6, _⟩ => ⟨S36864x7168, .fp8e4m3⟩
  | .hbm, ⟨7, _⟩ => ⟨S288x56, .f32⟩
  | .local _ .vmem, ⟨0, _⟩ => ⟨S2x18432x7168, .fp8e4m3⟩
  | .local _ .vmem, ⟨1, _⟩ => ⟨S2x144x56, .f32⟩
  | .local _ .vmem, ⟨2, _⟩ => ⟨S2x18432x7168, .f32⟩
  | .local _ .vmem, ⟨3, _⟩ => ⟨S2x18432, .f32⟩
  | .local _ .vmem, ⟨4, _⟩ => ⟨S36864x7168, .fp8e4m3⟩
  | .local _ .vmem, ⟨5, _⟩ => ⟨S288x56, .f32⟩
  | _, _ => ⟨S2x18432x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x18432x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x144x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x18432x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36864x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KRun.lean ====
/-
  Hand-written, untrusted. The frame of `Kernel` at any float values: the body runs from any contents of its scratch
  and of its output blocks, and leaves its input blocks as they were. Nothing is said here of what it computes.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
set_option maxRecDepth 65536 in
/-- The body from input blocks at any contents, outputs and scratch at anything: the inputs come back as they were. -/
theorem kernelRun (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole)
    (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (Y1 : S16128.Idx → Elt F .f32) (Y2 : S128x7168.Idx → Elt F .fp8e4m3) (Y3 : S1x64x7168.Idx → Elt F .bf16) (Y4 : S128x64.Idx → Elt F .bf16) (Y5 : S2x128.Idx → Elt F .f32) (Y6 : S128x7168.Idx → Elt F .fp8e4m3) (Y7 : S288x56.Idx → Elt F .f32) (K : PUnit → sProp 𝕄) :
    iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ
          (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dora_merge_eq_skeleton]; unfold cc0_dora_merge_skel
  simp only [k0_part1_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, Hk⟩
  by_cases h0 : (Scalar.cmpi .ne (Scalar.extui (Scalar.cmpi .eq (BitVec.ofNat 32 (i 0).val) 0#32 : BitVec 1) : BitVec 32) 0#32 : BitVec 1) = 1#1
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Kernel.Hand

end
-- ==== Proof.KFrame.lean ====
/-
  Hand-written, untrusted. The frame of `Kernel` at any float values, off the body's triple in KRun.lean: the run
  ends, leaves every argument as it was, and every semaphore at zero.
-/
module

public import proofs.«01_k».proof.Proof.KRun
public import proofs.«01_k».proof.Proof.Gen.Kernel.Points
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The region's data: inputs kept, outputs and scratch at anything -/

/-- What the body does to a window's block: inputs (0 to 4) are kept, of the outputs nothing is said. -/
def kept : (w : Fin cfg0.W) → ((cfg0.win w).block.Idx → Elt F (cfg0.win w).elt) → ((cfg0.win w).block.Idx → Elt F (cfg0.win w).elt) → Prop :=
  fun w Y X => w.val < 5 → X = Y

def rdat (c : Dev nD) : RDat τ (Elt F) Unit ℕ (UR sig nD τ) ℕ cfg0 c where
  A w := V m c (Pipeline.arrRef spec0 w)
  after w _ Y X := kept w Y X
  Φ _ := Pipeline.ΦA spec0 c
  q _ := fullShare
  owed _ := 0

set_option backward.isDefEq.respectTransparency.types false in
set_option maxHeartbeats 2000000 in
theorem sound_body (c : Dev nD) (t : Fin cfg0.N) (Y : (w : Fin cfg0.W) → (cfg0.win w).block.Idx → Elt F (cfg0.win w).elt) :
    iprop(Pipeline.ΦA spec0 c ∗ (rdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6))
      ⊢ wp frame (wpE (defs₀ (F := F)) Variants.none c none) Set.univ (bodyAt0 t) (fun _ =>
        iprop(Pipeline.ΦA spec0 c ∗ (rdat m c).owesAt () t.succ ∗ (∃ X, ⌜kept 0 (Y 0) X⌝ ∗ owns (c : Thread nD τ) ((cfg0.win 0).stage (cfg0.slots t 0)) fullShare X) ∗ (∃ X, ⌜kept 1 (Y 1) X⌝ ∗ owns (c : Thread nD τ) ((cfg0.win 1).stage (cfg0.slots t 1)) fullShare X) ∗ (∃ X, ⌜kept 2 (Y 2) X⌝ ∗ owns (c : Thread nD τ) ((cfg0.win 2).stage (cfg0.slots t 2)) fullShare X) ∗ (∃ X, ⌜kept 3 (Y 3) X⌝ ∗ owns (c : Thread nD τ) ((cfg0.win 3).stage (cfg0.slots t 3)) fullShare X) ∗ (∃ X, ⌜kept 4 (Y 4) X⌝ ∗ owns (c : Thread nD τ) ((cfg0.win 4).stage (cfg0.slots t 4)) fullShare X) ∗ (∃ X, ⌜kept 5 (Y 5) X⌝ ∗ owns (c : Thread nD τ) ((cfg0.win 5).stage (cfg0.slots t 5)) fullShare X) ∗ (∃ X, ⌜kept 6 (Y 6) X⌝ ∗ owns (c : Thread nD τ) ((cfg0.win 6).stage (cfg0.slots t 6)) fullShare X))) := by
  unfold bodyAt0
  rw [show (rdat m c).owesAt () t.succ = (rdat m c).owesAt () t.castSucc from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, HO, H0, H1, H2, H3, H4, H5, H6⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]
  · iexists _; rw [owns_whole]; iexact S0
  isplitl [S1]
  · iexists _; rw [owns_whole]; iexact S1
  isplitl [S2]
  · iexists _; rw [owns_whole]; iexact S2
  isplitl [S3]
  · iexists _; rw [owns_whole]; iexact S3
  isplitl [S4]
  · iexists _; rw [owns_whole]; iexact S4
  isplitl [S5]
  · iexists _; rw [owns_whole]; iexact S5
  isplitl [S6]
  · iexists _; rw [owns_whole]; iexact S6
  isplitl [S7]
  · iexists _; rw [owns_whole]; iexact S7
  iintro ⟨H0, H1, H2, H3, H4, ⟨%d5, H5⟩, ⟨%d6, H6⟩, ⟨%u0, S0⟩, ⟨%u1, S1⟩, ⟨%u2, S2⟩, ⟨%u3, S3⟩, ⟨%u4, S4⟩, ⟨%u5, S5⟩, ⟨%u6, S6⟩, ⟨%u7, S7⟩⟩
  isplitl [Hg S0 S1 S2 S3 S4 S5 S6 S7]
  · isplitl [S0 S1 S2 S3 S4 S5 S6 S7]
    · isplitl [S0]; · iexists _; rw [← owns_whole]; iexact S0
      isplitl [S1]; · iexists _; rw [← owns_whole]; iexact S1
      isplitl [S2]; · iexists _; rw [← owns_whole]; iexact S2
      isplitl [S3]; · iexists _; rw [← owns_whole]; iexact S3
      isplitl [S4]; · iexists _; rw [← owns_whole]; iexact S4
      isplitl [S5]; · iexists _; rw [← owns_whole]; iexact S5
      isplitl [S6]; · iexists _; rw [← owns_whole]; iexact S6
      iexists _; rw [← owns_whole]; iexact S7
    · iexact Hg
  isplitl [HO]; · iexact HO
  isplitl [H0]
  · iexists _; isplitr; swap; · iexact H0
    ipureintro; exact fun _ => rfl
  isplitl [H1]
  · iexists _; isplitr; swap; · iexact H1
    ipureintro; exact fun _ => rfl
  isplitl [H2]
  · iexists _; isplitr; swap; · iexact H2
    ipureintro; exact fun _ => rfl
  isplitl [H3]
  · iexists _; isplitr; swap; · iexact H3
    ipureintro; exact fun _ => rfl
  isplitl [H4]
  · iexists _; isplitr; swap; · iexact H4
    ipureintro; exact fun _ => rfl
  isplitl [H5]
  · iexists _; isplitr; swap; · iexact H5
    ipureintro; exact fun h => absurd h (by decide)
  iexists _; isplitr; swap; · iexact H6
  ipureintro; exact fun h => absurd h (by decide)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  exact sound_body m c t Y

/-! ## The launch -/

set_option backward.isDefEq.respectTransparency.types false in
/-- The run of the whole program, over the region's data. -/
theorem run_main : θ_run (Cert.Kernel.defs (F := F)) (onTc (τ := Cert.Kernel.τ) (Cert.Kernel.main (F := F))) ⟨m, fun _ => 0, ρ⟩ (fun r => RDat.FramePost (cfgs 0) (fun c => rdat (F := F) m c) (V m) r ∧ r.2.sem = fun _ => 0) :=
  RDat.θ_run_frame_track cfgs 0 launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl)
    (hin := fun _ => .rfl) (hout := fun _ => .rfl) (Q' := _) (hQ' := fun _ h => h)

/-- Every argument ends as it began, and every semaphore at zero. -/
theorem frame : θ_run (Cert.Kernel.defs (F := F)) (onTc (τ := Cert.Kernel.τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c =>
    ⟨((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      (RDat.FramePost.arr_in hr.1 c 2 rfl).trans (V_main_arg2 m c),
      ((hr.1 c).2 main_arg3 (Pipeline.mem_restRefs_of main_arg3 (by decide) (by decide))).trans (V_main_arg3 m c),
      (RDat.FramePost.arr_in hr.1 c 4 rfl).trans (V_main_arg4 m c)⟩, hr.2⟩) (run_main m ρ)

end Cert.Kernel.Hand

end
-- ==== Proof.IRun.lean ====
/-
  Hand-written, untrusted. The frame of `KernelIdeal` at any float values: the body runs from any contents of its scratch
  and of its output blocks, and leaves its input blocks as they were. Nothing is said here of what it computes.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
set_option maxRecDepth 65536 in
/-- The body from input blocks at any contents, outputs and scratch at anything: the inputs come back as they were. -/
theorem kernelRun (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole)
    (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (Y1 : S16128.Idx → Elt F .f32) (Y2 : S128x7168.Idx → Elt F .fp8e4m3) (Y3 : S1x64x7168.Idx → Elt F .bf16) (Y4 : S128x64.Idx → Elt F .bf16) (Y5 : S2x128.Idx → Elt F .f32) (Y6 : S128x7168.Idx → Elt F .fp8e4m3) (Y7 : S288x56.Idx → Elt F .f32) (K : PUnit → sProp 𝕄) :
    iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ
          (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dora_merge_eq_skeleton]; unfold cc0_dora_merge_skel
  simp only [k0_part1_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, Hk⟩
  by_cases h0 : (Scalar.cmpi .ne (Scalar.extui (Scalar.cmpi .eq (BitVec.ofNat 32 (i 0).val) 0#32 : BitVec 1) : BitVec 32) 0#32 : BitVec 1) = 1#1
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.KernelIdeal.Hand

end
-- ==== Proof.IFrame.lean ====
/-
  Hand-written, untrusted. The frame of `KernelIdeal` at any float values, off the body's triple in KRun.lean: the run
  ends, leaves every argument as it was, and every semaphore at zero.
-/
module

public import proofs.«01_k».proof.Proof.IRun
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The region's data: inputs kept, outputs and scratch at anything -/

/-- What the body does to a window's block: inputs (0 to 4) are kept, of the outputs nothing is said. -/
def kept : (w : Fin cfg0.W) → ((cfg0.win w).block.Idx → Elt F (cfg0.win w).elt) → ((cfg0.win w).block.Idx → Elt F (cfg0.win w).elt) → Prop :=
  fun w Y X => w.val < 5 → X = Y

def rdat (c : Dev nD) : RDat τ (Elt F) Unit ℕ (UR sig nD τ) ℕ cfg0 c where
  A w := V m c (Pipeline.arrRef spec0 w)
  after w _ Y X := kept w Y X
  Φ _ := Pipeline.ΦA spec0 c
  q _ := fullShare
  owed _ := 0

set_option backward.isDefEq.respectTransparency.types false in
set_option maxHeartbeats 2000000 in
theorem sound_body (c : Dev nD) (t : Fin cfg0.N) (Y : (w : Fin cfg0.W) → (cfg0.win w).block.Idx → Elt F (cfg0.win w).elt) :
    iprop(Pipeline.ΦA spec0 c ∗ (rdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6))
      ⊢ wp frame (wpE (defs₀ (F := F)) Variants.none c none) Set.univ (bodyAt0 t) (fun _ =>
        iprop(Pipeline.ΦA spec0 c ∗ (rdat m c).owesAt () t.succ ∗ (∃ X, ⌜kept 0 (Y 0) X⌝ ∗ owns (c : Thread nD τ) ((cfg0.win 0).stage (cfg0.slots t 0)) fullShare X) ∗ (∃ X, ⌜kept 1 (Y 1) X⌝ ∗ owns (c : Thread nD τ) ((cfg0.win 1).stage (cfg0.slots t 1)) fullShare X) ∗ (∃ X, ⌜kept 2 (Y 2) X⌝ ∗ owns (c : Thread nD τ) ((cfg0.win 2).stage (cfg0.slots t 2)) fullShare X) ∗ (∃ X, ⌜kept 3 (Y 3) X⌝ ∗ owns (c : Thread nD τ) ((cfg0.win 3).stage (cfg0.slots t 3)) fullShare X) ∗ (∃ X, ⌜kept 4 (Y 4) X⌝ ∗ owns (c : Thread nD τ) ((cfg0.win 4).stage (cfg0.slots t 4)) fullShare X) ∗ (∃ X, ⌜kept 5 (Y 5) X⌝ ∗ owns (c : Thread nD τ) ((cfg0.win 5).stage (cfg0.slots t 5)) fullShare X) ∗ (∃ X, ⌜kept 6 (Y 6) X⌝ ∗ owns (c : Thread nD τ) ((cfg0.win 6).stage (cfg0.slots t 6)) fullShare X))) := by
  unfold bodyAt0
  rw [show (rdat m c).owesAt () t.succ = (rdat m c).owesAt () t.castSucc from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, HO, H0, H1, H2, H3, H4, H5, H6⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]
  · iexists _; rw [owns_whole]; iexact S0
  isplitl [S1]
  · iexists _; rw [owns_whole]; iexact S1
  isplitl [S2]
  · iexists _; rw [owns_whole]; iexact S2
  isplitl [S3]
  · iexists _; rw [owns_whole]; iexact S3
  isplitl [S4]
  · iexists _; rw [owns_whole]; iexact S4
  isplitl [S5]
  · iexists _; rw [owns_whole]; iexact S5
  isplitl [S6]
  · iexists _; rw [owns_whole]; iexact S6
  isplitl [S7]
  · iexists _; rw [owns_whole]; iexact S7
  iintro ⟨H0, H1, H2, H3, H4, ⟨%d5, H5⟩, ⟨%d6, H6⟩, ⟨%u0, S0⟩, ⟨%u1, S1⟩, ⟨%u2, S2⟩, ⟨%u3, S3⟩, ⟨%u4, S4⟩, ⟨%u5, S5⟩, ⟨%u6, S6⟩, ⟨%u7, S7⟩⟩
  isplitl [Hg S0 S1 S2 S3 S4 S5 S6 S7]
  · isplitl [S0 S1 S2 S3 S4 S5 S6 S7]
    · isplitl [S0]; · iexists _; rw [← owns_whole]; iexact S0
      isplitl [S1]; · iexists _; rw [← owns_whole]; iexact S1
      isplitl [S2]; · iexists _; rw [← owns_whole]; iexact S2
      isplitl [S3]; · iexists _; rw [← owns_whole]; iexact S3
      isplitl [S4]; · iexists _; rw [← owns_whole]; iexact S4
      isplitl [S5]; · iexists _; rw [← owns_whole]; iexact S5
      isplitl [S6]; · iexists _; rw [← owns_whole]; iexact S6
      iexists _; rw [← owns_whole]; iexact S7
    · iexact Hg
  isplitl [HO]; · iexact HO
  isplitl [H0]
  · iexists _; isplitr; swap; · iexact H0
    ipureintro; exact fun _ => rfl
  isplitl [H1]
  · iexists _; isplitr; swap; · iexact H1
    ipureintro; exact fun _ => rfl
  isplitl [H2]
  · iexists _; isplitr; swap; · iexact H2
    ipureintro; exact fun _ => rfl
  isplitl [H3]
  · iexists _; isplitr; swap; · iexact H3
    ipureintro; exact fun _ => rfl
  isplitl [H4]
  · iexists _; isplitr; swap; · iexact H4
    ipureintro; exact fun _ => rfl
  isplitl [H5]
  · iexists _; isplitr; swap; · iexact H5
    ipureintro; exact fun h => absurd h (by decide)
  iexists _; isplitr; swap; · iexact H6
  ipureintro; exact fun h => absurd h (by decide)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  exact sound_body m c t Y

/-! ## The launch -/

set_option backward.isDefEq.respectTransparency.types false in
/-- The run of the whole program, over the region's data. -/
theorem run_main : θ_run (Cert.KernelIdeal.defs (F := F)) (onTc (τ := Cert.KernelIdeal.τ) (Cert.KernelIdeal.main (F := F))) ⟨m, fun _ => 0, ρ⟩ (fun r => RDat.FramePost (cfgs 0) (fun c => rdat (F := F) m c) (V m) r ∧ r.2.sem = fun _ => 0) :=
  RDat.θ_run_frame_track cfgs 0 launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl)
    (hin := fun _ => .rfl) (hout := fun _ => .rfl) (Q' := _) (hQ' := fun _ h => h)

/-- Every argument ends as it began, and every semaphore at zero. -/
theorem frame : θ_run (Cert.KernelIdeal.defs (F := F)) (onTc (τ := Cert.KernelIdeal.τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c =>
    ⟨((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      (RDat.FramePost.arr_in hr.1 c 2 rfl).trans (V_main_arg2 m c),
      ((hr.1 c).2 main_arg3 (Pipeline.mem_restRefs_of main_arg3 (by decide) (by decide))).trans (V_main_arg3 m c),
      (RDat.FramePost.arr_in hr.1 c 4 rfl).trans (V_main_arg4 m c)⟩, hr.2⟩) (run_main m ρ)

end Cert.KernelIdeal.Hand

end
-- ==== Proof.Tile.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Pointwise
public import Idealize.ShloMosaic.Lib.Writes
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

/-! ## Reading arrays by natural-number coordinates -/

/-- The entry of a rank-one array at a natural-number coordinate, zero outside it. -/
def at1 {n0 : ℕ} (X : (⟨1, ![n0]⟩ : Shape).Idx → EReal) (a : ℕ) : EReal :=
  if h : a < n0 then X (ix1 ⟨a, h⟩) else 0

/-- The entry of a rank-two array at natural-number coordinates, zero outside it. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- The entry of a rank-three array at natural-number coordinates, zero outside it. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem at1_ix {n0 : ℕ} (X : (⟨1, ![n0]⟩ : Shape).Idx → EReal) (a : Fin n0) : X (ix1 a) = at1 X a.val := by
  unfold at1; rw [dif_pos a.isLt]

theorem at2_ix {n0 n1 : ℕ} (X : (⟨2, ![n0, n1]⟩ : Shape).Idx → EReal) (a : Fin n0) (b : Fin n1) :
    X (ix2 a b) = at2 X a.val b.val := by
  unfold at2; rw [dif_pos ⟨a.isLt, b.isLt⟩]

theorem at3_ix {n0 n1 n2 : ℕ} (X : (⟨3, ![n0, n1, n2]⟩ : Shape).Idx → EReal) (a : Fin n0) (b : Fin n1) (c : Fin n2) :
    X (ix3 a b c) = at3 X a.val b.val c.val := by
  unfold at3; rw [dif_pos ⟨a.isLt, b.isLt, c.isLt⟩]

theorem at1_idx {n0 : ℕ} (X : (⟨1, ![n0]⟩ : Shape).Idx → EReal) (y : (⟨1, ![n0]⟩ : Shape).Idx) :
    X y = at1 X (y 0).val := by
  conv_lhs => rw [eq_ix1 y]
  exact at1_ix X _

theorem at2_idx {n0 n1 : ℕ} (X : (⟨2, ![n0, n1]⟩ : Shape).Idx → EReal) (y : (⟨2, ![n0, n1]⟩ : Shape).Idx) :
    X y = at2 X (y 0).val (y 1).val := by
  conv_lhs => rw [eq_ix2 y]
  exact at2_ix X _ _

theorem at3_idx {n0 n1 n2 : ℕ} (X : (⟨3, ![n0, n1, n2]⟩ : Shape).Idx → EReal) (y : (⟨3, ![n0, n1, n2]⟩ : Shape).Idx) :
    X y = at3 X (y 0).val (y 1).val (y 2).val := by
  conv_lhs => rw [eq_ix3 y]
  exact at3_ix X _ _ _

/-- A load of part of a rank-one array reads it shifted by the load's offset. -/
theorem ldr1 {n0 m0 : ℕ} (X : (⟨1, ![n0]⟩ : Shape).Idx → EReal) {off : Fin 1 → ℕ} {o0 : ℕ} (h : off = ![o0])
    (inb : ∀ a, off a + (![m0] : Fin 1 → ℕ) a ≤ (![n0] : Fin 1 → ℕ) a) (a : Fin m0) :
    X ((Rect.unit (s := ⟨1, ![n0]⟩) off ![m0] inb).toLoadRect.idx (ix1 a)) = at1 X (o0 + a.val) := by
  subst h
  refine (at1_idx X _).trans ?_
  congr 1
  show o0 + 1 * a.val = _
  omega

/-- A load of part of a rank-two array reads it shifted by the load's offsets. -/
theorem ldr2 {n0 n1 m0 m1 : ℕ} (X : (⟨2, ![n0, n1]⟩ : Shape).Idx → EReal) {off : Fin 2 → ℕ} {o0 o1 : ℕ} (h : off = ![o0, o1])
    (inb : ∀ a, off a + (![m0, m1] : Fin 2 → ℕ) a ≤ (![n0, n1] : Fin 2 → ℕ) a) (a : Fin m0) (b : Fin m1) :
    X ((Rect.unit (s := ⟨2, ![n0, n1]⟩) off ![m0, m1] inb).toLoadRect.idx (ix2 a b)) = at2 X (o0 + a.val) (o1 + b.val) := by
  subst h
  refine (at2_idx X _).trans ?_
  congr 1
  · show o0 + 1 * a.val = _
    omega
  · show o1 + 1 * b.val = _
    omega

/-- A load of part of a rank-three array reads it shifted by the load's offsets. -/
theorem ldr3 {n0 n1 n2 m0 m1 m2 : ℕ} (X : (⟨3, ![n0, n1, n2]⟩ : Shape).Idx → EReal) {off : Fin 3 → ℕ} {o0 o1 o2 : ℕ}
    (h : off = ![o0, o1, o2]) (inb : ∀ a, off a + (![m0, m1, m2] : Fin 3 → ℕ) a ≤ (![n0, n1, n2] : Fin 3 → ℕ) a)
    (a : Fin m0) (b : Fin m1) (c : Fin m2) :
    X ((Rect.unit (s := ⟨3, ![n0, n1, n2]⟩) off ![m0, m1, m2] inb).toLoadRect.idx (ix3 a b c))
      = at3 X (o0 + a.val) (o1 + b.val) (o2 + c.val) := by
  subst h
  refine (at3_idx X _).trans ?_
  congr 1
  · show o0 + 1 * a.val = _
    omega
  · show o1 + 1 * b.val = _
    omega
  · show o2 + 1 * c.val = _
    omega

/-- Pieces that agree with an array, which also agrees with the old contents off the pieces, leave that array. -/
theorem read_writes_eq {sig : RefSig} {κ : Kind} {sp : Space} {s : Shape} {e : EltTy} {Val : EltTy → Type} (v : View sig κ sp s e) (f : v.ty.Contents Val)
    (L : List (View.Piece Val s e)) (G : s.Idx → Val e) (hG : ∀ p ∈ L, ∀ x, p.2 x = G (p.1.emb x))
    (hf : ∀ y, (∀ p ∈ L, y ∉ p.1.set) → v.read Val f y = G y) : v.read Val (v.writes Val f L) = G := by
  funext y
  by_cases h : ∃ p ∈ L, y ∈ p.1.set
  · exact View.read_writes_apply_of_pieces v f G L hG y h
  · push Not at h
    exact (View.read_writes_apply_of_forall_not_mem v f y L h).trans (hf y h)

/-! ## What one trip computes -/

/-- The clamp of the quantised codes. -/
def clamp (x : EReal) : EReal := min (max x (Ideal.ofBits .f32 3286237184#32)) (Ideal.ofBits .f32 1138753536#32)

/-- The right factor of the merged product: the scaled codes, then the adapter rows, then zeros. -/
def rhs (X1 : S16128.Idx → EReal) (X2 : S128x7168.Idx → EReal) (X3 : S1x64x7168.Idx → EReal) (b T x c : ℕ) : EReal :=
  if x < 128 then at2 X2 x (256 * T + c) * at1 X1 (56 * b + 2 * T + c / 128)
  else if x < 192 then at3 X3 0 (x - 128) (256 * T + c) else 0

/-- The merged weight of tile `T` at row `r` and column `c` of the tile. -/
def merged (X1 : S16128.Idx → EReal) (X2 : S128x7168.Idx → EReal) (X3 : S1x64x7168.Idx → EReal) (X8 : S128x256.Idx → EReal)
    (b T r c : ℕ) : EReal := ∑ x : Fin 256, at2 X8 r x.val * rhs X1 X2 X3 b T x.val c

/-- The squares of the two halves of a row of a tile, added lane by lane. -/
def squares (M : ℕ → ℕ → ℕ → EReal) (T r c : ℕ) : EReal := M T r c * M T r c + M T r (c + 128) * M T r (c + 128)

/-- The largest magnitude, over the sixteen row groups, of a half tile times the gain. -/
def amax (X9 : S28x128x256.Idx → EReal) (X12 : S128x128.Idx → EReal) (q s c : ℕ) : EReal :=
  Finset.fold max (Ideal.ofBits .f32 4286578688#32)
    (fun g : Fin 16 => (FloatOps.absf (F := Ideal) (φ := .f32) (at3 X9 (q / 2) (8 * g.val + s) (128 * (q % 2) + c) * at2 X12 (8 * g.val + s) c) : EReal))
    Finset.univ

/-! ### The pieces of a trip, each read at an index -/

theorem piece_q (x x' : S1x128x128.Idx → EReal) (a a' : S1x8x128.Idx → EReal) (X10 : S28x128x256.Idx → EReal) (X14 : S56x8x128.Idx → EReal) (T : ℕ)
    (hx : ∀ r c, x (ix3 0 r c) = at3 X10 T r.val c.val) (hx' : ∀ r c, x' (ix3 0 r c) = at3 X10 T r.val (128 + c.val))
    (ha : ∀ r c, a (ix3 0 r c) = at3 X14 (2 * T) r.val c.val) (ha' : ∀ r c, a' (ix3 0 r c) = at3 X14 (2 * T + 1) r.val c.val)
    (r : Fin 128) (c : Fin 256) :
    k0_pay11 (F := Ideal) (k0_pay9 x a) (k0_pay10 x' a') (ix2 r c)
      = clamp (at3 X10 T r.val c.val * at3 X14 (2 * T + c.val / 128) (r.val % 8) (c.val % 128)) := by
  pointwise [k0_pay11, k0_pay9, k0_pay10]
  unfold clamp
  have hc := c.isLt
  split
  · rename_i h
    rw [hx, ha]; congr 4
    · omega
    · simp only []; omega
  · rename_i h
    rw [hx', ha']; congr 4
    · simp only []; omega
    · omega
    · simp only []; omega

theorem piece_v (x : S1x128x128.Idx → EReal) (g : S128x128.Idx → EReal) (r c : Fin 128) :
    k0_pay22 (F := Ideal) x g (ix3 0 r c) = x (ix3 0 r c) * g (ix2 r c) := by
  pointwise [k0_pay22, k0_pay21]

theorem piece_a (x : S1x128x128.Idx → EReal) (g : S128x128.Idx → EReal) (X9 : S28x128x256.Idx → EReal) (X12 : S128x128.Idx → EReal) (q : ℕ)
    (hx : ∀ r c, x (ix3 0 r c) = at3 X9 (q / 2) r.val (128 * (q % 2) + c.val)) (hg : ∀ r c, g (ix2 r c) = at2 X12 r.val c.val)
    (s : Fin 8) (c : Fin 128) : k0_pay23 (F := Ideal) x g (ix3 0 s c) = amax X9 X12 q s.val c.val := by
  pointwise [k0_pay23, k0_pay21]
  unfold amax
  congr 1
  funext t
  rw [hx, hg]
  have e : t.val * 8 + s.val = 8 * t.val + s.val := by omega
  simp only [e]

theorem piece_m (w : S128x256.Idx → EReal) (s s' : EReal) (a : S1x64x256.Idx → EReal) (l : S128x256.Idx → EReal)
    (X1 : S16128.Idx → EReal) (X2 : S128x7168.Idx → EReal) (X3 : S1x64x7168.Idx → EReal) (X8 : S128x256.Idx → EReal) (b T : ℕ)
    (hw : ∀ r c, w (ix2 r c) = at2 X2 r.val (256 * T + c.val)) (hs : s = at1 X1 (56 * b + 2 * T)) (hs' : s' = at1 X1 (56 * b + 2 * T + 1))
    (ha : ∀ r c, a (ix3 0 r c) = at3 X3 0 r.val (256 * T + c.val)) (hl : ∀ r c, l (ix2 r c) = at2 X8 r.val c.val)
    (r : Fin 128) (c : Fin 256) :
    k0_pay53 (F := Ideal) w s s' a l (ix2 r c) = merged X1 X2 X3 X8 b T r.val c.val := by
  pointwise [k0_pay53]
  unfold merged
  refine Finset.sum_congr rfl fun x _ => ?_
  rw [hl]
  congr 1
  unfold rhs
  have hc := c.isLt
  have hx := x.isLt
  by_cases h1 : x.val < 128
  · rw [dif_pos h1, if_pos h1]
    have e : x.val / 16 * 16 + x.val % 16 = x.val := by omega
    by_cases h2 : c.val < 128
    · rw [dif_pos h2, hw, hs]; congr 2
      · omega
    · rw [dif_neg h2, hw, hs']; congr 2
      · simp only []; omega
      · omega
  · rw [dif_neg h1, if_neg h1]
    by_cases h2 : x.val < 192
    · rw [dif_pos (by omega), if_pos h2, ha]
    · rw [dif_neg (by omega), if_neg h2]

end Cert.KernelIdeal.Hand
end
-- ==== Proof.Trip.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Tile
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

/-! ## Pieces written at a unit rectangle -/

theorem piece2 {n0 n1 m0 m1 : ℕ} (g : ℕ → ℕ → EReal) {off : Fin 2 → ℕ} {o0 o1 : ℕ} (h : off = ![o0, o1])
    (inb : ∀ a, off a + (![m0, m1] : Fin 2 → ℕ) a ≤ (![n0, n1] : Fin 2 → ℕ) a) (P : (⟨2, ![m0, m1]⟩ : Shape).Idx → EReal)
    (hP : ∀ (r : Fin m0) (c : Fin m1), P (ix2 r c) = g (o0 + r.val) (o1 + c.val)) (x : (⟨2, ![m0, m1]⟩ : Shape).Idx) :
    P x = (fun y : (⟨2, ![n0, n1]⟩ : Shape).Idx => g (y 0).val (y 1).val) ((Rect.unit (s := ⟨2, ![n0, n1]⟩) off ![m0, m1] inb).emb x) := by
  subst h
  conv_lhs => rw [eq_ix2 x]
  refine (hP _ _).trans ?_
  show _ = g (o0 + 1 * (x 0).val) (o1 + 1 * (x 1).val)
  rw [one_mul, one_mul]

theorem piece3 {n0 n1 n2 m0 m1 m2 : ℕ} (g : ℕ → ℕ → ℕ → EReal) {off : Fin 3 → ℕ} {o0 o1 o2 : ℕ} (h : off = ![o0, o1, o2])
    (inb : ∀ a, off a + (![m0, m1, m2] : Fin 3 → ℕ) a ≤ (![n0, n1, n2] : Fin 3 → ℕ) a) (P : (⟨3, ![m0, m1, m2]⟩ : Shape).Idx → EReal)
    (hP : ∀ (t : Fin m0) (r : Fin m1) (c : Fin m2), P (ix3 t r c) = g (o0 + t.val) (o1 + r.val) (o2 + c.val))
    (x : (⟨3, ![m0, m1, m2]⟩ : Shape).Idx) :
    P x = (fun y : (⟨3, ![n0, n1, n2]⟩ : Shape).Idx => g (y 0).val (y 1).val (y 2).val)
      ((Rect.unit (s := ⟨3, ![n0, n1, n2]⟩) off ![m0, m1, m2] inb).emb x) := by
  subst h
  conv_lhs => rw [eq_ix3 x]
  refine (hP _ _ _).trans ?_
  show _ = g (o0 + 1 * (x 0).val) (o1 + 1 * (x 1).val) (o2 + 1 * (x 2).val)
  rw [one_mul, one_mul, one_mul]

theorem off2 {n0 n1 m0 m1 : ℕ} {off : Fin 2 → ℕ} {o0 o1 : ℕ} (h : off = ![o0, o1])
    {inb : ∀ a, off a + (![m0, m1] : Fin 2 → ℕ) a ≤ (![n0, n1] : Fin 2 → ℕ) a} {y : (⟨2, ![n0, n1]⟩ : Shape).Idx}
    (hy : y ∉ (Rect.unit (s := ⟨2, ![n0, n1]⟩) off ![m0, m1] inb).set) :
    ¬ ((o0 ≤ (y 0).val ∧ (y 0).val < o0 + m0) ∧ (o1 ≤ (y 1).val ∧ (y 1).val < o1 + m1)) := by
  subst h
  rintro ⟨h0, h1⟩
  refine hy (Rect.mem_set_unit.2 fun a => ?_)
  match a with
  | ⟨0, _⟩ => exact h0
  | ⟨1, _⟩ => exact h1

theorem off3 {n0 n1 n2 m0 m1 m2 : ℕ} {off : Fin 3 → ℕ} {o0 o1 o2 : ℕ} (h : off = ![o0, o1, o2])
    {inb : ∀ a, off a + (![m0, m1, m2] : Fin 3 → ℕ) a ≤ (![n0, n1, n2] : Fin 3 → ℕ) a} {y : (⟨3, ![n0, n1, n2]⟩ : Shape).Idx}
    (hy : y ∉ (Rect.unit (s := ⟨3, ![n0, n1, n2]⟩) off ![m0, m1, m2] inb).set) :
    ¬ ((o0 ≤ (y 0).val ∧ (y 0).val < o0 + m0) ∧ (o1 ≤ (y 1).val ∧ (y 1).val < o1 + m1) ∧ (o2 ≤ (y 2).val ∧ (y 2).val < o2 + m2)) := by
  subst h
  rintro ⟨h0, h1, h2⟩
  refine hy (Rect.mem_set_unit.2 fun a => ?_)
  match a with
  | ⟨0, _⟩ => exact h0
  | ⟨1, _⟩ => exact h1
  | ⟨2, _⟩ => exact h2

theorem inb2 {n0 n1 m0 m1 : ℕ} {off : Fin 2 → ℕ} {o0 o1 : ℕ} (h : off = ![o0, o1]) (h0 : o0 + m0 ≤ n0) (h1 : o1 + m1 ≤ n1) :
    ∀ a, off a + (![m0, m1] : Fin 2 → ℕ) a ≤ (![n0, n1] : Fin 2 → ℕ) a := by
  subst h
  intro a
  match a with
  | ⟨0, _⟩ => exact h0
  | ⟨1, _⟩ => exact h1

theorem inb3 {n0 n1 n2 m0 m1 m2 : ℕ} {off : Fin 3 → ℕ} {o0 o1 o2 : ℕ} (h : off = ![o0, o1, o2]) (h0 : o0 + m0 ≤ n0) (h1 : o1 + m1 ≤ n1)
    (h2 : o2 + m2 ≤ n2) : ∀ a, off a + (![m0, m1, m2] : Fin 3 → ℕ) a ≤ (![n0, n1, n2] : Fin 3 → ℕ) a := by
  subst h
  intro a
  match a with
  | ⟨0, _⟩ => exact h0
  | ⟨1, _⟩ => exact h1
  | ⟨2, _⟩ => exact h2

theorem inb1 {n0 m0 : ℕ} {off : Fin 1 → ℕ} {o0 : ℕ} (h : off = ![o0]) (h0 : o0 + m0 ≤ n0) :
    ∀ a, off a + (![m0] : Fin 1 → ℕ) a ≤ (![n0] : Fin 1 → ℕ) a := by
  subst h
  intro a
  match a with
  | ⟨0, _⟩ => exact h0

/-! ## What one trip leaves in each array it writes -/

/-- The codes of the two-bands-back weights, four tiles of columns at a trip. -/
def step6 (k : ℕ) (X10 : S28x128x256.Idx → EReal) (X14 : S56x8x128.Idx → EReal) (X6 : S128x7168.Idx → EReal) (r c : ℕ) : EReal :=
  if 1024 * k ≤ c ∧ c < 1024 * k + 1024 then
    clamp (at3 X10 (c / 256) r (c % 256) * at3 X14 (c / 128) (r % 8) (c % 128))
  else at2 X6 r c

/-- The merged weights of the band, four tiles at a trip. -/
def step9 (k : ℕ) (M : ℕ → ℕ → ℕ → EReal) (X9 : S28x128x256.Idx → EReal) (t r c : ℕ) : EReal :=
  if 4 * k ≤ t ∧ t < 4 * k + 4 then M t r c else at3 X9 t r c

/-- The previous band's weights times its gain, four tiles at a trip. -/
def step10 (k : ℕ) (X9 : S28x128x256.Idx → EReal) (X12 : S128x128.Idx → EReal) (X10 : S28x128x256.Idx → EReal) (t r c : ℕ) : EReal :=
  if 4 * k ≤ t ∧ t < 4 * k + 4 then at3 X9 t r c * at2 X12 r (c % 128) else at3 X10 t r c

/-- The sums of squares: the trip's four tiles are added to what was there. -/
def step11 (k : ℕ) (M : ℕ → ℕ → ℕ → EReal) (X11 : S128x128.Idx → EReal) (r c : ℕ) : EReal :=
  at2 X11 r c + (squares M (4 * k) r c + squares M (4 * k + 1) r c + squares M (4 * k + 2) r c + squares M (4 * k + 3) r c)

/-- The largest magnitudes of the previous band, eight half tiles at a trip. -/
def step13 (k : ℕ) (X9 : S28x128x256.Idx → EReal) (X12 : S128x128.Idx → EReal) (X13 : S56x8x128.Idx → EReal) (q s c : ℕ) : EReal :=
  if 8 * k ≤ q ∧ q < 8 * k + 8 then amax X9 X12 q s c else at3 X13 q s c

/-! ## The copies of one computation -/

section Copies
variable (x x' : S1x128x128.Idx → EReal) (a a' : S1x8x128.Idx → EReal) (g : S128x128.Idx → EReal)
  (w : S128x256.Idx → EReal) (s s' : EReal) (b : S1x64x256.Idx → EReal) (l : S128x256.Idx → EReal)
theorem q1 : k0_pay14 (F := Ideal) (k0_pay12 x a) (Scalar.ofBits .f32 0x43E00000#32) (k0_pay13 x' a') = k0_pay11 (k0_pay9 x a) (k0_pay10 x' a') := rfl
theorem q2 : k0_pay17 (F := Ideal) (k0_pay15 x a) (k0_pay16 x' a') = k0_pay11 (k0_pay9 x a) (k0_pay10 x' a') := rfl
theorem q3 : k0_pay20 (F := Ideal) (k0_pay18 x a) (k0_pay19 x') a' = k0_pay11 (k0_pay9 x a) (k0_pay10 x' a') := rfl
theorem v1 : k0_pay26 (F := Ideal) (k0_pay24 x) g = k0_pay22 x g := rfl
theorem v2 : k0_pay29 (F := Ideal) x g = k0_pay22 x g := rfl
theorem v3 : k0_pay32 (F := Ideal) x g = k0_pay22 x g := rfl
theorem v4 : k0_pay35 (F := Ideal) x g = k0_pay22 x g := rfl
theorem v5 : k0_pay39 (F := Ideal) x g = k0_pay22 x g := rfl
theorem v6 : k0_pay42 (F := Ideal) x g = k0_pay22 x g := rfl
theorem v7 : k0_pay46 (F := Ideal) x g = k0_pay22 x g := rfl
theorem a1 : k0_pay27 (F := Ideal) (k0_pay24 x) g = k0_pay23 x g := rfl
theorem a2 : k0_pay30 (F := Ideal) x g = k0_pay23 x g := rfl
theorem a3 : k0_pay33 (F := Ideal) x g = k0_pay23 x g := rfl
theorem a4 : k0_pay37 (F := Ideal) (k0_pay36 x g) = k0_pay23 x g := rfl
theorem a5 : k0_pay40 (F := Ideal) x g = k0_pay23 x g := rfl
theorem a6 : k0_pay44 (F := Ideal) (k0_pay43 x g) = k0_pay23 x g := rfl
theorem a7 : k0_pay47 (F := Ideal) x g = k0_pay23 x g := rfl
theorem m0 : k0_pay50 (F := Ideal) (k0_pay48 w) (k0_pay49 w) s s' b l = k0_pay53 w s s' b l := rfl
theorem m2 : k0_pay58 (F := Ideal) (k0_pay57 w s s' b) l = k0_pay53 w s s' b l := rfl
theorem m3 : k0_pay68 (F := Ideal) (k0_pay62 w s) (k0_pay63 w) (k0_pay64 s') b l = k0_pay53 w s s' b l := rfl
theorem n0 : k0_pay51 (F := Ideal) (k0_pay48 w) (k0_pay49 w) s s' b l = k0_pay54 w s s' b l := rfl
theorem n2 : k0_pay59 (F := Ideal) (k0_pay57 w s s' b) l = k0_pay54 w s s' b l := rfl
theorem n3 : k0_pay69 (F := Ideal) (k0_pay62 w s) (k0_pay63 w) (k0_pay64 s') b l = k0_pay54 w s s' b l := rfl

theorem n_apply (t : Fin 1) (r : Fin 128) (c : Fin 256) : k0_pay54 (F := Ideal) w s s' b l (ix3 t r c) = k0_pay53 (F := Ideal) w s s' b l (ix2 r c) := by
  pointwise [k0_pay54]
end Copies

theorem piece_acc (w0 w1 w2 w3 : S128x256.Idx → EReal) (s0 s0' s1 s1' s2 s2' s3 s3' : EReal) (b0 b1 b2 b3 : S1x64x256.Idx → EReal)
    (l : S128x256.Idx → EReal) (z : S128x128.Idx → EReal) (M : ℕ → ℕ → ℕ → EReal) (T : ℕ)
    (h0 : ∀ (r : Fin 128) (c : Fin 256), k0_pay53 (F := Ideal) w0 s0 s0' b0 l (ix2 r c) = M T r.val c.val)
    (h1 : ∀ (r : Fin 128) (c : Fin 256), k0_pay53 (F := Ideal) w1 s1 s1' b1 l (ix2 r c) = M (T + 1) r.val c.val)
    (h2 : ∀ (r : Fin 128) (c : Fin 256), k0_pay53 (F := Ideal) w2 s2 s2' b2 l (ix2 r c) = M (T + 2) r.val c.val)
    (h3 : ∀ (r : Fin 128) (c : Fin 256), k0_pay53 (F := Ideal) w3 s3 s3' b3 l (ix2 r c) = M (T + 3) r.val c.val)
    (r c : Fin 128) :
    k0_pay70 (F := Ideal) (k0_pay60 (k0_pay56 (k0_pay52 (k0_pay48 w0) (k0_pay49 w0) s0 s0' b0 l) (k0_pay55 w1 s1 s1' b1 l)) (k0_pay57 w2 s2 s2' b2) l)
      (k0_pay62 w3 s3) (k0_pay63 w3) (k0_pay64 s3') b3 l z (ix2 r c)
      = z (ix2 r c) + (squares M T r.val c.val + squares M (T + 1) r.val c.val + squares M (T + 2) r.val c.val + squares M (T + 3) r.val c.val) := by
  pointwise [k0_pay70, k0_pay60, k0_pay56, k0_pay55, k0_pay52]
  simp only [m0, m2, m3, h0, h1, h2, h3, squares, Nat.add_comm 128]

/-! ## Loads through a row of a closed form -/

theorem ldt {n0 n1 n2 m1 m2 : ℕ} (X : (⟨3, ![n0, n1, n2]⟩ : Shape).Idx → EReal) {off : Fin 3 → ℕ} {o0 o2 t : ℕ}
    (h : off = ![o0, 0, o2]) (ht : o0 = t) (inb : ∀ a, off a + (![1, m1, m2] : Fin 3 → ℕ) a ≤ (![n0, n1, n2] : Fin 3 → ℕ) a)
    (b : Fin m1) (c : Fin m2) :
    X ((Rect.unit (s := ⟨3, ![n0, n1, n2]⟩) off ![1, m1, m2] inb).toLoadRect.idx (ix3 0 b c)) = at3 X t b.val (o2 + c.val) := by
  subst ht
  refine (ldr3 X h inb 0 b c).trans ?_
  congr 1
  omega

theorem ldt0 {n0 n1 n2 m1 m2 : ℕ} (X : (⟨3, ![n0, n1, n2]⟩ : Shape).Idx → EReal) {off : Fin 3 → ℕ} {o0 t : ℕ}
    (h : off = ![o0, 0, 0]) (ht : o0 = t) (inb : ∀ a, off a + (![1, m1, m2] : Fin 3 → ℕ) a ≤ (![n0, n1, n2] : Fin 3 → ℕ) a)
    (b : Fin m1) (c : Fin m2) :
    X ((Rect.unit (s := ⟨3, ![n0, n1, n2]⟩) off ![1, m1, m2] inb).toLoadRect.idx (ix3 0 b c)) = at3 X t b.val c.val :=
  (ldt X h ht inb b c).trans (by rw [Nat.zero_add])

theorem ldc {n0 n1 m0 m1 : ℕ} (X : (⟨2, ![n0, n1]⟩ : Shape).Idx → EReal) {off : Fin 2 → ℕ} {o1 t : ℕ}
    (h : off = ![0, o1]) (ht : o1 = t) (inb : ∀ a, off a + (![m0, m1] : Fin 2 → ℕ) a ≤ (![n0, n1] : Fin 2 → ℕ) a)
    (b : Fin m0) (c : Fin m1) :
    X ((Rect.unit (s := ⟨2, ![n0, n1]⟩) off ![m0, m1] inb).toLoadRect.idx (ix2 b c)) = at2 X b.val (t + c.val) := by
  subst ht
  refine (ldr2 X h inb b c).trans ?_
  rw [Nat.zero_add]

theorem ldw {n0 n1 m0 m1 : ℕ} (X : (⟨2, ![n0, n1]⟩ : Shape).Idx → EReal) {off : Fin 2 → ℕ}
    (h : off = ![0, 0]) (inb : ∀ a, off a + (![m0, m1] : Fin 2 → ℕ) a ≤ (![n0, n1] : Fin 2 → ℕ) a)
    (b : Fin m0) (c : Fin m1) :
    X ((Rect.unit (s := ⟨2, ![n0, n1]⟩) off ![m0, m1] inb).toLoadRect.idx (ix2 b c)) = at2 X b.val c.val :=
  (ldc X h rfl inb b c).trans (by rw [Nat.zero_add])

theorem lds {n0 : ℕ} (X : (⟨1, ![n0]⟩ : Shape).Idx → EReal) {off : Fin 1 → ℕ} {o0 t : ℕ} (h : off = ![o0]) (ht : o0 = t)
    (inb : ∀ a, off a + (![1] : Fin 1 → ℕ) a ≤ (![n0] : Fin 1 → ℕ) a) (y : (⟨1, ![1]⟩ : Shape).Idx) :
    X ((Rect.unit (s := ⟨1, ![n0]⟩) off ![1] inb).toLoadRect.idx y) = at1 X t := by
  subst ht
  conv_lhs => rw [eq_ix1 y]
  refine (ldr1 X h inb (y 0)).trans ?_
  congr 1
  have : (y 0).val < 1 := (y 0).isLt
  omega

theorem step6_at {k j : ℕ} (hj : j < 4) (X10 : S28x128x256.Idx → EReal) (X14 : S56x8x128.Idx → EReal) (X6 : S128x7168.Idx → EReal) (r : ℕ) (c : Fin 256) :
    clamp (at3 X10 (4 * k + j) r c.val * at3 X14 (2 * (4 * k + j) + c.val / 128) (r % 8) (c.val % 128))
      = step6 k X10 X14 X6 (0 + r) (1024 * k + 256 * j + c.val) := by
  have := c.isLt
  unfold step6
  rw [if_pos (by omega), Nat.zero_add]
  have e1 : (1024 * k + 256 * j + c.val) / 256 = 4 * k + j := by omega
  have e2 : (1024 * k + 256 * j + c.val) % 256 = c.val := by omega
  have e3 : (1024 * k + 256 * j + c.val) / 128 = 2 * (4 * k + j) + c.val / 128 := by omega
  have e4 : (1024 * k + 256 * j + c.val) % 128 = c.val % 128 := by omega
  rw [e1, e2, e3, e4]

theorem step9_at {k j : ℕ} (hj : j < 4) (M : ℕ → ℕ → ℕ → EReal) (X9 : S28x128x256.Idx → EReal) (t : Fin 1) (r c : ℕ) :
    M (4 * k + j) r c = step9 k M X9 (4 * k + j + t.val) (0 + r) (0 + c) := by
  have := t.isLt
  unfold step9
  rw [if_pos (by omega), Nat.zero_add, Nat.zero_add, show 4 * k + j + t.val = 4 * k + j by omega]

theorem step10_at {k j h : ℕ} (hj : j < 4) (hh : h < 2) (X9 : S28x128x256.Idx → EReal) (X12 : S128x128.Idx → EReal) (X10 : S28x128x256.Idx → EReal)
    (t : Fin 1) (r : ℕ) (c : Fin 128) :
    at3 X9 (4 * k + j) r (128 * h + c.val) * at2 X12 r c.val = step10 k X9 X12 X10 (4 * k + j + t.val) (0 + r) (128 * h + c.val) := by
  have := t.isLt
  have := c.isLt
  unfold step10
  rw [if_pos (by omega), Nat.zero_add, show 4 * k + j + t.val = 4 * k + j by omega, show (128 * h + c.val) % 128 = c.val by omega]

theorem step13_at {k q : ℕ} (hj : q < 8) (X9 : S28x128x256.Idx → EReal) (X12 : S128x128.Idx → EReal) (X13 : S56x8x128.Idx → EReal)
    (t : Fin 1) (s c : ℕ) :
    amax X9 X12 (8 * k + q) s c = step13 k X9 X12 X13 (8 * k + q + t.val) (0 + s) (0 + c) := by
  have := t.isLt
  unfold step13
  rw [if_pos (by omega), Nat.zero_add, Nat.zero_add, show 8 * k + q + t.val = 8 * k + q by omega]

theorem ldq {n0 n1 n2 m1 m2 : ℕ} (X : (⟨3, ![n0, n1, n2]⟩ : Shape).Idx → EReal) {off : Fin 3 → ℕ} {o0 o2 t u : ℕ}
    (h : off = ![o0, 0, o2]) (ht : o0 = t) (hu : o2 = u) (inb : ∀ a, off a + (![1, m1, m2] : Fin 3 → ℕ) a ≤ (![n0, n1, n2] : Fin 3 → ℕ) a)
    (b : Fin m1) (c : Fin m2) :
    X ((Rect.unit (s := ⟨3, ![n0, n1, n2]⟩) off ![1, m1, m2] inb).toLoadRect.idx (ix3 0 b c)) = at3 X t b.val (u + c.val) := by
  subst hu
  exact ldt X h ht inb b c

theorem fin1 {n m : ℕ} (t : Fin 1) (r : Fin n) (c : Fin m) : (ix3 t r c : (⟨3, ![1, n, m]⟩ : Shape).Idx) = ix3 0 r c := by
  rw [Fin.fin_one_eq_zero t]

/-! ## One trip of the loop -/

set_option maxHeartbeats 8000000 in
set_option maxRecDepth 65536 in
/-- One trip of the loop, from arrays at any contents: what each array it writes holds afterwards. -/
theorem trip (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (vv : BitVec 32) (k : Fin k0_t1_loop.trips) (Y1 : S16128.Idx → EReal) (Y2 : S128x7168.Idx → EReal) (Y3 : S1x64x7168.Idx → EReal) (Y8 : S128x256.Idx → EReal) (Y12 : S128x128.Idx → EReal) (Y14 : S56x8x128.Idx → EReal) (Y6 : S128x7168.Idx → EReal) (Y9 : S28x128x256.Idx → EReal) (Y10 : S28x128x256.Idx → EReal) (Y11 : S128x128.Idx → EReal) (Y13 : S56x8x128.Idx → EReal) :
    (iprop(owns (c : Thread nD τ) arg1 fullShare Y1 ∗ owns (c : Thread nD τ) arg2 fullShare Y2 ∗ owns (c : Thread nD τ) arg3 fullShare Y3 ∗ owns (c : Thread nD τ) arg8 fullShare Y8 ∗ owns (c : Thread nD τ) arg12 fullShare Y12 ∗ owns (c : Thread nD τ) arg14 fullShare Y14 ∗ owns (c : Thread nD τ) arg6 fullShare Y6 ∗ owns (c : Thread nD τ) arg9 fullShare Y9 ∗ owns (c : Thread nD τ) arg10 fullShare Y10 ∗ owns (c : Thread nD τ) arg11 fullShare Y11 ∗ owns (c : Thread nD τ) arg13 fullShare Y13) : sProp (MT nD τ sig Unit (Elt Ideal) ℕ (UR sig nD τ) ℕ)) ⊢ wp frame (wpE (defs₀ (F := Ideal)) Variants.none c none) Set.univ
          (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 vv k PUnit.unit) (fun _ => iprop(owns (c : Thread nD τ) arg1 fullShare Y1 ∗ owns (c : Thread nD τ) arg2 fullShare Y2 ∗ owns (c : Thread nD τ) arg3 fullShare Y3 ∗ owns (c : Thread nD τ) arg8 fullShare Y8 ∗ owns (c : Thread nD τ) arg12 fullShare Y12 ∗ owns (c : Thread nD τ) arg14 fullShare Y14 ∗ owns (c : Thread nD τ) arg6 fullShare (fun y => step6 k.val Y10 Y14 Y6 (y 0).val (y 1).val) ∗ owns (c : Thread nD τ) arg9 fullShare (fun y => step9 k.val (merged Y1 Y2 Y3 Y8 (min (i 0).val 287)) Y9 (y 0).val (y 1).val (y 2).val) ∗ owns (c : Thread nD τ) arg10 fullShare (fun y => step10 k.val Y9 Y12 Y10 (y 0).val (y 1).val (y 2).val) ∗ owns (c : Thread nD τ) arg11 fullShare (fun y => step11 k.val (merged Y1 Y2 Y3 Y8 (min (i 0).val 287)) Y11 (y 0).val (y 1).val) ∗ owns (c : Thread nD τ) arg13 fullShare (fun y => step13 k.val Y9 Y12 Y13 (y 0).val (y 1).val (y 2).val))) := by
  have hk : k.val < 7 := Nat.lt_of_lt_of_le k.isLt k0_t1_abs.2.1
  have o1_0 : k0_off1 k 0#32 = ![4 * k.val + 0, 0, 0] := k0_off1_eq k 0
  have o3_0 : k0_off3 k 0#32 = ![4 * k.val + 0, 0, 128] := k0_off3_eq k 0
  have o4_0 : k0_off4 k 0#32 = ![0, 1024 * k.val + 256 * 0] := k0_off4_eq k 0
  have o6_0 : k0_off6 k 0#32 = ![0, 0, 1024 * k.val + 256 * 0] := k0_off6_eq k 0
  have o7_0 : k0_off7 k 0#32 = ![4 * k.val + 0, 0, 0] := k0_off7_eq k 0
  have o2_00 : k0_off2 k 0#32 0#32 = ![8 * k.val + 0, 0, 0] := k0_off2_eq k 0 0
  have o5_00 : k0_off5 i k 0#32 0#32 = ![56 * min (i 0).val 287 + 8 * k.val + 0] := k0_off5_eq i k 0 0
  have o2_01 : k0_off2 k 0#32 1#32 = ![8 * k.val + 1, 0, 0] := k0_off2_eq k 0 1
  have o5_01 : k0_off5 i k 0#32 1#32 = ![56 * min (i 0).val 287 + 8 * k.val + 1] := k0_off5_eq i k 0 1
  have o1_1 : k0_off1 k 1#32 = ![4 * k.val + 1, 0, 0] := k0_off1_eq k 1
  have o3_1 : k0_off3 k 1#32 = ![4 * k.val + 1, 0, 128] := k0_off3_eq k 1
  have o4_1 : k0_off4 k 1#32 = ![0, 1024 * k.val + 256 * 1] := k0_off4_eq k 1
  have o6_1 : k0_off6 k 1#32 = ![0, 0, 1024 * k.val + 256 * 1] := k0_off6_eq k 1
  have o7_1 : k0_off7 k 1#32 = ![4 * k.val + 1, 0, 0] := k0_off7_eq k 1
  have o2_10 : k0_off2 k 1#32 0#32 = ![8 * k.val + 2, 0, 0] := k0_off2_eq k 1 0
  have o5_10 : k0_off5 i k 1#32 0#32 = ![56 * min (i 0).val 287 + 8 * k.val + 2] := k0_off5_eq i k 1 0
  have o2_11 : k0_off2 k 1#32 1#32 = ![8 * k.val + 3, 0, 0] := k0_off2_eq k 1 1
  have o5_11 : k0_off5 i k 1#32 1#32 = ![56 * min (i 0).val 287 + 8 * k.val + 3] := k0_off5_eq i k 1 1
  have o1_2 : k0_off1 k 2#32 = ![4 * k.val + 2, 0, 0] := k0_off1_eq k 2
  have o3_2 : k0_off3 k 2#32 = ![4 * k.val + 2, 0, 128] := k0_off3_eq k 2
  have o4_2 : k0_off4 k 2#32 = ![0, 1024 * k.val + 256 * 2] := k0_off4_eq k 2
  have o6_2 : k0_off6 k 2#32 = ![0, 0, 1024 * k.val + 256 * 2] := k0_off6_eq k 2
  have o7_2 : k0_off7 k 2#32 = ![4 * k.val + 2, 0, 0] := k0_off7_eq k 2
  have o2_20 : k0_off2 k 2#32 0#32 = ![8 * k.val + 4, 0, 0] := k0_off2_eq k 2 0
  have o5_20 : k0_off5 i k 2#32 0#32 = ![56 * min (i 0).val 287 + 8 * k.val + 4] := k0_off5_eq i k 2 0
  have o2_21 : k0_off2 k 2#32 1#32 = ![8 * k.val + 5, 0, 0] := k0_off2_eq k 2 1
  have o5_21 : k0_off5 i k 2#32 1#32 = ![56 * min (i 0).val 287 + 8 * k.val + 5] := k0_off5_eq i k 2 1
  have o1_3 : k0_off1 k 3#32 = ![4 * k.val + 3, 0, 0] := k0_off1_eq k 3
  have o3_3 : k0_off3 k 3#32 = ![4 * k.val + 3, 0, 128] := k0_off3_eq k 3
  have o4_3 : k0_off4 k 3#32 = ![0, 1024 * k.val + 256 * 3] := k0_off4_eq k 3
  have o6_3 : k0_off6 k 3#32 = ![0, 0, 1024 * k.val + 256 * 3] := k0_off6_eq k 3
  have o7_3 : k0_off7 k 3#32 = ![4 * k.val + 3, 0, 0] := k0_off7_eq k 3
  have o2_30 : k0_off2 k 3#32 0#32 = ![8 * k.val + 6, 0, 0] := k0_off2_eq k 3 0
  have o5_30 : k0_off5 i k 3#32 0#32 = ![56 * min (i 0).val 287 + 8 * k.val + 6] := k0_off5_eq i k 3 0
  have o2_31 : k0_off2 k 3#32 1#32 = ![8 * k.val + 7, 0, 0] := k0_off2_eq k 3 1
  have o5_31 : k0_off5 i k 3#32 1#32 = ![56 * min (i 0).val 287 + 8 * k.val + 7] := k0_off5_eq i k 3 1
  have i1_0 : ∀ a, k0_off1 k 0#32 a + (![1, 128, 128] : Fin 3 → ℕ) a ≤ (![28, 128, 256] : Fin 3 → ℕ) a := inb3 o1_0 (by omega) (by omega) (by omega)
  have i3_0 : ∀ a, k0_off3 k 0#32 a + (![1, 128, 128] : Fin 3 → ℕ) a ≤ (![28, 128, 256] : Fin 3 → ℕ) a := inb3 o3_0 (by omega) (by omega) (by omega)
  have i7_0 : ∀ a, k0_off7 k 0#32 a + (![1, 128, 256] : Fin 3 → ℕ) a ≤ (![28, 128, 256] : Fin 3 → ℕ) a := inb3 o7_0 (by omega) (by omega) (by omega)
  have i6_0 : ∀ a, k0_off6 k 0#32 a + (![1, 64, 256] : Fin 3 → ℕ) a ≤ (![1, 64, 7168] : Fin 3 → ℕ) a := inb3 o6_0 (by omega) (by omega) (by omega)
  have i4_0 : ∀ a, k0_off4 k 0#32 a + (![128, 256] : Fin 2 → ℕ) a ≤ (![128, 7168] : Fin 2 → ℕ) a := inb2 o4_0 (by omega) (by omega)
  have i2_00 : ∀ a, k0_off2 k 0#32 0#32 a + (![1, 8, 128] : Fin 3 → ℕ) a ≤ (![56, 8, 128] : Fin 3 → ℕ) a := inb3 o2_00 (by omega) (by omega) (by omega)
  have i5_00 : ∀ a, k0_off5 i k 0#32 0#32 a + (![1] : Fin 1 → ℕ) a ≤ (![16128] : Fin 1 → ℕ) a := inb1 o5_00 (by omega)
  have i2_01 : ∀ a, k0_off2 k 0#32 1#32 a + (![1, 8, 128] : Fin 3 → ℕ) a ≤ (![56, 8, 128] : Fin 3 → ℕ) a := inb3 o2_01 (by omega) (by omega) (by omega)
  have i5_01 : ∀ a, k0_off5 i k 0#32 1#32 a + (![1] : Fin 1 → ℕ) a ≤ (![16128] : Fin 1 → ℕ) a := inb1 o5_01 (by omega)
  have i1_1 : ∀ a, k0_off1 k 1#32 a + (![1, 128, 128] : Fin 3 → ℕ) a ≤ (![28, 128, 256] : Fin 3 → ℕ) a := inb3 o1_1 (by omega) (by omega) (by omega)
  have i3_1 : ∀ a, k0_off3 k 1#32 a + (![1, 128, 128] : Fin 3 → ℕ) a ≤ (![28, 128, 256] : Fin 3 → ℕ) a := inb3 o3_1 (by omega) (by omega) (by omega)
  have i7_1 : ∀ a, k0_off7 k 1#32 a + (![1, 128, 256] : Fin 3 → ℕ) a ≤ (![28, 128, 256] : Fin 3 → ℕ) a := inb3 o7_1 (by omega) (by omega) (by omega)
  have i6_1 : ∀ a, k0_off6 k 1#32 a + (![1, 64, 256] : Fin 3 → ℕ) a ≤ (![1, 64, 7168] : Fin 3 → ℕ) a := inb3 o6_1 (by omega) (by omega) (by omega)
  have i4_1 : ∀ a, k0_off4 k 1#32 a + (![128, 256] : Fin 2 → ℕ) a ≤ (![128, 7168] : Fin 2 → ℕ) a := inb2 o4_1 (by omega) (by omega)
  have i2_10 : ∀ a, k0_off2 k 1#32 0#32 a + (![1, 8, 128] : Fin 3 → ℕ) a ≤ (![56, 8, 128] : Fin 3 → ℕ) a := inb3 o2_10 (by omega) (by omega) (by omega)
  have i5_10 : ∀ a, k0_off5 i k 1#32 0#32 a + (![1] : Fin 1 → ℕ) a ≤ (![16128] : Fin 1 → ℕ) a := inb1 o5_10 (by omega)
  have i2_11 : ∀ a, k0_off2 k 1#32 1#32 a + (![1, 8, 128] : Fin 3 → ℕ) a ≤ (![56, 8, 128] : Fin 3 → ℕ) a := inb3 o2_11 (by omega) (by omega) (by omega)
  have i5_11 : ∀ a, k0_off5 i k 1#32 1#32 a + (![1] : Fin 1 → ℕ) a ≤ (![16128] : Fin 1 → ℕ) a := inb1 o5_11 (by omega)
  have i1_2 : ∀ a, k0_off1 k 2#32 a + (![1, 128, 128] : Fin 3 → ℕ) a ≤ (![28, 128, 256] : Fin 3 → ℕ) a := inb3 o1_2 (by omega) (by omega) (by omega)
  have i3_2 : ∀ a, k0_off3 k 2#32 a + (![1, 128, 128] : Fin 3 → ℕ) a ≤ (![28, 128, 256] : Fin 3 → ℕ) a := inb3 o3_2 (by omega) (by omega) (by omega)
  have i7_2 : ∀ a, k0_off7 k 2#32 a + (![1, 128, 256] : Fin 3 → ℕ) a ≤ (![28, 128, 256] : Fin 3 → ℕ) a := inb3 o7_2 (by omega) (by omega) (by omega)
  have i6_2 : ∀ a, k0_off6 k 2#32 a + (![1, 64, 256] : Fin 3 → ℕ) a ≤ (![1, 64, 7168] : Fin 3 → ℕ) a := inb3 o6_2 (by omega) (by omega) (by omega)
  have i4_2 : ∀ a, k0_off4 k 2#32 a + (![128, 256] : Fin 2 → ℕ) a ≤ (![128, 7168] : Fin 2 → ℕ) a := inb2 o4_2 (by omega) (by omega)
  have i2_20 : ∀ a, k0_off2 k 2#32 0#32 a + (![1, 8, 128] : Fin 3 → ℕ) a ≤ (![56, 8, 128] : Fin 3 → ℕ) a := inb3 o2_20 (by omega) (by omega) (by omega)
  have i5_20 : ∀ a, k0_off5 i k 2#32 0#32 a + (![1] : Fin 1 → ℕ) a ≤ (![16128] : Fin 1 → ℕ) a := inb1 o5_20 (by omega)
  have i2_21 : ∀ a, k0_off2 k 2#32 1#32 a + (![1, 8, 128] : Fin 3 → ℕ) a ≤ (![56, 8, 128] : Fin 3 → ℕ) a := inb3 o2_21 (by omega) (by omega) (by omega)
  have i5_21 : ∀ a, k0_off5 i k 2#32 1#32 a + (![1] : Fin 1 → ℕ) a ≤ (![16128] : Fin 1 → ℕ) a := inb1 o5_21 (by omega)
  have i1_3 : ∀ a, k0_off1 k 3#32 a + (![1, 128, 128] : Fin 3 → ℕ) a ≤ (![28, 128, 256] : Fin 3 → ℕ) a := inb3 o1_3 (by omega) (by omega) (by omega)
  have i3_3 : ∀ a, k0_off3 k 3#32 a + (![1, 128, 128] : Fin 3 → ℕ) a ≤ (![28, 128, 256] : Fin 3 → ℕ) a := inb3 o3_3 (by omega) (by omega) (by omega)
  have i7_3 : ∀ a, k0_off7 k 3#32 a + (![1, 128, 256] : Fin 3 → ℕ) a ≤ (![28, 128, 256] : Fin 3 → ℕ) a := inb3 o7_3 (by omega) (by omega) (by omega)
  have i6_3 : ∀ a, k0_off6 k 3#32 a + (![1, 64, 256] : Fin 3 → ℕ) a ≤ (![1, 64, 7168] : Fin 3 → ℕ) a := inb3 o6_3 (by omega) (by omega) (by omega)
  have i4_3 : ∀ a, k0_off4 k 3#32 a + (![128, 256] : Fin 2 → ℕ) a ≤ (![128, 7168] : Fin 2 → ℕ) a := inb2 o4_3 (by omega) (by omega)
  have i2_30 : ∀ a, k0_off2 k 3#32 0#32 a + (![1, 8, 128] : Fin 3 → ℕ) a ≤ (![56, 8, 128] : Fin 3 → ℕ) a := inb3 o2_30 (by omega) (by omega) (by omega)
  have i5_30 : ∀ a, k0_off5 i k 3#32 0#32 a + (![1] : Fin 1 → ℕ) a ≤ (![16128] : Fin 1 → ℕ) a := inb1 o5_30 (by omega)
  have i2_31 : ∀ a, k0_off2 k 3#32 1#32 a + (![1, 8, 128] : Fin 3 → ℕ) a ≤ (![56, 8, 128] : Fin 3 → ℕ) a := inb3 o2_31 (by omega) (by omega) (by omega)
  have i5_31 : ∀ a, k0_off5 i k 3#32 1#32 a + (![1] : Fin 1 → ℕ) a ≤ (![16128] : Fin 1 → ℕ) a := inb1 o5_31 (by omega)
  have o6_0' : k0_off6 k 0#32 = ![0, 0, 256 * (4 * k.val + 0)] := o6_0.trans (by rw [show 1024 * k.val + 256 * 0 = 256 * (4 * k.val + 0) by omega])
  have o6_1' : k0_off6 k 1#32 = ![0, 0, 256 * (4 * k.val + 1)] := o6_1.trans (by rw [show 1024 * k.val + 256 * 1 = 256 * (4 * k.val + 1) by omega])
  have o6_2' : k0_off6 k 2#32 = ![0, 0, 256 * (4 * k.val + 2)] := o6_2.trans (by rw [show 1024 * k.val + 256 * 2 = 256 * (4 * k.val + 2) by omega])
  have o6_3' : k0_off6 k 3#32 = ![0, 0, 256 * (4 * k.val + 3)] := o6_3.trans (by rw [show 1024 * k.val + 256 * 3 = 256 * (4 * k.val + 3) by omega])
  have o1_0' : k0_off1 k 0#32 = ![4 * k.val + 0, 0, 128 * 0] := o1_0
  have o3_0' : k0_off3 k 0#32 = ![4 * k.val + 0, 0, 128 * 1] := o3_0
  have o1_1' : k0_off1 k 1#32 = ![4 * k.val + 1, 0, 128 * 0] := o1_1
  have o3_1' : k0_off3 k 1#32 = ![4 * k.val + 1, 0, 128 * 1] := o3_1
  have o1_2' : k0_off1 k 2#32 = ![4 * k.val + 2, 0, 128 * 0] := o1_2
  have o3_2' : k0_off3 k 2#32 = ![4 * k.val + 2, 0, 128 * 1] := o3_2
  have o1_3' : k0_off1 k 3#32 = ![4 * k.val + 3, 0, 128 * 0] := o1_3
  have o3_3' : k0_off3 k 3#32 = ![4 * k.val + 3, 0, 128 * 1] := o3_3
  unfold owns k0_t1_body
  iintro ⟨⟨%f1, %e1, H1⟩, ⟨%f2, %e2, H2⟩, ⟨%f3, %e3, H3⟩, ⟨%f8, %e8, H8⟩, ⟨%f12, %e12, H12⟩, ⟨%f14, %e14, H14⟩, ⟨%f6, %e6, H6⟩, ⟨%f9, %e9, H9⟩, ⟨%f10, %e10, H10⟩, ⟨%f11, %e11, H11⟩, ⟨%f13, %e13, H13⟩⟩
  obtain rfl := e1
  obtain rfl := e2
  obtain rfl := e3
  obtain rfl := e8
  obtain rfl := e12
  obtain rfl := e14
  obtain rfl := e6
  obtain rfl := e9
  obtain rfl := e10
  obtain rfl := e11
  obtain rfl := e13
  sl_exec
  sl_step
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H8]
  · iexists _; isplitr; swap; · iexact H8
    ipureintro; rfl
  isplitl [H12]
  · iexists _; isplitr; swap; · iexact H12
    ipureintro; rfl
  isplitl [H14]
  · iexists _; isplitr; swap; · iexact H14
    ipureintro; rfl
  isplitl [H6]
  · iexists _; isplitr; swap; · iexact H6
    ipureintro
    refine read_writes_eq _ _ _ _ (List.forall_mem_cons.2 ⟨?_, List.forall_mem_cons.2 ⟨?_, List.forall_mem_cons.2 ⟨?_, List.forall_mem_cons.2 ⟨?_, fun _ h => absurd h List.not_mem_nil⟩⟩⟩⟩) ?_
    · exact piece2 (step6 k.val (arg10.view.read (Elt Ideal) f10) (arg14.view.read (Elt Ideal) f14) (arg6.view.read (Elt Ideal) f6)) o4_3 i4_3 _ fun r c => (congrFun (q3 _ _ _ _) _).trans <| (piece_q _ _ _ _ (arg10.view.read (Elt Ideal) f10) (arg14.view.read (Elt Ideal) f14) (4 * k.val + 3) (ldt0 (arg10.view.read (Elt Ideal) f10) o1_3 rfl i1_3) (ldt (arg10.view.read (Elt Ideal) f10) o3_3 rfl i3_3) (ldt0 (arg14.view.read (Elt Ideal) f14) o2_30 (by omega) i2_30) (ldt0 (arg14.view.read (Elt Ideal) f14) o2_31 (by omega) i2_31) r c).trans (step6_at (by omega) _ _ _ _ _)
    · exact piece2 (step6 k.val (arg10.view.read (Elt Ideal) f10) (arg14.view.read (Elt Ideal) f14) (arg6.view.read (Elt Ideal) f6)) o4_2 i4_2 _ fun r c => (congrFun (q2 _ _ _ _) _).trans <| (piece_q _ _ _ _ (arg10.view.read (Elt Ideal) f10) (arg14.view.read (Elt Ideal) f14) (4 * k.val + 2) (ldt0 (arg10.view.read (Elt Ideal) f10) o1_2 rfl i1_2) (ldt (arg10.view.read (Elt Ideal) f10) o3_2 rfl i3_2) (ldt0 (arg14.view.read (Elt Ideal) f14) o2_20 (by omega) i2_20) (ldt0 (arg14.view.read (Elt Ideal) f14) o2_21 (by omega) i2_21) r c).trans (step6_at (by omega) _ _ _ _ _)
    · exact piece2 (step6 k.val (arg10.view.read (Elt Ideal) f10) (arg14.view.read (Elt Ideal) f14) (arg6.view.read (Elt Ideal) f6)) o4_1 i4_1 _ fun r c => (congrFun (q1 _ _ _ _) _).trans <| (piece_q _ _ _ _ (arg10.view.read (Elt Ideal) f10) (arg14.view.read (Elt Ideal) f14) (4 * k.val + 1) (ldt0 (arg10.view.read (Elt Ideal) f10) o1_1 rfl i1_1) (ldt (arg10.view.read (Elt Ideal) f10) o3_1 rfl i3_1) (ldt0 (arg14.view.read (Elt Ideal) f14) o2_10 (by omega) i2_10) (ldt0 (arg14.view.read (Elt Ideal) f14) o2_11 (by omega) i2_11) r c).trans (step6_at (by omega) _ _ _ _ _)
    · exact piece2 (step6 k.val (arg10.view.read (Elt Ideal) f10) (arg14.view.read (Elt Ideal) f14) (arg6.view.read (Elt Ideal) f6)) o4_0 i4_0 _ fun r c => (piece_q _ _ _ _ (arg10.view.read (Elt Ideal) f10) (arg14.view.read (Elt Ideal) f14) (4 * k.val + 0) (ldt0 (arg10.view.read (Elt Ideal) f10) o1_0 rfl i1_0) (ldt (arg10.view.read (Elt Ideal) f10) o3_0 rfl i3_0) (ldt0 (arg14.view.read (Elt Ideal) f14) o2_00 (by omega) i2_00) (ldt0 (arg14.view.read (Elt Ideal) f14) o2_01 (by omega) i2_01) r c).trans (step6_at (by omega) _ _ _ _ _)
    · intro y hy
      obtain ⟨n0, hy⟩ := List.forall_mem_cons.1 hy
      obtain ⟨n1, hy⟩ := List.forall_mem_cons.1 hy
      obtain ⟨n2, hy⟩ := List.forall_mem_cons.1 hy
      obtain ⟨n3, hy⟩ := List.forall_mem_cons.1 hy
      replace n0 := off2 o4_3 (inb := i4_3) n0
      replace n1 := off2 o4_2 (inb := i4_2) n1
      replace n2 := off2 o4_1 (inb := i4_1) n2
      replace n3 := off2 o4_0 (inb := i4_0) n3
      have h0 : (y 0).val < 128 := (y 0).isLt
      refine (at2_idx _ y).trans (Eq.symm ?_)
      show step6 _ _ _ _ _ _ = _
      unfold step6
      exact if_neg (by omega)
  isplitl [H9]
  · iexists _; isplitr; swap; · iexact H9
    ipureintro
    refine read_writes_eq _ _ _ _ (List.forall_mem_cons.2 ⟨?_, List.forall_mem_cons.2 ⟨?_, List.forall_mem_cons.2 ⟨?_, List.forall_mem_cons.2 ⟨?_, fun _ h => absurd h List.not_mem_nil⟩⟩⟩⟩) ?_
    · exact piece3 (step9 k.val (merged (arg1.view.read (Elt Ideal) f1) (arg2.view.read (Elt Ideal) f2) (arg3.view.read (Elt Ideal) f3) (arg8.view.read (Elt Ideal) f8) (min (i 0).val 287)) (arg9.view.read (Elt Ideal) f9)) o7_3 i7_3 _ fun t r c => (congrFun (n3 _ _ _ _ _) _).trans <| (n_apply _ _ _ _ _ t r c).trans <| (piece_m _ _ _ _ _ (arg1.view.read (Elt Ideal) f1) (arg2.view.read (Elt Ideal) f2) (arg3.view.read (Elt Ideal) f3) (arg8.view.read (Elt Ideal) f8) (min (i 0).val 287) (4 * k.val + 3) (ldc (arg2.view.read (Elt Ideal) f2) o4_3 (by omega) i4_3) (lds (arg1.view.read (Elt Ideal) f1) o5_30 (by omega) i5_30 _) (lds (arg1.view.read (Elt Ideal) f1) o5_31 (by omega) i5_31 _) (ldt (arg3.view.read (Elt Ideal) f3) o6_3' rfl i6_3) (ldw (arg8.view.read (Elt Ideal) f8) rfl inb_S128x256_S128x256_0_0) r c).trans (step9_at (by omega) _ _ _ _ _)
    · exact piece3 (step9 k.val (merged (arg1.view.read (Elt Ideal) f1) (arg2.view.read (Elt Ideal) f2) (arg3.view.read (Elt Ideal) f3) (arg8.view.read (Elt Ideal) f8) (min (i 0).val 287)) (arg9.view.read (Elt Ideal) f9)) o7_2 i7_2 _ fun t r c => (congrFun (n2 _ _ _ _ _) _).trans <| (n_apply _ _ _ _ _ t r c).trans <| (piece_m _ _ _ _ _ (arg1.view.read (Elt Ideal) f1) (arg2.view.read (Elt Ideal) f2) (arg3.view.read (Elt Ideal) f3) (arg8.view.read (Elt Ideal) f8) (min (i 0).val 287) (4 * k.val + 2) (ldc (arg2.view.read (Elt Ideal) f2) o4_2 (by omega) i4_2) (lds (arg1.view.read (Elt Ideal) f1) o5_20 (by omega) i5_20 _) (lds (arg1.view.read (Elt Ideal) f1) o5_21 (by omega) i5_21 _) (ldt (arg3.view.read (Elt Ideal) f3) o6_2' rfl i6_2) (ldw (arg8.view.read (Elt Ideal) f8) rfl inb_S128x256_S128x256_0_0) r c).trans (step9_at (by omega) _ _ _ _ _)
    · exact piece3 (step9 k.val (merged (arg1.view.read (Elt Ideal) f1) (arg2.view.read (Elt Ideal) f2) (arg3.view.read (Elt Ideal) f3) (arg8.view.read (Elt Ideal) f8) (min (i 0).val 287)) (arg9.view.read (Elt Ideal) f9)) o7_1 i7_1 _ fun t r c => (n_apply _ _ _ _ _ t r c).trans <| (piece_m _ _ _ _ _ (arg1.view.read (Elt Ideal) f1) (arg2.view.read (Elt Ideal) f2) (arg3.view.read (Elt Ideal) f3) (arg8.view.read (Elt Ideal) f8) (min (i 0).val 287) (4 * k.val + 1) (ldc (arg2.view.read (Elt Ideal) f2) o4_1 (by omega) i4_1) (lds (arg1.view.read (Elt Ideal) f1) o5_10 (by omega) i5_10 _) (lds (arg1.view.read (Elt Ideal) f1) o5_11 (by omega) i5_11 _) (ldt (arg3.view.read (Elt Ideal) f3) o6_1' rfl i6_1) (ldw (arg8.view.read (Elt Ideal) f8) rfl inb_S128x256_S128x256_0_0) r c).trans (step9_at (by omega) _ _ _ _ _)
    · exact piece3 (step9 k.val (merged (arg1.view.read (Elt Ideal) f1) (arg2.view.read (Elt Ideal) f2) (arg3.view.read (Elt Ideal) f3) (arg8.view.read (Elt Ideal) f8) (min (i 0).val 287)) (arg9.view.read (Elt Ideal) f9)) o7_0 i7_0 _ fun t r c => (congrFun (n0 _ _ _ _ _) _).trans <| (n_apply _ _ _ _ _ t r c).trans <| (piece_m _ _ _ _ _ (arg1.view.read (Elt Ideal) f1) (arg2.view.read (Elt Ideal) f2) (arg3.view.read (Elt Ideal) f3) (arg8.view.read (Elt Ideal) f8) (min (i 0).val 287) (4 * k.val + 0) (ldc (arg2.view.read (Elt Ideal) f2) o4_0 (by omega) i4_0) (lds (arg1.view.read (Elt Ideal) f1) o5_00 (by omega) i5_00 _) (lds (arg1.view.read (Elt Ideal) f1) o5_01 (by omega) i5_01 _) (ldt (arg3.view.read (Elt Ideal) f3) o6_0' rfl i6_0) (ldw (arg8.view.read (Elt Ideal) f8) rfl inb_S128x256_S128x256_0_0) r c).trans (step9_at (by omega) _ _ _ _ _)
    · intro y hy
      obtain ⟨n0, hy⟩ := List.forall_mem_cons.1 hy
      obtain ⟨n1, hy⟩ := List.forall_mem_cons.1 hy
      obtain ⟨n2, hy⟩ := List.forall_mem_cons.1 hy
      obtain ⟨n3, hy⟩ := List.forall_mem_cons.1 hy
      replace n0 := off3 o7_3 (inb := i7_3) n0
      replace n1 := off3 o7_2 (inb := i7_2) n1
      replace n2 := off3 o7_1 (inb := i7_1) n2
      replace n3 := off3 o7_0 (inb := i7_0) n3
      have h0 : (y 1).val < 128 := (y 1).isLt
      have h1 : (y 2).val < 256 := (y 2).isLt
      refine (at3_idx _ y).trans (Eq.symm ?_)
      show step9 _ _ _ _ _ _ = _
      unfold step9
      exact if_neg (by omega)
  isplitl [H10]
  · iexists _; isplitr; swap; · iexact H10
    ipureintro
    refine read_writes_eq _ _ _ _ (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩) ?_
    · exact piece3 (step10 k.val (arg9.view.read (Elt Ideal) f9) (arg12.view.read (Elt Ideal) f12) (arg10.view.read (Elt Ideal) f10)) o3_3' i3_3 _ fun t r c => (congrArg _ (fin1 t r c)).trans <| (congrFun (v7 _ _) _).trans <| (piece_v _ _ r c).trans <| (congrArg₂ (· * ·) (ldt (arg9.view.read (Elt Ideal) f9) o3_3' rfl i3_3 r c) (ldw (arg12.view.read (Elt Ideal) f12) rfl inb_S128x128_S128x128_0_0 r c)).trans (step10_at (h := 1) (by omega) (by omega) _ _ _ _ _ _)
    · exact piece3 (step10 k.val (arg9.view.read (Elt Ideal) f9) (arg12.view.read (Elt Ideal) f12) (arg10.view.read (Elt Ideal) f10)) o1_3' i1_3 _ fun t r c => (congrArg _ (fin1 t r c)).trans <| (congrFun (v6 _ _) _).trans <| (piece_v _ _ r c).trans <| (congrArg₂ (· * ·) (ldt (arg9.view.read (Elt Ideal) f9) o1_3' rfl i1_3 r c) (ldw (arg12.view.read (Elt Ideal) f12) rfl inb_S128x128_S128x128_0_0 r c)).trans (step10_at (h := 0) (by omega) (by omega) _ _ _ _ _ _)
    · exact piece3 (step10 k.val (arg9.view.read (Elt Ideal) f9) (arg12.view.read (Elt Ideal) f12) (arg10.view.read (Elt Ideal) f10)) o3_2' i3_2 _ fun t r c => (congrArg _ (fin1 t r c)).trans <| (congrFun (v5 _ _) _).trans <| (piece_v _ _ r c).trans <| (congrArg₂ (· * ·) (ldt (arg9.view.read (Elt Ideal) f9) o3_2' rfl i3_2 r c) (ldw (arg12.view.read (Elt Ideal) f12) rfl inb_S128x128_S128x128_0_0 r c)).trans (step10_at (h := 1) (by omega) (by omega) _ _ _ _ _ _)
    · exact piece3 (step10 k.val (arg9.view.read (Elt Ideal) f9) (arg12.view.read (Elt Ideal) f12) (arg10.view.read (Elt Ideal) f10)) o1_2' i1_2 _ fun t r c => (congrArg _ (fin1 t r c)).trans <| (congrFun (v4 _ _) _).trans <| (piece_v _ _ r c).trans <| (congrArg₂ (· * ·) (ldt (arg9.view.read (Elt Ideal) f9) o1_2' rfl i1_2 r c) (ldw (arg12.view.read (Elt Ideal) f12) rfl inb_S128x128_S128x128_0_0 r c)).trans (step10_at (h := 0) (by omega) (by omega) _ _ _ _ _ _)
    · exact piece3 (step10 k.val (arg9.view.read (Elt Ideal) f9) (arg12.view.read (Elt Ideal) f12) (arg10.view.read (Elt Ideal) f10)) o3_1' i3_1 _ fun t r c => (congrArg _ (fin1 t r c)).trans <| (congrFun (v3 _ _) _).trans <| (piece_v _ _ r c).trans <| (congrArg₂ (· * ·) (ldt (arg9.view.read (Elt Ideal) f9) o3_1' rfl i3_1 r c) (ldw (arg12.view.read (Elt Ideal) f12) rfl inb_S128x128_S128x128_0_0 r c)).trans (step10_at (h := 1) (by omega) (by omega) _ _ _ _ _ _)
    · exact piece3 (step10 k.val (arg9.view.read (Elt Ideal) f9) (arg12.view.read (Elt Ideal) f12) (arg10.view.read (Elt Ideal) f10)) o1_1' i1_1 _ fun t r c => (congrArg _ (fin1 t r c)).trans <| (congrFun (v2 _ _) _).trans <| (piece_v _ _ r c).trans <| (congrArg₂ (· * ·) (ldt (arg9.view.read (Elt Ideal) f9) o1_1' rfl i1_1 r c) (ldw (arg12.view.read (Elt Ideal) f12) rfl inb_S128x128_S128x128_0_0 r c)).trans (step10_at (h := 0) (by omega) (by omega) _ _ _ _ _ _)
    · exact piece3 (step10 k.val (arg9.view.read (Elt Ideal) f9) (arg12.view.read (Elt Ideal) f12) (arg10.view.read (Elt Ideal) f10)) o3_0' i3_0 _ fun t r c => (congrArg _ (fin1 t r c)).trans <| (congrFun (v1 _ _) _).trans <| (piece_v _ _ r c).trans <| (congrArg₂ (· * ·) (ldt (arg9.view.read (Elt Ideal) f9) o3_0' rfl i3_0 r c) (ldw (arg12.view.read (Elt Ideal) f12) rfl inb_S128x128_S128x128_0_0 r c)).trans (step10_at (h := 1) (by omega) (by omega) _ _ _ _ _ _)
    · exact piece3 (step10 k.val (arg9.view.read (Elt Ideal) f9) (arg12.view.read (Elt Ideal) f12) (arg10.view.read (Elt Ideal) f10)) o1_0' i1_0 _ fun t r c => (congrArg _ (fin1 t r c)).trans <| (piece_v _ _ r c).trans <| (congrArg₂ (· * ·) (ldt (arg9.view.read (Elt Ideal) f9) o1_0' rfl i1_0 r c) (ldw (arg12.view.read (Elt Ideal) f12) rfl inb_S128x128_S128x128_0_0 r c)).trans (step10_at (h := 0) (by omega) (by omega) _ _ _ _ _ _)
    · intro y hy
      obtain ⟨n0, hy⟩ := List.forall_mem_cons.1 hy
      obtain ⟨n1, hy⟩ := List.forall_mem_cons.1 hy
      obtain ⟨n2, hy⟩ := List.forall_mem_cons.1 hy
      obtain ⟨n3, hy⟩ := List.forall_mem_cons.1 hy
      obtain ⟨n4, hy⟩ := List.forall_mem_cons.1 hy
      obtain ⟨n5, hy⟩ := List.forall_mem_cons.1 hy
      obtain ⟨n6, hy⟩ := List.forall_mem_cons.1 hy
      obtain ⟨n7, hy⟩ := List.forall_mem_cons.1 hy
      replace n0 := off3 o3_3 (inb := i3_3) n0
      replace n1 := off3 o1_3 (inb := i1_3) n1
      replace n2 := off3 o3_2 (inb := i3_2) n2
      replace n3 := off3 o1_2 (inb := i1_2) n3
      replace n4 := off3 o3_1 (inb := i3_1) n4
      replace n5 := off3 o1_1 (inb := i1_1) n5
      replace n6 := off3 o3_0 (inb := i3_0) n6
      replace n7 := off3 o1_0 (inb := i1_0) n7
      have h0 : (y 1).val < 128 := (y 1).isLt
      have h1 : (y 2).val < 256 := (y 2).isLt
      refine (at3_idx _ y).trans (Eq.symm ?_)
      show step10 _ _ _ _ _ _ _ = _
      unfold step10
      exact if_neg (by omega)
  isplitl [H11]
  · iexists _; isplitr; swap; · iexact H11
    ipureintro
    refine read_writes_eq _ _ _ _ (List.forall_mem_cons.2 ⟨?_, fun _ h => absurd h List.not_mem_nil⟩) ?_
    · exact piece2 (step11 k.val (merged (arg1.view.read (Elt Ideal) f1) (arg2.view.read (Elt Ideal) f2) (arg3.view.read (Elt Ideal) f3) (arg8.view.read (Elt Ideal) f8) (min (i 0).val 287)) (arg11.view.read (Elt Ideal) f11)) (rfl : (![0, 0] : Fin 2 → ℕ) = ![0, 0]) inb_S128x128_S128x128_0_0 _ fun r c => (piece_acc _ _ _ _ _ _ _ _ _ _ _ _ _ _ _ _ _ _ (merged (arg1.view.read (Elt Ideal) f1) (arg2.view.read (Elt Ideal) f2) (arg3.view.read (Elt Ideal) f3) (arg8.view.read (Elt Ideal) f8) (min (i 0).val 287)) (4 * k.val) (fun r c => (piece_m _ _ _ _ _ (arg1.view.read (Elt Ideal) f1) (arg2.view.read (Elt Ideal) f2) (arg3.view.read (Elt Ideal) f3) (arg8.view.read (Elt Ideal) f8) (min (i 0).val 287) (4 * k.val + 0) (ldc (arg2.view.read (Elt Ideal) f2) o4_0 (by omega) i4_0) (lds (arg1.view.read (Elt Ideal) f1) o5_00 (by omega) i5_00 _) (lds (arg1.view.read (Elt Ideal) f1) o5_01 (by omega) i5_01 _) (ldt (arg3.view.read (Elt Ideal) f3) o6_0' rfl i6_0) (ldw (arg8.view.read (Elt Ideal) f8) rfl inb_S128x256_S128x256_0_0) r c)) (fun r c => (piece_m _ _ _ _ _ (arg1.view.read (Elt Ideal) f1) (arg2.view.read (Elt Ideal) f2) (arg3.view.read (Elt Ideal) f3) (arg8.view.read (Elt Ideal) f8) (min (i 0).val 287) (4 * k.val + 1) (ldc (arg2.view.read (Elt Ideal) f2) o4_1 (by omega) i4_1) (lds (arg1.view.read (Elt Ideal) f1) o5_10 (by omega) i5_10 _) (lds (arg1.view.read (Elt Ideal) f1) o5_11 (by omega) i5_11 _) (ldt (arg3.view.read (Elt Ideal) f3) o6_1' rfl i6_1) (ldw (arg8.view.read (Elt Ideal) f8) rfl inb_S128x256_S128x256_0_0) r c)) (fun r c => (piece_m _ _ _ _ _ (arg1.view.read (Elt Ideal) f1) (arg2.view.read (Elt Ideal) f2) (arg3.view.read (Elt Ideal) f3) (arg8.view.read (Elt Ideal) f8) (min (i 0).val 287) (4 * k.val + 2) (ldc (arg2.view.read (Elt Ideal) f2) o4_2 (by omega) i4_2) (lds (arg1.view.read (Elt Ideal) f1) o5_20 (by omega) i5_20 _) (lds (arg1.view.read (Elt Ideal) f1) o5_21 (by omega) i5_21 _) (ldt (arg3.view.read (Elt Ideal) f3) o6_2' rfl i6_2) (ldw (arg8.view.read (Elt Ideal) f8) rfl inb_S128x256_S128x256_0_0) r c)) (fun r c => (piece_m _ _ _ _ _ (arg1.view.read (Elt Ideal) f1) (arg2.view.read (Elt Ideal) f2) (arg3.view.read (Elt Ideal) f3) (arg8.view.read (Elt Ideal) f8) (min (i 0).val 287) (4 * k.val + 3) (ldc (arg2.view.read (Elt Ideal) f2) o4_3 (by omega) i4_3) (lds (arg1.view.read (Elt Ideal) f1) o5_30 (by omega) i5_30 _) (lds (arg1.view.read (Elt Ideal) f1) o5_31 (by omega) i5_31 _) (ldt (arg3.view.read (Elt Ideal) f3) o6_3' rfl i6_3) (ldw (arg8.view.read (Elt Ideal) f8) rfl inb_S128x256_S128x256_0_0) r c)) r c).trans <| (congrArg (· + _) (ldw (arg11.view.read (Elt Ideal) f11) rfl inb_S128x128_S128x128_0_0 r c)).trans (by show _ = step11 _ _ _ (0 + r.val) (0 + c.val); rw [Nat.zero_add, Nat.zero_add]; rfl)
    · intro y hy
      obtain ⟨n0, hy⟩ := List.forall_mem_cons.1 hy
      replace n0 := off2 (rfl : (![0, 0] : Fin 2 → ℕ) = ![0, 0]) (inb := inb_S128x128_S128x128_0_0) n0
      have h0 : (y 0).val < 128 := (y 0).isLt
      have h1 : (y 1).val < 128 := (y 1).isLt
      exact absurd ⟨⟨Nat.zero_le _, by omega⟩, ⟨Nat.zero_le _, by omega⟩⟩ n0
  iexists _; isplitr; swap; · iexact H13
  ipureintro
  refine read_writes_eq _ _ _ _ (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩) ?_
  · exact piece3 (step13 k.val (arg9.view.read (Elt Ideal) f9) (arg12.view.read (Elt Ideal) f12) (arg13.view.read (Elt Ideal) f13)) o2_31 i2_31 _ fun t r c => (congrArg _ (fin1 t r c)).trans <| (congrFun (a7 _ _) _).trans <| (piece_a _ _ (arg9.view.read (Elt Ideal) f9) (arg12.view.read (Elt Ideal) f12) (8 * k.val + 7) (ldq (arg9.view.read (Elt Ideal) f9) o3_3 (by omega) (by omega) i3_3) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_30 i2_30 _ fun t r c => (congrArg _ (fin1 t r c)).trans <| (congrFun (a6 _ _) _).trans <| (piece_a _ _ (arg9.view.read (Elt Ideal) f9) (arg12.view.read (Elt Ideal) f12) (8 * k.val + 6) (ldq (arg9.view.read (Elt Ideal) f9) o1_3 (by omega) (by omega) i1_3) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_21 i2_21 _ fun t r c => (congrArg _ (fin1 t r c)).trans <| (congrFun (a5 _ _) _).trans <| (piece_a _ _ (arg9.view.read (Elt Ideal) f9) (arg12.view.read (Elt Ideal) f12) (8 * k.val + 5) (ldq (arg9.view.read (Elt Ideal) f9) o3_2 (by omega) (by omega) i3_2) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_20 i2_20 _ fun t r c => (congrArg _ (fin1 t r c)).trans <| (congrFun (a4 _ _) _).trans <| (piece_a _ _ (arg9.view.read (Elt Ideal) f9) (arg12.view.read (Elt Ideal) f12) (8 * k.val + 4) (ldq (arg9.view.read (Elt Ideal) f9) o1_2 (by omega) (by omega) i1_2) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_11 i2_11 _ fun t r c => (congrArg _ (fin1 t r c)).trans <| (congrFun (a3 _ _) _).trans <| (piece_a _ _ (arg9.view.read (Elt Ideal) f9) (arg12.view.read (Elt Ideal) f12) (8 * k.val + 3) (ldq (arg9.view.read (Elt Ideal) f9) o3_1 (by omega) (by omega) i3_1) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_10 i2_10 _ fun t r c => (congrArg _ (fin1 t r c)).trans <| (congrFun (a2 _ _) _).trans <| (piece_a _ _ (arg9.view.read (Elt Ideal) f9) (arg12.view.read (Elt Ideal) f12) (8 * k.val + 2) (ldq (arg9.view.read (Elt Ideal) f9) o1_1 (by omega) (by omega) i1_1) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_01 i2_01 _ fun t r c => (congrArg _ (fin1 t r c)).trans <| (congrFun (a1 _ _) _).trans <| (piece_a _ _ (arg9.view.read (Elt Ideal) f9) (arg12.view.read (Elt Ideal) f12) (8 * k.val + 1) (ldq (arg9.view.read (Elt Ideal) f9) o3_0 (by omega) (by omega) i3_0) (ldw (arg12.view.read (Elt Ideal) f12) rfl inb_S128x128_S128x128_0_0) r c).trans (step13_at (by omega) _ _ _ _ _ _)
  · exact piece3 (step13 k.val (arg9.view.read (Elt Ideal) f9) (arg12.view.read (Elt Ideal) f12) (arg13.view.read (Elt Ideal) f13)) o2_00 i2_00 _ fun t r c => (congrArg _ (fin1 t r c)).trans <| (piece_a _ _ (arg9.view.read (Elt Ideal) f9) (arg12.view.read (Elt Ideal) f12) (8 * k.val + 0) (ldq (arg9.view.read (Elt Ideal) f9) o1_0 (by omega) (by omega) i1_0) (ldw (arg12.view.read (Elt Ideal) f12) rfl inb_S128x128_S128x128_0_0) r c).trans (step13_at (by omega) _ _ _ _ _ _)
  · intro y hy
    obtain ⟨n0, hy⟩ := List.forall_mem_cons.1 hy
    obtain ⟨n1, hy⟩ := List.forall_mem_cons.1 hy
    obtain ⟨n2, hy⟩ := List.forall_mem_cons.1 hy
    obtain ⟨n3, hy⟩ := List.forall_mem_cons.1 hy
    obtain ⟨n4, hy⟩ := List.forall_mem_cons.1 hy
    obtain ⟨n5, hy⟩ := List.forall_mem_cons.1 hy
    obtain ⟨n6, hy⟩ := List.forall_mem_cons.1 hy
    obtain ⟨n7, hy⟩ := List.forall_mem_cons.1 hy
    replace n0 := off3 o2_31 (inb := i2_31) n0
    replace n1 := off3 o2_30 (inb := i2_30) n1
    replace n2 := off3 o2_21 (inb := i2_21) n2
    replace n3 := off3 o2_20 (inb := i2_20) n3
    replace n4 := off3 o2_11 (inb := i2_11) n4
    replace n5 := off3 o2_10 (inb := i2_10) n5
    replace n6 := off3 o2_01 (inb := i2_01) n6
    replace n7 := off3 o2_00 (inb := i2_00) n7
    have h0 : (y 1).val < 8 := (y 1).isLt
    have h1 : (y 2).val < 128 := (y 2).isLt
    refine (at3_idx _ y).trans (Eq.symm ?_)
    show step13 _ _ _ _ _ _ _ = _
    unfold step13
    exact if_neg (by omega)

end Cert.KernelIdeal.Hand

end
-- ==== Proof.Loop.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Trip
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

/-! ## The arrays between two trips -/

theorem at2_fun {n0 n1 : ℕ} (g : ℕ → ℕ → EReal) {r c : ℕ} (hr : r < n0) (hc : c < n1) :
    at2 (fun y : (⟨2, ![n0, n1]⟩ : Shape).Idx => g (y 0).val (y 1).val) r c = g r c := by
  unfold at2; rw [dif_pos ⟨hr, hc⟩]; rfl

theorem at3_fun {n0 n1 n2 : ℕ} (g : ℕ → ℕ → ℕ → EReal) {t r c : ℕ} (ht : t < n0) (hr : r < n1) (hc : c < n2) :
    at3 (fun y : (⟨3, ![n0, n1, n2]⟩ : Shape).Idx => g (y 0).val (y 1).val (y 2).val) t r c = g t r c := by
  unfold at3; rw [dif_pos ⟨ht, hr, hc⟩]; rfl

/-- The codes after `k` trips. -/
def mix6 (k : ℕ) (X10 : S28x128x256.Idx → EReal) (X14 : S56x8x128.Idx → EReal) (X6 : S128x7168.Idx → EReal) (r c : ℕ) : EReal :=
  if c < 1024 * k then clamp (at3 X10 (c / 256) r (c % 256) * at3 X14 (c / 128) (r % 8) (c % 128)) else at2 X6 r c

/-- The merged weights after `k` trips. -/
def mix9 (k : ℕ) (M : ℕ → ℕ → ℕ → EReal) (X9 : S28x128x256.Idx → EReal) (t r c : ℕ) : EReal :=
  if t < 4 * k then M t r c else at3 X9 t r c

/-- The weights times the gain after `k` trips. -/
def mix10 (k : ℕ) (X9 : S28x128x256.Idx → EReal) (X12 : S128x128.Idx → EReal) (X10 : S28x128x256.Idx → EReal) (t r c : ℕ) : EReal :=
  if t < 4 * k then at3 X9 t r c * at2 X12 r (c % 128) else at3 X10 t r c

/-- The sums of squares after `k` trips. -/
def mix11 (k : ℕ) (M : ℕ → ℕ → ℕ → EReal) (X11 : S128x128.Idx → EReal) (r c : ℕ) : EReal :=
  match k with
  | 0 => at2 X11 r c
  | k + 1 => mix11 k M X11 r c + (squares M (4 * k) r c + squares M (4 * k + 1) r c + squares M (4 * k + 2) r c + squares M (4 * k + 3) r c)

/-- The largest magnitudes after `k` trips. -/
def mix13 (k : ℕ) (X9 : S28x128x256.Idx → EReal) (X12 : S128x128.Idx → EReal) (X13 : S56x8x128.Idx → EReal) (q s c : ℕ) : EReal :=
  if q < 8 * k then amax X9 X12 q s c else at3 X13 q s c

theorem mix6_succ (k : ℕ) (hk : k < 7) (X9 X10 : S28x128x256.Idx → EReal) (X12 : S128x128.Idx → EReal) (X14 : S56x8x128.Idx → EReal) (X6 : S128x7168.Idx → EReal) :
    (fun y : S128x7168.Idx => step6 k (fun y => mix10 k X9 X12 X10 (y 0).val (y 1).val (y 2).val) X14 (fun y => mix6 k X10 X14 X6 (y 0).val (y 1).val) (y 0).val (y 1).val)
      = fun y => mix6 (k + 1) X10 X14 X6 (y 0).val (y 1).val := by
  funext y
  have h0 : (y 0).val < 128 := (y 0).isLt
  have h1 : (y 1).val < 7168 := (y 1).isLt
  show step6 k _ _ _ _ _ = _
  unfold step6
  by_cases h : 1024 * k ≤ (y 1).val ∧ (y 1).val < 1024 * k + 1024
  · rw [if_pos h, at3_fun _ (by omega) h0 (by omega)]
    unfold mix10 mix6
    rw [if_neg (by omega), if_pos (by omega)]
  · rw [if_neg h, at2_fun _ h0 h1]
    unfold mix6
    by_cases h' : (y 1).val < 1024 * k
    · rw [if_pos h', if_pos (by omega)]
    · rw [if_neg h', if_neg (by omega)]

theorem mix9_succ (k : ℕ) (M : ℕ → ℕ → ℕ → EReal) (X9 : S28x128x256.Idx → EReal) :
    (fun y : S28x128x256.Idx => step9 k M (fun y => mix9 k M X9 (y 0).val (y 1).val (y 2).val) (y 0).val (y 1).val (y 2).val)
      = fun y => mix9 (k + 1) M X9 (y 0).val (y 1).val (y 2).val := by
  funext y
  have h0 : (y 0).val < 28 := (y 0).isLt
  have h1 : (y 1).val < 128 := (y 1).isLt
  have h2 : (y 2).val < 256 := (y 2).isLt
  show step9 k _ _ _ _ _ = _
  unfold step9
  by_cases h : 4 * k ≤ (y 0).val ∧ (y 0).val < 4 * k + 4
  · rw [if_pos h]; unfold mix9; rw [if_pos (by omega)]
  · rw [if_neg h, at3_fun _ h0 h1 h2]
    unfold mix9
    by_cases h' : (y 0).val < 4 * k
    · rw [if_pos h', if_pos (by omega)]
    · rw [if_neg h', if_neg (by omega)]

theorem mix10_succ (k : ℕ) (M : ℕ → ℕ → ℕ → EReal) (X9 X10 : S28x128x256.Idx → EReal) (X12 : S128x128.Idx → EReal) :
    (fun y : S28x128x256.Idx => step10 k (fun y => mix9 k M X9 (y 0).val (y 1).val (y 2).val) X12 (fun y => mix10 k X9 X12 X10 (y 0).val (y 1).val (y 2).val)
        (y 0).val (y 1).val (y 2).val)
      = fun y => mix10 (k + 1) X9 X12 X10 (y 0).val (y 1).val (y 2).val := by
  funext y
  have h0 : (y 0).val < 28 := (y 0).isLt
  have h1 : (y 1).val < 128 := (y 1).isLt
  have h2 : (y 2).val < 256 := (y 2).isLt
  show step10 k _ _ _ _ _ _ = _
  unfold step10
  by_cases h : 4 * k ≤ (y 0).val ∧ (y 0).val < 4 * k + 4
  · rw [if_pos h, at3_fun _ h0 h1 h2]
    unfold mix10 mix9
    rw [if_neg (by omega), if_pos (by omega)]
  · rw [if_neg h, at3_fun _ h0 h1 h2]
    unfold mix10
    by_cases h' : (y 0).val < 4 * k
    · rw [if_pos h', if_pos (by omega)]
    · rw [if_neg h', if_neg (by omega)]

theorem mix11_succ (k : ℕ) (M : ℕ → ℕ → ℕ → EReal) (X11 : S128x128.Idx → EReal) :
    (fun y : S128x128.Idx => step11 k M (fun y => mix11 k M X11 (y 0).val (y 1).val) (y 0).val (y 1).val)
      = fun y => mix11 (k + 1) M X11 (y 0).val (y 1).val := by
  funext y
  have h0 : (y 0).val < 128 := (y 0).isLt
  have h1 : (y 1).val < 128 := (y 1).isLt
  show step11 k _ _ _ _ = _
  unfold step11
  rw [at2_fun _ h0 h1]
  rfl

theorem mix13_succ (k : ℕ) (hk : k < 7) (M : ℕ → ℕ → ℕ → EReal) (X9 : S28x128x256.Idx → EReal) (X12 : S128x128.Idx → EReal) (X13 : S56x8x128.Idx → EReal) :
    (fun y : S56x8x128.Idx => step13 k (fun y => mix9 k M X9 (y 0).val (y 1).val (y 2).val) X12 (fun y => mix13 k X9 X12 X13 (y 0).val (y 1).val (y 2).val)
        (y 0).val (y 1).val (y 2).val)
      = fun y => mix13 (k + 1) X9 X12 X13 (y 0).val (y 1).val (y 2).val := by
  funext y
  have h0 : (y 0).val < 56 := (y 0).isLt
  have h1 : (y 1).val < 8 := (y 1).isLt
  have h2 : (y 2).val < 128 := (y 2).isLt
  show step13 k _ _ _ _ _ _ = _
  unfold step13
  by_cases h : 8 * k ≤ (y 0).val ∧ (y 0).val < 8 * k + 8
  · rw [if_pos h]
    unfold mix13
    rw [if_pos (by omega)]
    unfold amax
    congr 1
    funext g
    have hg := g.isLt
    rw [at3_fun _ (by omega) (by omega) (by omega)]
    unfold mix9
    rw [if_neg (by omega)]
  · rw [if_neg h, at3_fun _ h0 h1 h2]
    unfold mix13
    by_cases h' : (y 0).val < 8 * k
    · rw [if_pos h', if_pos (by omega)]
    · rw [if_neg h', if_neg (by omega)]

theorem mix_zero6 (X10 : S28x128x256.Idx → EReal) (X14 : S56x8x128.Idx → EReal) (X6 : S128x7168.Idx → EReal) :
    (fun y : S128x7168.Idx => mix6 0 X10 X14 X6 (y 0).val (y 1).val) = X6 := by
  funext y; show mix6 _ _ _ _ _ _ = _; unfold mix6; rw [if_neg (by omega)]; exact (at2_idx X6 y).symm

theorem mix_zero9 (M : ℕ → ℕ → ℕ → EReal) (X9 : S28x128x256.Idx → EReal) :
    (fun y : S28x128x256.Idx => mix9 0 M X9 (y 0).val (y 1).val (y 2).val) = X9 := by
  funext y; show mix9 _ _ _ _ _ _ = _; unfold mix9; rw [if_neg (by omega)]; exact (at3_idx X9 y).symm

theorem mix_zero10 (X9 X10 : S28x128x256.Idx → EReal) (X12 : S128x128.Idx → EReal) :
    (fun y : S28x128x256.Idx => mix10 0 X9 X12 X10 (y 0).val (y 1).val (y 2).val) = X10 := by
  funext y; show mix10 _ _ _ _ _ _ _ = _; unfold mix10; rw [if_neg (by omega)]; exact (at3_idx X10 y).symm

theorem mix_zero11 (M : ℕ → ℕ → ℕ → EReal) (X11 : S128x128.Idx → EReal) :
    (fun y : S128x128.Idx => mix11 0 M X11 (y 0).val (y 1).val) = X11 := by
  funext y; exact (at2_idx X11 y).symm

theorem mix_zero13 (X9 : S28x128x256.Idx → EReal) (X12 : S128x128.Idx → EReal) (X13 : S56x8x128.Idx → EReal) :
    (fun y : S56x8x128.Idx => mix13 0 X9 X12 X13 (y 0).val (y 1).val (y 2).val) = X13 := by
  funext y; show mix13 _ _ _ _ _ _ _ = _; unfold mix13; rw [if_neg (by omega)]; exact (at3_idx X13 y).symm

/-! ## The loop -/

/-- What the loop owns before trip `k`. -/
def loopI (c : Dev nD) (i : grid0.Coords) (arg1 : Memref sig .tc .smem S16128 .f32) (arg2 : Memref sig .tc .vmem S128x7168 .fp8e4m3) (arg3 : Memref sig .tc .vmem S1x64x7168 .bf16) (arg8 : Memref sig .tc .vmem S128x256 .bf16) (arg12 : Memref sig .tc .vmem S128x128 .f32) (arg14 : Memref sig .tc .vmem S56x8x128 .f32) (arg6 : Memref sig .tc .vmem S128x7168 .fp8e4m3) (arg9 : Memref sig .tc .vmem S28x128x256 .f32) (arg10 : Memref sig .tc .vmem S28x128x256 .f32) (arg11 : Memref sig .tc .vmem S128x128 .f32) (arg13 : Memref sig .tc .vmem S56x8x128 .f32) (Y1 : S16128.Idx → EReal) (Y2 : S128x7168.Idx → EReal) (Y3 : S1x64x7168.Idx → EReal) (Y8 : S128x256.Idx → EReal) (Y12 : S128x128.Idx → EReal) (Y14 : S56x8x128.Idx → EReal) (Y6 : S128x7168.Idx → EReal) (Y9 : S28x128x256.Idx → EReal) (Y10 : S28x128x256.Idx → EReal) (Y11 : S128x128.Idx → EReal) (Y13 : S56x8x128.Idx → EReal) (k : ℕ) : sProp (MT nD τ sig Unit (Elt Ideal) ℕ (UR sig nD τ) ℕ) :=
  iprop(owns (c : Thread nD τ) arg1 fullShare Y1 ∗ owns (c : Thread nD τ) arg2 fullShare Y2 ∗ owns (c : Thread nD τ) arg3 fullShare Y3 ∗ owns (c : Thread nD τ) arg8 fullShare Y8 ∗ owns (c : Thread nD τ) arg12 fullShare Y12 ∗ owns (c : Thread nD τ) arg14 fullShare Y14 ∗ owns (c : Thread nD τ) arg6 fullShare (fun y => mix6 k Y10 Y14 Y6 (y 0).val (y 1).val) ∗ owns (c : Thread nD τ) arg9 fullShare (fun y => mix9 k (merged Y1 Y2 Y3 Y8 (min (i 0).val 287)) Y9 (y 0).val (y 1).val (y 2).val) ∗ owns (c : Thread nD τ) arg10 fullShare (fun y => mix10 k Y9 Y12 Y10 (y 0).val (y 1).val (y 2).val) ∗ owns (c : Thread nD τ) arg11 fullShare (fun y => mix11 k (merged Y1 Y2 Y3 Y8 (min (i 0).val 287)) Y11 (y 0).val (y 1).val) ∗ owns (c : Thread nD τ) arg13 fullShare (fun y => mix13 k Y9 Y12 Y13 (y 0).val (y 1).val (y 2).val))

theorem loopI_step (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (vv : BitVec 32) (Y1 : S16128.Idx → EReal) (Y2 : S128x7168.Idx → EReal) (Y3 : S1x64x7168.Idx → EReal) (Y8 : S128x256.Idx → EReal) (Y12 : S128x128.Idx → EReal) (Y14 : S56x8x128.Idx → EReal) (Y6 : S128x7168.Idx → EReal) (Y9 : S28x128x256.Idx → EReal) (Y10 : S28x128x256.Idx → EReal) (Y11 : S128x128.Idx → EReal) (Y13 : S56x8x128.Idx → EReal) (k : Fin k0_t1_loop.trips) :
    loopI c i arg1 arg2 arg3 arg8 arg12 arg14 arg6 arg9 arg10 arg11 arg13 Y1 Y2 Y3 Y8 Y12 Y14 Y6 Y9 Y10 Y11 Y13 k.val ⊢ wp frame (wpE (defs₀ (F := Ideal)) Variants.none c none) Set.univ
      (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 vv k PUnit.unit) (fun _ => loopI c i arg1 arg2 arg3 arg8 arg12 arg14 arg6 arg9 arg10 arg11 arg13 Y1 Y2 Y3 Y8 Y12 Y14 Y6 Y9 Y10 Y11 Y13 (k.val + 1)) := by
  have hk : k.val < 7 := Nat.lt_of_lt_of_le k.isLt k0_t1_abs.2.1
  have h := trip c i arg1 harg1 arg2 harg2 arg3 harg3 arg4 harg4 arg5 harg5 arg6 harg6 arg7 harg7 arg8 harg8 arg9 harg9 arg10 harg10 arg11 harg11 arg12 harg12 arg13 harg13 arg14 harg14 arg15 harg15 vv k Y1 Y2 Y3 Y8 Y12 Y14 (fun y => mix6 k.val Y10 Y14 Y6 (y 0).val (y 1).val) (fun y => mix9 k.val (merged Y1 Y2 Y3 Y8 (min (i 0).val 287)) Y9 (y 0).val (y 1).val (y 2).val) (fun y => mix10 k.val Y9 Y12 Y10 (y 0).val (y 1).val (y 2).val) (fun y => mix11 k.val (merged Y1 Y2 Y3 Y8 (min (i 0).val 287)) Y11 (y 0).val (y 1).val) (fun y => mix13 k.val Y9 Y12 Y13 (y 0).val (y 1).val (y 2).val)
  rw [mix6_succ k.val hk, mix9_succ, mix10_succ, mix11_succ, mix13_succ k.val hk] at h
  exact h

set_option maxHeartbeats 1000000 in
/-- The whole loop, from arrays at any contents. -/
theorem loop (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (vv : BitVec 32) (Y1 : S16128.Idx → EReal) (Y2 : S128x7168.Idx → EReal) (Y3 : S1x64x7168.Idx → EReal) (Y8 : S128x256.Idx → EReal) (Y12 : S128x128.Idx → EReal) (Y14 : S56x8x128.Idx → EReal) (Y6 : S128x7168.Idx → EReal) (Y9 : S28x128x256.Idx → EReal) (Y10 : S28x128x256.Idx → EReal) (Y11 : S128x128.Idx → EReal) (Y13 : S56x8x128.Idx → EReal) {β : Type} (kk : PUnit → Prog (TpuEff nD τ sig (Elt Ideal) Λ₀ .tc) β)
    (Q : β → sProp (MT nD τ sig Unit (Elt Ideal) ℕ (UR sig nD τ) ℕ)) :
    (iprop(owns (c : Thread nD τ) arg1 fullShare Y1 ∗ owns (c : Thread nD τ) arg2 fullShare Y2 ∗ owns (c : Thread nD τ) arg3 fullShare Y3 ∗ owns (c : Thread nD τ) arg8 fullShare Y8 ∗ owns (c : Thread nD τ) arg12 fullShare Y12 ∗ owns (c : Thread nD τ) arg14 fullShare Y14 ∗ owns (c : Thread nD τ) arg6 fullShare Y6 ∗ owns (c : Thread nD τ) arg9 fullShare Y9 ∗ owns (c : Thread nD τ) arg10 fullShare Y10 ∗ owns (c : Thread nD τ) arg11 fullShare Y11 ∗ owns (c : Thread nD τ) arg13 fullShare Y13) : sProp (MT nD τ sig Unit (Elt Ideal) ℕ (UR sig nD τ) ℕ)) ⊢ iprop((iprop(owns (c : Thread nD τ) arg1 fullShare Y1 ∗ owns (c : Thread nD τ) arg2 fullShare Y2 ∗ owns (c : Thread nD τ) arg3 fullShare Y3 ∗ owns (c : Thread nD τ) arg8 fullShare Y8 ∗ owns (c : Thread nD τ) arg12 fullShare Y12 ∗ owns (c : Thread nD τ) arg14 fullShare Y14 ∗ owns (c : Thread nD τ) arg6 fullShare (fun y => mix6 7 Y10 Y14 Y6 (y 0).val (y 1).val) ∗ owns (c : Thread nD τ) arg9 fullShare (fun y => mix9 7 (merged Y1 Y2 Y3 Y8 (min (i 0).val 287)) Y9 (y 0).val (y 1).val (y 2).val) ∗ owns (c : Thread nD τ) arg10 fullShare (fun y => mix10 7 Y9 Y12 Y10 (y 0).val (y 1).val (y 2).val) ∗ owns (c : Thread nD τ) arg11 fullShare (fun y => mix11 7 (merged Y1 Y2 Y3 Y8 (min (i 0).val 287)) Y11 (y 0).val (y 1).val) ∗ owns (c : Thread nD τ) arg13 fullShare (fun y => mix13 7 Y9 Y12 Y13 (y 0).val (y 1).val (y 2).val)) -∗ wp frame (wpE (defs₀ (F := Ideal)) Variants.none c none) Set.univ (kk ⟨⟩) Q)
      -∗ wp frame (wpE (defs₀ (F := Ideal)) Variants.none c none) Set.univ
          (Scf.Loop.for k0_t1_loop k0_t1_ok ⟨⟩ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 vv) >>= kk) Q) := by
  have h := Scf.wp_for_bind frame (wpE (defs₀ (F := Ideal)) Variants.none c none) Set.univ k0_t1_loop.lb k0_t1_loop.ub k0_t1_loop.st k0_t1_ok PUnit.unit
    (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 vv) (fun k _ => loopI c i arg1 arg2 arg3 arg8 arg12 arg14 arg6 arg9 arg10 arg11 arg13 Y1 Y2 Y3 Y8 Y12 Y14 Y6 Y9 Y10 Y11 Y13 k)
    (fun k _ => loopI_step c i arg1 harg1 arg2 harg2 arg3 harg3 arg4 harg4 arg5 harg5 arg6 harg6 arg7 harg7 arg8 harg8 arg9 harg9 arg10 harg10 arg11 harg11 arg12 harg12 arg13 harg13 arg14 harg14 arg15 harg15 vv Y1 Y2 Y3 Y8 Y12 Y14 Y6 Y9 Y10 Y11 Y13 k) (kk := kk) (Q := Q)
  have e0 : loopI c i arg1 arg2 arg3 arg8 arg12 arg14 arg6 arg9 arg10 arg11 arg13 Y1 Y2 Y3 Y8 Y12 Y14 Y6 Y9 Y10 Y11 Y13 0 = iprop(owns (c : Thread nD τ) arg1 fullShare Y1 ∗ owns (c : Thread nD τ) arg2 fullShare Y2 ∗ owns (c : Thread nD τ) arg3 fullShare Y3 ∗ owns (c : Thread nD τ) arg8 fullShare Y8 ∗ owns (c : Thread nD τ) arg12 fullShare Y12 ∗ owns (c : Thread nD τ) arg14 fullShare Y14 ∗ owns (c : Thread nD τ) arg6 fullShare Y6 ∗ owns (c : Thread nD τ) arg9 fullShare Y9 ∗ owns (c : Thread nD τ) arg10 fullShare Y10 ∗ owns (c : Thread nD τ) arg11 fullShare Y11 ∗ owns (c : Thread nD τ) arg13 fullShare Y13) := by
    unfold loopI
    rw [mix_zero6, mix_zero9, mix_zero10, mix_zero11, mix_zero13]
  have e7 : Scf.trips k0_t1_loop.lb k0_t1_loop.ub k0_t1_loop.st = 7 := by decide
  rw [e7] at h
  rw [← e0]
  refine h.trans ?_
  unfold loopI
  iintro H HK
  iapply H
  iintro %acc HI
  iapply HK
  iexact HI

end Cert.KernelIdeal.Hand
end
-- ==== Proof.Tail.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Loop
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

/-- The scales with one band's row replaced by the row held over. -/
def scaleRow (b : ℕ) (X15 : S8x128.Idx → EReal) (X7 : S288x56.Idx → EReal) (r c : ℕ) : EReal :=
  if r = b then at2 X15 0 c else at2 X7 r c

theorem off8_eq (i : grid0.Coords) : k0_off8 i = ![min ((i 0).val - 2) 287, 0] := by
  have h_c287 : Affine.IsInt 287#32 (287) := Affine.ofNat _ (by omega)
  have h_c0 : Affine.IsInt 0#32 (0) := Affine.ofNat _ (by omega)
  have r_i0 : (i 0).val < 290 := (i 0).isLt
  have h_arg0 : Affine.IsInt (BitVec.ofNat 32 (i 0).val) (((i 0).val : Int)) := Affine.ofNat _ (by omega)
  have h_c2 : Affine.IsInt 2#32 (2) := Affine.ofNat _ (by omega)
  have h16 : Affine.IsInt _ (((i 0).val : Int) - 2) := Affine.subi h_arg0 h_c2 (by omega)
  have h17 : Affine.IsInt _ ((max 0 (((i 0).val : Int) - 2))) := Affine.maxsi h_c0 h16 (by omega)
  have h18 : Affine.IsInt _ ((max 0 (((i 0).val : Int) - 2))) := Affine.minsi h_c287 h17 (by omega)
  have h20 := Affine.toNat_of (Affine.indexCast h18) (by omega)
  have e : (Scalar.indexCast (Scalar.minsi 287#32 (Scalar.maxsi 0#32 (Scalar.subi (BitVec.ofNat 32 (i 0).val) 2#32)))).toNat = min ((i 0).val - 2) 287 := by
    omega
  show ![_, 0] = _
  rw [← e]

/-- The array of the first row group of the largest magnitudes after the loop. -/
def firstMax (X13 : S56x8x128.Idx → EReal) : S1x8x128.Idx → EReal := fun x => X13 ((Rect.unit (s := S56x8x128) ![0, 0, 0] S1x8x128.size inb_S56x8x128_S1x8x128_0_0_0).toLoadRect.idx x)

set_option maxHeartbeats 4000000 in
set_option maxRecDepth 65536 in
/-- The loop and the store of the scales after it. -/
theorem tail15 (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (Y1 : S16128.Idx → EReal) (Y2 : S128x7168.Idx → EReal) (Y3 : S1x64x7168.Idx → EReal) (Y4 : S128x64.Idx → EReal) (Y5 : S2x128.Idx → EReal) (Y6 : S128x7168.Idx → EReal) (Y7 : S288x56.Idx → EReal) (Y8 : S128x256.Idx → EReal) (Y9 : S28x128x256.Idx → EReal) (Y10 : S28x128x256.Idx → EReal) (Y11 : S128x128.Idx → EReal) (Y12 : S128x128.Idx → EReal) (Y13 : S56x8x128.Idx → EReal) (Y14 : S56x8x128.Idx → EReal) (Y15 : S8x128.Idx → EReal) (Q : (Σ' (v3 : BitVec 32) (v22 : IVec S8x128 32) (v23 : FVec Ideal S8x128 .f32) (v25 : IVec S8x128 1), FVec Ideal S8x128 .f32) → sProp (MT nD τ sig Unit (Elt Ideal) ℕ (UR sig nD τ) ℕ)) :
    (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15) : sProp (MT nD τ sig Unit (Elt Ideal) ℕ (UR sig nD τ) ℕ)) ⊢ iprop((iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare (fun y => mix6 7 Y10 Y14 Y6 (y 0).val (y 1).val) ∗ owns (c : Thread nD τ) arg7 fullShare (fun y => scaleRow (min ((i 0).val - 2) 287) Y15 Y7 (y 0).val (y 1).val) ∗ owns (c : Thread nD τ) arg8 fullShare Y8 ∗ owns (c : Thread nD τ) arg9 fullShare (fun y => mix9 7 (merged Y1 Y2 Y3 Y8 (min (i 0).val 287)) Y9 (y 0).val (y 1).val (y 2).val) ∗ owns (c : Thread nD τ) arg10 fullShare (fun y => mix10 7 Y9 Y12 Y10 (y 0).val (y 1).val (y 2).val) ∗ owns (c : Thread nD τ) arg11 fullShare (fun y => mix11 7 (merged Y1 Y2 Y3 Y8 (min (i 0).val 287)) Y11 (y 0).val (y 1).val) ∗ owns (c : Thread nD τ) arg12 fullShare Y12 ∗ owns (c : Thread nD τ) arg13 fullShare (fun y => mix13 7 Y9 Y12 Y13 (y 0).val (y 1).val (y 2).val) ∗ owns (c : Thread nD τ) arg14 fullShare Y14 ∗ owns (c : Thread nD τ) arg15 fullShare Y15) -∗ Q ⟨Scalar.minsi (BitVec.ofNat 32 (i 0).val) 287#32, iota .tc S8x128 32 [1] iota_S8x128_d1_w32, k0_pay71 (F := Ideal), k0_pay72, k0_pay73 (firstMax (fun y => mix13 7 Y9 Y12 Y13 (y 0).val (y 1).val (y 2).val))⟩)
      -∗ wp frame (wpE (defs₀ (F := Ideal)) Variants.none c none) Set.univ
      (Scf.Loop.for k0_t1_loop k0_t1_ok ⟨⟩ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 (Scalar.minsi (BitVec.ofNat 32 (i 0).val) 287#32)) >>= (fun _ => (do
      let v19 ← Prog.lift (TpuEff.load arg15 (Rect.unit (s := S8x128) ![0, 0] S1x56.size inb_S8x128_S1x56_0_0).toLoadRect (View.loadsAt_vmem h_S1x56))
      let _ ← Prog.lift (TpuEff.load arg7 (Rect.unit (s := S288x56) (k0_off8 i) S1x56.size (k0_off8_inb i)).toLoadRect (View.loadsAt_vmem h_S1x56))
      Prog.lift (TpuEff.store arg7 (Rect.unit (s := S288x56) (k0_off8 i) S1x56.size (k0_off8_inb i)) v19 Finset.univ (View.stores_vmem_bits_univ h_S1x56 rfl) (.inl rfl))
      let v26 ← Prog.lift (TpuEff.load arg13 (Rect.unit (s := S56x8x128) ![0, 0, 0] S1x8x128.size inb_S56x8x128_S1x8x128_0_0_0).toLoadRect (View.loadsAt_vmem h_S1x8x128))
      pure ⟨Scalar.minsi (BitVec.ofNat 32 (i 0).val) 287#32, iota .tc S8x128 32 [1] iota_S8x128_d1_w32, k0_pay71 (F := Ideal), k0_pay72, k0_pay73 v26⟩ :
    Prog (TpuEff nD τ sig (Elt Ideal) Λ₀ .tc) (Σ' (v3 : BitVec 32) (v22 : IVec S8x128 32) (v23 : FVec Ideal S8x128 .f32) (v25 : IVec S8x128 1), FVec Ideal S8x128 .f32)))) Q) := by
  have o8 : k0_off8 i = ![min ((i 0).val - 2) 287, 0] := off8_eq i
  iintro ⟨H1, H2, H3, H4, H5, H6, H7, H8, H9, H10, H11, H12, H13, H14, H15⟩ Hk
  iapply (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 (Scalar.minsi (BitVec.ofNat 32 (i 0).val) 287#32) Y1 Y2 Y3 Y8 Y12 Y14 Y6 Y9 Y10 Y11 Y13 _ Q) $$ [H1 H2 H3 H8 H12 H14 H6 H9 H10 H11 H13]
  · isplitl [H1]
    · iexact H1
    isplitl [H2]
    · iexact H2
    isplitl [H3]
    · iexact H3
    isplitl [H8]
    · iexact H8
    isplitl [H12]
    · iexact H12
    isplitl [H14]
    · iexact H14
    isplitl [H6]
    · iexact H6
    isplitl [H9]
    · iexact H9
    isplitl [H10]
    · iexact H10
    isplitl [H11]
    · iexact H11
    iexact H13
  iintro ⟨H1, H2, H3, H8, H12, H14, H6, H9, H10, H11, H13⟩
  unfold owns
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  icases H15 with ⟨%f15, %e15, H15⟩
  sl_exec
  sl_step
  have e13' : k0_pay73 (F := Ideal) (View.readAt (Elt Ideal) arg13.view (Rect.unit (s := S56x8x128) ![0, 0, 0] S1x8x128.size inb_S56x8x128_S1x8x128_0_0_0).toLoadRect f13) = k0_pay73 (firstMax (fun y => mix13 7 Y9 Y12 Y13 (y 0).val (y 1).val (y 2).val)) := by
    rw [← e13]; rfl
  rw [← e13']
  iapply Hk
  isplitl [H1]
  · iexists _; isplitr; swap; · iexact H1
    ipureintro
    exact e1
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    obtain rfl := e7
    obtain rfl := e15
    refine read_writes_eq _ _ _ _ (List.forall_mem_cons.2 ⟨?_, fun _ h => absurd h List.not_mem_nil⟩) ?_
    · exact piece2 (scaleRow (min ((i 0).val - 2) 287) (arg15.view.read (Elt Ideal) f15) (arg7.view.read (Elt Ideal) f7)) o8 (k0_off8_inb i) _ fun r c =>
        (ldw (arg15.view.read (Elt Ideal) f15) rfl inb_S8x128_S1x56_0_0 r c).trans (by
          have := r.isLt
          unfold scaleRow
          rw [if_pos (by omega), Nat.zero_add, show r.val = 0 by omega])
    · intro y hy
      obtain ⟨n0, hy⟩ := List.forall_mem_cons.1 hy
      replace n0 := off2 o8 (inb := k0_off8_inb i) n0
      have h1 : (y 1).val < 56 := (y 1).isLt
      refine (at2_idx _ y).trans (Eq.symm ?_)
      show scaleRow _ _ _ _ _ = _
      unfold scaleRow
      exact if_neg (by omega)
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  iexists _; isplitr; swap; · iexact H15
  ipureintro
  exact e15

end Cert.KernelIdeal.Hand
end
-- ==== Proof.Pay.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Tile
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

set_option maxRecDepth 65536

/-- The largest entry over the lanes of row `s` of group `q`. -/
abbrev laneMax (X : S56x8x128.Idx → EReal) (q s : ℕ) : EReal :=
  Finset.fold max (Ideal.ofBits FTy.f32 4286578688#32) (fun c : Fin 128 => at3 X q s c.val) Finset.univ

/-- Row `s` of the table whose lane `l` holds the largest entry of group `l` for the groups below `n`, and zero elsewhere. -/
def pick (X : S56x8x128.Idx → EReal) (n s l : ℕ) : EReal := if l < n then laneMax X l s else 0

/-- Lane `l` of the row of largest magnitudes. -/
def rowAmax (X : S56x8x128.Idx → EReal) (l : ℕ) : EReal :=
  Finset.fold max (Ideal.ofBits FTy.f32 4286578688#32) (fun s : Fin 8 => pick X 56 s.val l) Finset.univ

/-- One step of the search for the exponent. -/
def bstep (x : EReal) (k s : BitVec 32) : BitVec 32 :=
  if Ideal.ofBits FTy.f32 (IntOp.shli ArithUnit.vector (IntOp.addi k s) 23#32) ≤ x then IntOp.addi k s else k

/-- The exponent field found by the search. -/
def biased (x : EReal) : BitVec 32 :=
  bstep x (bstep x (bstep x (bstep x (bstep x (bstep x (bstep x (bstep x 0#32 128#32) 64#32) 32#32) 16#32) 8#32) 4#32) 2#32) 1#32

/-- The exponent of a block whose largest magnitude is `a`. -/
def blockExp (a : EReal) : BitVec 32 :=
  if biased (a * Ideal.ofBits FTy.f32 991054117#32) = 0#32 then 0#32 else IntOp.subi (biased (a * Ideal.ofBits FTy.f32 991054117#32)) 126#32

/-- The float whose exponent field is `e` plus the bias. -/
def pow2b (e : BitVec 32) : EReal := Ideal.ofBits FTy.f32 (IntOp.shli ArithUnit.vector (IntOp.addi e 127#32) 23#32)

/-- The gain of row `r` of band `b`: its magnitude over the norm of its row, a norm of zero read as one. -/
def gainAt (b : ℕ) (X5 : S2x128.Idx → EReal) (X11 : S128x128.Idx → EReal) (r : ℕ) : EReal :=
  Ideal.div (if 144 ≤ b then at2 X5 1 r else at2 X5 0 r)
    (if Ideal.sqrt (∑ x : Fin 128, at2 X11 r x.val) = 0 then 1 else Ideal.sqrt (∑ x : Fin 128, at2 X11 r x.val))

theorem sel_eq {α : Type} (a b : BitVec 32) (x y : α) : Scalar.select (IntOp.cmpi CmpIPredicate.eq a b) x y = if a = b then x else y := by
  by_cases h : a = b
  · subst h
    rw [if_pos rfl]
    show (if BitVec.ofBool (a == a) = 1#1 then x else y) = x
    rw [beq_self_eq_true]; exact if_pos rfl
  · rw [if_neg h]
    show (if BitVec.ofBool (a == b) = 1#1 then x else y) = y
    rw [beq_eq_false_iff_ne.2 h]; exact if_neg (by decide)

theorem pick_step (X : S56x8x128.Idx → EReal) (q s : ℕ) (hq : q < 128) {l : Fin 128} {v : EReal} (hv : v = pick X q s l.val) :
    Scalar.select (IntOp.cmpi CmpIPredicate.eq (BitVec.ofNat 32 l.val) (BitVec.ofNat 32 q)) (laneMax X q s) v = pick X (q + 1) s l.val := by
  have hl := l.isLt
  have e : (BitVec.ofNat 32 l.val = BitVec.ofNat 32 q) ↔ l.val = q := by
    constructor
    · intro h
      have := congrArg BitVec.toNat h
      simp only [BitVec.toNat_ofNat] at this
      omega
    · intro h; rw [h]
  subst hv
  rw [sel_eq]
  unfold pick
  by_cases h : l.val = q
  · rw [if_pos (e.2 h), if_pos (show l.val < q + 1 by omega), h]
  · rw [if_neg (mt e.1 h)]
    by_cases h2 : l.val < q
    · rw [if_pos h2, if_pos (show l.val < q + 1 by omega)]
    · rw [if_neg h2, if_neg (show ¬ l.val < q + 1 by omega)]

theorem laneMax_eq (X : S56x8x128.Idx → EReal) (q : ℕ) (a : S1x8x128.Idx → EReal)
    (ha : ∀ (r : Fin 8) (c : Fin 128), a (ix3 0 r c) = at3 X q r.val c.val) (r : Fin 8) :
    Finset.fold max (Ideal.ofBits FTy.f32 4286578688#32) (fun c : Fin 128 => a (ix3 0 r c)) Finset.univ = laneMax X q r.val := by
  unfold laneMax
  exact congrArg (fun f => Finset.fold max (Ideal.ofBits FTy.f32 4286578688#32) f Finset.univ) (funext fun c => ha r c)

theorem pick74 (X : S56x8x128.Idx → EReal) (a0 : S8x128.Idx → EReal) (a1 a2 a3 : S1x8x128.Idx → EReal)
    (h0 : ∀ (r : Fin 8) (c : Fin 128), a0 (ix2 r c) = at3 X 0 r.val c.val)
    (h1 : ∀ (r : Fin 8) (c : Fin 128), a1 (ix3 0 r c) = at3 X 1 r.val c.val)
    (h2 : ∀ (r : Fin 8) (c : Fin 128), a2 (ix3 0 r c) = at3 X 2 r.val c.val)
    (h3 : ∀ (r : Fin 8) (c : Fin 128), a3 (ix3 0 r c) = at3 X 3 r.val c.val)
    (r : Fin 8) (y : Fin 128) :
    k0_pay74 (F := Ideal) (iota .tc S8x128 32 [1] iota_S8x128_d1_w32) (k0_pay71 (F := Ideal)) k0_pay72 a0 a1 a2 a3 (ix2 r y) = pick X 4 r.val y.val := by
  pointwise [k0_pay74, k0_pay71, k0_pay72]
  rw [laneMax_eq X 3 a3 h3 r, laneMax_eq X 2 a2 h2 r, laneMax_eq X 1 a1 h1 r]
  rw [show (fun x => a0 (ix2 r x)) = (fun c : Fin 128 => at3 X 0 r.val c.val) from funext fun c => h0 r c]
  exact pick_step X 3 _ (by decide) (pick_step X 2 _ (by decide) (pick_step X 1 _ (by decide) (pick_step X 0 _ (by decide) (if_neg (Nat.not_lt_zero _)).symm)))

theorem pick77 (X : S56x8x128.Idx → EReal) (g : S8x128.Idx → EReal) (a4 a5 a6 a7 a8 : S1x8x128.Idx → EReal)
    (hg : ∀ (r : Fin 8) (y : Fin 128), g (ix2 r y) = pick X 4 r.val y.val)
    (h4 : ∀ (r : Fin 8) (c : Fin 128), a4 (ix3 0 r c) = at3 X 4 r.val c.val)
    (h5 : ∀ (r : Fin 8) (c : Fin 128), a5 (ix3 0 r c) = at3 X 5 r.val c.val)
    (h6 : ∀ (r : Fin 8) (c : Fin 128), a6 (ix3 0 r c) = at3 X 6 r.val c.val)
    (h7 : ∀ (r : Fin 8) (c : Fin 128), a7 (ix3 0 r c) = at3 X 7 r.val c.val)
    (h8 : ∀ (r : Fin 8) (c : Fin 128), a8 (ix3 0 r c) = at3 X 8 r.val c.val)
    (r : Fin 8) (y : Fin 128) :
    k0_pay77 (F := Ideal) (iota .tc S8x128 32 [1] iota_S8x128_d1_w32) g (k0_pay75 (iota .tc S8x128 32 [1] iota_S8x128_d1_w32)) (k0_pay76 a4) a5 a6 a7 a8 (ix2 r y) = pick X 9 r.val y.val := by
  pointwise [k0_pay77, k0_pay75, k0_pay76]
  rw [laneMax_eq X 8 a8 h8 r, laneMax_eq X 7 a7 h7 r, laneMax_eq X 6 a6 h6 r, laneMax_eq X 5 a5 h5 r, laneMax_eq X 4 a4 h4 r]
  exact pick_step X 8 _ (by decide) (pick_step X 7 _ (by decide) (pick_step X 6 _ (by decide) (pick_step X 5 _ (by decide) (pick_step X 4 _ (by decide) (hg r y)))))

theorem pick79 (X : S56x8x128.Idx → EReal) (g : S8x128.Idx → EReal) (a9 a10 a11 a12 : S1x8x128.Idx → EReal)
    (hg : ∀ (r : Fin 8) (y : Fin 128), g (ix2 r y) = pick X 9 r.val y.val)
    (h9 : ∀ (r : Fin 8) (c : Fin 128), a9 (ix3 0 r c) = at3 X 9 r.val c.val)
    (h10 : ∀ (r : Fin 8) (c : Fin 128), a10 (ix3 0 r c) = at3 X 10 r.val c.val)
    (h11 : ∀ (r : Fin 8) (c : Fin 128), a11 (ix3 0 r c) = at3 X 11 r.val c.val)
    (h12 : ∀ (r : Fin 8) (c : Fin 128), a12 (ix3 0 r c) = at3 X 12 r.val c.val)
    (r : Fin 8) (y : Fin 128) :
    k0_pay79 (F := Ideal) (iota .tc S8x128 32 [1] iota_S8x128_d1_w32) g k0_pay78 a9 a10 a11 a12 (ix2 r y) = pick X 13 r.val y.val := by
  pointwise [k0_pay79, k0_pay78]
  rw [laneMax_eq X 12 a12 h12 r, laneMax_eq X 11 a11 h11 r, laneMax_eq X 10 a10 h10 r, laneMax_eq X 9 a9 h9 r]
  exact pick_step X 12 _ (by decide) (pick_step X 11 _ (by decide) (pick_step X 10 _ (by decide) (pick_step X 9 _ (by decide) (hg r y))))

theorem pick81 (X : S56x8x128.Idx → EReal) (g : S8x128.Idx → EReal) (a13 a14 a15 a16 : S1x8x128.Idx → EReal)
    (hg : ∀ (r : Fin 8) (y : Fin 128), g (ix2 r y) = pick X 13 r.val y.val)
    (h13 : ∀ (r : Fin 8) (c : Fin 128), a13 (ix3 0 r c) = at3 X 13 r.val c.val)
    (h14 : ∀ (r : Fin 8) (c : Fin 128), a14 (ix3 0 r c) = at3 X 14 r.val c.val)
    (h15 : ∀ (r : Fin 8) (c : Fin 128), a15 (ix3 0 r c) = at3 X 15 r.val c.val)
    (h16 : ∀ (r : Fin 8) (c : Fin 128), a16 (ix3 0 r c) = at3 X 16 r.val c.val)
    (r : Fin 8) (y : Fin 128) :
    k0_pay81 (F := Ideal) (iota .tc S8x128 32 [1] iota_S8x128_d1_w32) g (k0_pay80 (iota .tc S8x128 32 [1] iota_S8x128_d1_w32)) a13 a14 a15 a16 (ix2 r y) = pick X 17 r.val y.val := by
  pointwise [k0_pay81, k0_pay80]
  rw [laneMax_eq X 16 a16 h16 r, laneMax_eq X 15 a15 h15 r, laneMax_eq X 14 a14 h14 r, laneMax_eq X 13 a13 h13 r]
  exact pick_step X 16 _ (by decide) (pick_step X 15 _ (by decide) (pick_step X 14 _ (by decide) (pick_step X 13 _ (by decide) (hg r y))))

theorem pick84 (X : S56x8x128.Idx → EReal) (g : S8x128.Idx → EReal) (a17 a18 a19 a20 a21 : S1x8x128.Idx → EReal)
    (hg : ∀ (r : Fin 8) (y : Fin 128), g (ix2 r y) = pick X 17 r.val y.val)
    (h17 : ∀ (r : Fin 8) (c : Fin 128), a17 (ix3 0 r c) = at3 X 17 r.val c.val)
    (h18 : ∀ (r : Fin 8) (c : Fin 128), a18 (ix3 0 r c) = at3 X 18 r.val c.val)
    (h19 : ∀ (r : Fin 8) (c : Fin 128), a19 (ix3 0 r c) = at3 X 19 r.val c.val)
    (h20 : ∀ (r : Fin 8) (c : Fin 128), a20 (ix3 0 r c) = at3 X 20 r.val c.val)
    (h21 : ∀ (r : Fin 8) (c : Fin 128), a21 (ix3 0 r c) = at3 X 21 r.val c.val)
    (r : Fin 8) (y : Fin 128) :
    k0_pay84 (F := Ideal) (iota .tc S8x128 32 [1] iota_S8x128_d1_w32) g (k0_pay82 (iota .tc S8x128 32 [1] iota_S8x128_d1_w32)) (k0_pay83 a17) a18 a19 a20 a21 (ix2 r y) = pick X 22 r.val y.val := by
  pointwise [k0_pay84, k0_pay82, k0_pay83]
  rw [laneMax_eq X 21 a21 h21 r, laneMax_eq X 20 a20 h20 r, laneMax_eq X 19 a19 h19 r, laneMax_eq X 18 a18 h18 r, laneMax_eq X 17 a17 h17 r]
  exact pick_step X 21 _ (by decide) (pick_step X 20 _ (by decide) (pick_step X 19 _ (by decide) (pick_step X 18 _ (by decide) (pick_step X 17 _ (by decide) (hg r y)))))

theorem pick85 (X : S56x8x128.Idx → EReal) (g : S8x128.Idx → EReal) (a22 a23 a24 a25 : S1x8x128.Idx → EReal)
    (hg : ∀ (r : Fin 8) (y : Fin 128), g (ix2 r y) = pick X 22 r.val y.val)
    (h22 : ∀ (r : Fin 8) (c : Fin 128), a22 (ix3 0 r c) = at3 X 22 r.val c.val)
    (h23 : ∀ (r : Fin 8) (c : Fin 128), a23 (ix3 0 r c) = at3 X 23 r.val c.val)
    (h24 : ∀ (r : Fin 8) (c : Fin 128), a24 (ix3 0 r c) = at3 X 24 r.val c.val)
    (h25 : ∀ (r : Fin 8) (c : Fin 128), a25 (ix3 0 r c) = at3 X 25 r.val c.val)
    (r : Fin 8) (y : Fin 128) :
    k0_pay85 (F := Ideal) (iota .tc S8x128 32 [1] iota_S8x128_d1_w32) g  a22 a23 a24 a25 (ix2 r y) = pick X 26 r.val y.val := by
  pointwise [k0_pay85]
  rw [laneMax_eq X 25 a25 h25 r, laneMax_eq X 24 a24 h24 r, laneMax_eq X 23 a23 h23 r, laneMax_eq X 22 a22 h22 r]
  exact pick_step X 25 _ (by decide) (pick_step X 24 _ (by decide) (pick_step X 23 _ (by decide) (pick_step X 22 _ (by decide) (hg r y))))

theorem pick87 (X : S56x8x128.Idx → EReal) (g : S8x128.Idx → EReal) (a26 a27 a28 a29 : S1x8x128.Idx → EReal)
    (hg : ∀ (r : Fin 8) (y : Fin 128), g (ix2 r y) = pick X 26 r.val y.val)
    (h26 : ∀ (r : Fin 8) (c : Fin 128), a26 (ix3 0 r c) = at3 X 26 r.val c.val)
    (h27 : ∀ (r : Fin 8) (c : Fin 128), a27 (ix3 0 r c) = at3 X 27 r.val c.val)
    (h28 : ∀ (r : Fin 8) (c : Fin 128), a28 (ix3 0 r c) = at3 X 28 r.val c.val)
    (h29 : ∀ (r : Fin 8) (c : Fin 128), a29 (ix3 0 r c) = at3 X 29 r.val c.val)
    (r : Fin 8) (y : Fin 128) :
    k0_pay87 (F := Ideal) (iota .tc S8x128 32 [1] iota_S8x128_d1_w32) g (k0_pay86 (iota .tc S8x128 32 [1] iota_S8x128_d1_w32)) a26 a27 a28 a29 (ix2 r y) = pick X 30 r.val y.val := by
  pointwise [k0_pay87, k0_pay86]
  rw [laneMax_eq X 29 a29 h29 r, laneMax_eq X 28 a28 h28 r, laneMax_eq X 27 a27 h27 r, laneMax_eq X 26 a26 h26 r]
  exact pick_step X 29 _ (by decide) (pick_step X 28 _ (by decide) (pick_step X 27 _ (by decide) (pick_step X 26 _ (by decide) (hg r y))))

theorem pick90 (X : S56x8x128.Idx → EReal) (g : S8x128.Idx → EReal) (a30 a31 a32 a33 : S1x8x128.Idx → EReal)
    (hg : ∀ (r : Fin 8) (y : Fin 128), g (ix2 r y) = pick X 30 r.val y.val)
    (h30 : ∀ (r : Fin 8) (c : Fin 128), a30 (ix3 0 r c) = at3 X 30 r.val c.val)
    (h31 : ∀ (r : Fin 8) (c : Fin 128), a31 (ix3 0 r c) = at3 X 31 r.val c.val)
    (h32 : ∀ (r : Fin 8) (c : Fin 128), a32 (ix3 0 r c) = at3 X 32 r.val c.val)
    (h33 : ∀ (r : Fin 8) (c : Fin 128), a33 (ix3 0 r c) = at3 X 33 r.val c.val)
    (r : Fin 8) (y : Fin 128) :
    k0_pay90 (F := Ideal) (iota .tc S8x128 32 [1] iota_S8x128_d1_w32) g (k0_pay88 (iota .tc S8x128 32 [1] iota_S8x128_d1_w32)) (k0_pay89 a30) a31 a32 a33 (ix2 r y) = pick X 34 r.val y.val := by
  pointwise [k0_pay90, k0_pay88, k0_pay89]
  rw [laneMax_eq X 33 a33 h33 r, laneMax_eq X 32 a32 h32 r, laneMax_eq X 31 a31 h31 r, laneMax_eq X 30 a30 h30 r]
  exact pick_step X 33 _ (by decide) (pick_step X 32 _ (by decide) (pick_step X 31 _ (by decide) (pick_step X 30 _ (by decide) (hg r y))))

theorem pick93 (X : S56x8x128.Idx → EReal) (g : S8x128.Idx → EReal) (a34 a35 a36 a37 a38 : S1x8x128.Idx → EReal)
    (hg : ∀ (r : Fin 8) (y : Fin 128), g (ix2 r y) = pick X 34 r.val y.val)
    (h34 : ∀ (r : Fin 8) (c : Fin 128), a34 (ix3 0 r c) = at3 X 34 r.val c.val)
    (h35 : ∀ (r : Fin 8) (c : Fin 128), a35 (ix3 0 r c) = at3 X 35 r.val c.val)
    (h36 : ∀ (r : Fin 8) (c : Fin 128), a36 (ix3 0 r c) = at3 X 36 r.val c.val)
    (h37 : ∀ (r : Fin 8) (c : Fin 128), a37 (ix3 0 r c) = at3 X 37 r.val c.val)
    (h38 : ∀ (r : Fin 8) (c : Fin 128), a38 (ix3 0 r c) = at3 X 38 r.val c.val)
    (r : Fin 8) (y : Fin 128) :
    k0_pay93 (F := Ideal) (iota .tc S8x128 32 [1] iota_S8x128_d1_w32) g (k0_pay91 (iota .tc S8x128 32 [1] iota_S8x128_d1_w32)) (k0_pay92 a34) a35 a36 a37 a38 (ix2 r y) = pick X 39 r.val y.val := by
  pointwise [k0_pay93, k0_pay91, k0_pay92]
  rw [laneMax_eq X 38 a38 h38 r, laneMax_eq X 37 a37 h37 r, laneMax_eq X 36 a36 h36 r, laneMax_eq X 35 a35 h35 r, laneMax_eq X 34 a34 h34 r]
  exact pick_step X 38 _ (by decide) (pick_step X 37 _ (by decide) (pick_step X 36 _ (by decide) (pick_step X 35 _ (by decide) (pick_step X 34 _ (by decide) (hg r y)))))

theorem pick95 (X : S56x8x128.Idx → EReal) (g : S8x128.Idx → EReal) (a39 a40 a41 a42 : S1x8x128.Idx → EReal)
    (hg : ∀ (r : Fin 8) (y : Fin 128), g (ix2 r y) = pick X 39 r.val y.val)
    (h39 : ∀ (r : Fin 8) (c : Fin 128), a39 (ix3 0 r c) = at3 X 39 r.val c.val)
    (h40 : ∀ (r : Fin 8) (c : Fin 128), a40 (ix3 0 r c) = at3 X 40 r.val c.val)
    (h41 : ∀ (r : Fin 8) (c : Fin 128), a41 (ix3 0 r c) = at3 X 41 r.val c.val)
    (h42 : ∀ (r : Fin 8) (c : Fin 128), a42 (ix3 0 r c) = at3 X 42 r.val c.val)
    (r : Fin 8) (y : Fin 128) :
    k0_pay95 (F := Ideal) (iota .tc S8x128 32 [1] iota_S8x128_d1_w32) g k0_pay94 a39 a40 a41 a42 (ix2 r y) = pick X 43 r.val y.val := by
  pointwise [k0_pay95, k0_pay94]
  rw [laneMax_eq X 42 a42 h42 r, laneMax_eq X 41 a41 h41 r, laneMax_eq X 40 a40 h40 r, laneMax_eq X 39 a39 h39 r]
  exact pick_step X 42 _ (by decide) (pick_step X 41 _ (by decide) (pick_step X 40 _ (by decide) (pick_step X 39 _ (by decide) (hg r y))))

theorem pick97 (X : S56x8x128.Idx → EReal) (g : S8x128.Idx → EReal) (a43 a44 a45 a46 : S1x8x128.Idx → EReal)
    (hg : ∀ (r : Fin 8) (y : Fin 128), g (ix2 r y) = pick X 43 r.val y.val)
    (h43 : ∀ (r : Fin 8) (c : Fin 128), a43 (ix3 0 r c) = at3 X 43 r.val c.val)
    (h44 : ∀ (r : Fin 8) (c : Fin 128), a44 (ix3 0 r c) = at3 X 44 r.val c.val)
    (h45 : ∀ (r : Fin 8) (c : Fin 128), a45 (ix3 0 r c) = at3 X 45 r.val c.val)
    (h46 : ∀ (r : Fin 8) (c : Fin 128), a46 (ix3 0 r c) = at3 X 46 r.val c.val)
    (r : Fin 8) (y : Fin 128) :
    k0_pay97 (F := Ideal) (iota .tc S8x128 32 [1] iota_S8x128_d1_w32) g (k0_pay96 (iota .tc S8x128 32 [1] iota_S8x128_d1_w32)) a43 a44 a45 a46 (ix2 r y) = pick X 47 r.val y.val := by
  pointwise [k0_pay97, k0_pay96]
  rw [laneMax_eq X 46 a46 h46 r, laneMax_eq X 45 a45 h45 r, laneMax_eq X 44 a44 h44 r, laneMax_eq X 43 a43 h43 r]
  exact pick_step X 46 _ (by decide) (pick_step X 45 _ (by decide) (pick_step X 44 _ (by decide) (pick_step X 43 _ (by decide) (hg r y))))

theorem pick100 (X : S56x8x128.Idx → EReal) (g : S8x128.Idx → EReal) (a47 a48 a49 a50 a51 : S1x8x128.Idx → EReal)
    (hg : ∀ (r : Fin 8) (y : Fin 128), g (ix2 r y) = pick X 47 r.val y.val)
    (h47 : ∀ (r : Fin 8) (c : Fin 128), a47 (ix3 0 r c) = at3 X 47 r.val c.val)
    (h48 : ∀ (r : Fin 8) (c : Fin 128), a48 (ix3 0 r c) = at3 X 48 r.val c.val)
    (h49 : ∀ (r : Fin 8) (c : Fin 128), a49 (ix3 0 r c) = at3 X 49 r.val c.val)
    (h50 : ∀ (r : Fin 8) (c : Fin 128), a50 (ix3 0 r c) = at3 X 50 r.val c.val)
    (h51 : ∀ (r : Fin 8) (c : Fin 128), a51 (ix3 0 r c) = at3 X 51 r.val c.val)
    (r : Fin 8) (y : Fin 128) :
    k0_pay100 (F := Ideal) (iota .tc S8x128 32 [1] iota_S8x128_d1_w32) g (k0_pay98 (iota .tc S8x128 32 [1] iota_S8x128_d1_w32)) (k0_pay99 a47) a48 a49 a50 a51 (ix2 r y) = pick X 52 r.val y.val := by
  pointwise [k0_pay100, k0_pay98, k0_pay99]
  rw [laneMax_eq X 51 a51 h51 r, laneMax_eq X 50 a50 h50 r, laneMax_eq X 49 a49 h49 r, laneMax_eq X 48 a48 h48 r, laneMax_eq X 47 a47 h47 r]
  exact pick_step X 51 _ (by decide) (pick_step X 50 _ (by decide) (pick_step X 49 _ (by decide) (pick_step X 48 _ (by decide) (pick_step X 47 _ (by decide) (hg r y)))))

theorem pick101 (X : S56x8x128.Idx → EReal) (g : S8x128.Idx → EReal) (a52 a53 a54 a55 : S1x8x128.Idx → EReal)
    (hg : ∀ (r : Fin 8) (y : Fin 128), g (ix2 r y) = pick X 52 r.val y.val)
    (h52 : ∀ (r : Fin 8) (c : Fin 128), a52 (ix3 0 r c) = at3 X 52 r.val c.val)
    (h53 : ∀ (r : Fin 8) (c : Fin 128), a53 (ix3 0 r c) = at3 X 53 r.val c.val)
    (h54 : ∀ (r : Fin 8) (c : Fin 128), a54 (ix3 0 r c) = at3 X 54 r.val c.val)
    (h55 : ∀ (r : Fin 8) (c : Fin 128), a55 (ix3 0 r c) = at3 X 55 r.val c.val)
    (y : Fin 128) :
    k0_pay101 (F := Ideal) (iota .tc S8x128 32 [1] iota_S8x128_d1_w32) g a52 a53 a54 a55 (ix2 0 y) = rowAmax X y.val := by
  pointwise [k0_pay101]
  unfold rowAmax
  refine congrArg (fun f => Finset.fold max (Ideal.ofBits FTy.f32 4286578688#32) f Finset.univ) (funext fun r => ?_)
  rw [laneMax_eq X 55 a55 h55 r, laneMax_eq X 54 a54 h54 r, laneMax_eq X 53 a53 h53 r, laneMax_eq X 52 a52 h52 r]
  exact pick_step X 55 _ (by decide) (pick_step X 54 _ (by decide) (pick_step X 53 _ (by decide) (pick_step X 52 _ (by decide) (hg r y))))

theorem step_at (X : FVec Ideal S1x128 .f32) (K : IVec S1x128 32) (s : BitVec 32) (y : Fin 128) :
    (select (cmpf .oge X (bitcastToFloat .f32 (shli (addi K (broadcast S1x128 s)) (broadcast S1x128 23#32)))) (addi K (broadcast S1x128 s)) K : IVec S1x128 32) (ix2 0 y) = bstep (X (ix2 0 y)) (K (ix2 0 y)) s := by
  pointwise
  rfl

theorem step_eq {X : FVec Ideal S1x128 .f32} {K : IVec S1x128 32} {s : BitVec 32} {y : Fin 128} {k : BitVec 32} (hk : K (ix2 0 y) = k) :
    (select (cmpf .oge X (bitcastToFloat .f32 (shli (addi K (broadcast S1x128 s)) (broadcast S1x128 23#32)))) (addi K (broadcast S1x128 s)) K : IVec S1x128 32) (ix2 0 y) = bstep (X (ix2 0 y)) k s :=
  (step_at X K s y).trans (by rw [hk])

theorem pay103_at (v : FVec Ideal S1x128 .f32) (c : EReal) (y : Fin 128) :
    k0_pay103 (F := Ideal) v c (ix2 0 y) =
      bstep (k0_pay102 (F := Ideal) v c (ix2 0 y)) (bstep (k0_pay102 (F := Ideal) v c (ix2 0 y)) (bstep (k0_pay102 (F := Ideal) v c (ix2 0 y)) (bstep (k0_pay102 (F := Ideal) v c (ix2 0 y)) 0#32 128#32) 64#32) 32#32) 16#32 := by
  unfold k0_pay103
  exact step_eq (step_eq (step_eq (step_eq rfl)))

theorem last_eq {K : IVec S1x128 32} {y : Fin 128} {k : BitVec 32} (hk : K (ix2 0 y) = k) :
    (select (cmpi .eq K (broadcast S1x128 0#32)) (broadcast S1x128 0#32) (subi K (broadcast S1x128 126#32)) : IVec S1x128 32) (ix2 0 y) = if k = 0#32 then 0#32 else IntOp.subi k 126#32 := by
  subst hk
  pointwise
  exact sel_eq _ _ _ _

theorem pay105_at (v : FVec Ideal S1x128 .f32) (y : Fin 128) :
    k0_pay105 (F := Ideal) (k0_pay102 v (Scalar.ofBits (F := Ideal) .f32 0x3B124925#32)) (k0_pay103 v (Scalar.ofBits (F := Ideal) .f32 0x3B124925#32)) (k0_pay104 v (Scalar.ofBits (F := Ideal) .f32 0x3B124925#32)) (ix2 0 y) = blockExp (v (ix2 0 y)) := by
  have hb : k0_pay102 (F := Ideal) v (Scalar.ofBits (F := Ideal) .f32 0x3B124925#32) (ix2 0 y) = v (ix2 0 y) * Ideal.ofBits FTy.f32 991054117#32 := by
    pointwise [k0_pay102]
  unfold k0_pay105 k0_pay104
  unfold blockExp biased
  rw [← hb]
  exact last_eq (step_eq (step_eq (step_eq (step_eq (pay103_at v _ y)))))

theorem pay106_at (X : FVec Ideal S1x128 .f32) (K : IVec S1x128 32) (C : IVec S1x128 1) (r : Fin 8) (y : Fin 128) :
    k0_pay107 (k0_pay106 X K C) (ix2 r y) = pow2b (k0_pay105 X K C (ix2 0 y)) := by
  pointwise [k0_pay106, k0_pay107]
  rfl

theorem pay108_at (K : IVec S1x128 32) (r : Fin 8) (y : Fin 128) :
    k0_pay108 (F := Ideal) K (ix2 r y) = pow2b (IntOp.subi 0#32 (K (ix2 0 y))) := by
  pointwise [k0_pay108]
  rfl

theorem pay1_at (i : grid0.Coords) (a b c) (X5 : S2x128.Idx → EReal) (X11 : S128x128.Idx → EReal)
    (ha : ∀ r c : Fin 128, a (ix2 r c) = at2 X11 r.val c.val) (hb : ∀ c : Fin 128, b (ix2 0 c) = at2 X5 1 c.val)
    (hc : ∀ z : Fin 128, c (ix2 0 z) = at2 X5 0 z.val) (r y : Fin 128) :
    k0_pay1 (k0_pay174 (F := Ideal) (Scalar.minsi (BitVec.ofNat 32 (i 0).val) 287#32) a b c) (ix2 r y) = gainAt (min (i 0).val 287) X5 X11 r.val := by
  pointwise [k0_pay174, k0_pay1]
  unfold gainAt
  rw [hb, hc, show (∑ x, a (ix2 r x)) = ∑ x : Fin 128, at2 X11 r.val x.val from Finset.sum_congr rfl fun x _ => ha r x]
  congr 1
  have h287 : Affine.IsInt 287#32 (287) := Affine.ofNat _ (by omega)
  have r_i0 : (i 0).val < 290 := (i 0).isLt
  have h_arg0 : Affine.IsInt (BitVec.ofNat 32 (i 0).val) (((i 0).val : Int)) := Affine.ofNat _ (by omega)
  have hm : Affine.IsInt _ (min ((i 0).val : Int) 287) := Affine.minsi h_arg0 h287 (by omega)
  have e : (Scalar.minsi (BitVec.ofNat 32 (i 0).val) 287#32).toNat = min (i 0).val 287 := by
    have := Affine.toNat_of hm (by omega)
    omega
  have e2 : Scalar.minsi (BitVec.ofNat 32 (i 0).val) 287#32 = BitVec.ofNat 32 (min (i 0).val 287) := by
    apply BitVec.eq_of_toNat_eq
    rw [e, BitVec.toNat_ofNat]; omega
  have e3 : ∀ n : Fin 288, (Scalar.cmpi CmpIPredicate.sge (BitVec.ofNat 32 n.val) 144#32 : BitVec 1) = if 144 ≤ n.val then 1#1 else 0#1 := by decide
  rw [e2]
  refine (congrArg (fun z => Scalar.select z _ _) (e3 ⟨min (i 0).val 287, by omega⟩)).trans ?_
  show Scalar.select (if 144 ≤ min (i 0).val 287 then 1#1 else 0#1) _ _ = _
  by_cases hh : 144 ≤ min (i 0).val 287
  · rw [if_pos hh, if_pos hh]; rfl
  · rw [if_neg hh, if_neg hh]; rfl

/-- A block of the table of inverses, from the row of inverses. -/
theorem ix3_one {m n : ℕ} (t : Fin 1) (r : Fin m) (c : Fin n) : (ix3 t r c : (⟨3, ![1, m, n]⟩ : Shape).Idx) = ix3 0 r c := by
  rw [Subsingleton.elim t 0]

theorem inv_0 (K : IVec S1x128 32) (t : Fin 1) (r : Fin 8) (c : Fin 128) : k0_pay109 (F := Ideal) K (ix3 t r c) = pow2b (IntOp.subi 0#32 (K (ix2 0 0))) := by
  rw [ix3_one]; pointwise [k0_pay109, k0_pay108]; rfl

theorem inv_1 (K : IVec S1x128 32) (t : Fin 1) (r : Fin 8) (c : Fin 128) : k0_pay110 (F := Ideal) K (ix3 t r c) = pow2b (IntOp.subi 0#32 (K (ix2 0 1))) := by
  rw [ix3_one]; pointwise [k0_pay110, k0_pay108]; rfl

theorem inv_2 (K : IVec S1x128 32) (t : Fin 1) (r : Fin 8) (c : Fin 128) : k0_pay111 (F := Ideal) K (ix3 t r c) = pow2b (IntOp.subi 0#32 (K (ix2 0 2))) := by
  rw [ix3_one]; pointwise [k0_pay111, k0_pay108]; rfl

theorem inv_3 (K : IVec S1x128 32) (t : Fin 1) (r : Fin 8) (c : Fin 128) : k0_pay112 (F := Ideal) K (ix3 t r c) = pow2b (IntOp.subi 0#32 (K (ix2 0 3))) := by
  rw [ix3_one]; pointwise [k0_pay112, k0_pay108]; rfl

theorem inv_4 (K : IVec S1x128 32) (t : Fin 1) (r : Fin 8) (c : Fin 128) : k0_pay114 (F := Ideal) (k0_pay113 (F := Ideal) K) (ix3 t r c) = pow2b (IntOp.subi 0#32 (K (ix2 0 4))) := by
  rw [ix3_one]; pointwise [k0_pay114, k0_pay113, k0_pay108]; rfl

theorem inv_5 (K : IVec S1x128 32) (t : Fin 1) (r : Fin 8) (c : Fin 128) : k0_pay115 (F := Ideal) (k0_pay108 (F := Ideal) K) (ix3 t r c) = pow2b (IntOp.subi 0#32 (K (ix2 0 5))) := by
  rw [ix3_one]; pointwise [k0_pay115, k0_pay108]; rfl

theorem inv_6 (K : IVec S1x128 32) (t : Fin 1) (r : Fin 8) (c : Fin 128) : k0_pay116 (F := Ideal) (k0_pay108 (F := Ideal) K) (ix3 t r c) = pow2b (IntOp.subi 0#32 (K (ix2 0 6))) := by
  rw [ix3_one]; pointwise [k0_pay116, k0_pay108]; rfl

theorem inv_7 (K : IVec S1x128 32) (t : Fin 1) (r : Fin 8) (c : Fin 128) : k0_pay117 (F := Ideal) (k0_pay108 (F := Ideal) K) (ix3 t r c) = pow2b (IntOp.subi 0#32 (K (ix2 0 7))) := by
  rw [ix3_one]; pointwise [k0_pay117, k0_pay108]; rfl

theorem inv_8 (K : IVec S1x128 32) (t : Fin 1) (r : Fin 8) (c : Fin 128) : k0_pay118 (F := Ideal) (k0_pay108 (F := Ideal) K) (ix3 t r c) = pow2b (IntOp.subi 0#32 (K (ix2 0 8))) := by
  rw [ix3_one]; pointwise [k0_pay118, k0_pay108]; rfl

theorem inv_9 (K : IVec S1x128 32) (t : Fin 1) (r : Fin 8) (c : Fin 128) : k0_pay119 (F := Ideal) (k0_pay108 (F := Ideal) K) (ix3 t r c) = pow2b (IntOp.subi 0#32 (K (ix2 0 9))) := by
  rw [ix3_one]; pointwise [k0_pay119, k0_pay108]; rfl

theorem inv_10 (K : IVec S1x128 32) (t : Fin 1) (r : Fin 8) (c : Fin 128) : k0_pay121 (F := Ideal) (k0_pay120 (F := Ideal) (k0_pay108 (F := Ideal) K)) (ix3 t r c) = pow2b (IntOp.subi 0#32 (K (ix2 0 10))) := by
  rw [ix3_one]; pointwise [k0_pay121, k0_pay120, k0_pay108]; rfl

theorem inv_11 (K : IVec S1x128 32) (t : Fin 1) (r : Fin 8) (c : Fin 128) : k0_pay122 (F := Ideal) (k0_pay108 (F := Ideal) K) (ix3 t r c) = pow2b (IntOp.subi 0#32 (K (ix2 0 11))) := by
  rw [ix3_one]; pointwise [k0_pay122, k0_pay108]; rfl

theorem inv_12 (K : IVec S1x128 32) (t : Fin 1) (r : Fin 8) (c : Fin 128) : k0_pay123 (F := Ideal) (k0_pay108 (F := Ideal) K) (ix3 t r c) = pow2b (IntOp.subi 0#32 (K (ix2 0 12))) := by
  rw [ix3_one]; pointwise [k0_pay123, k0_pay108]; rfl

theorem inv_13 (K : IVec S1x128 32) (t : Fin 1) (r : Fin 8) (c : Fin 128) : k0_pay124 (F := Ideal) (k0_pay108 (F := Ideal) K) (ix3 t r c) = pow2b (IntOp.subi 0#32 (K (ix2 0 13))) := by
  rw [ix3_one]; pointwise [k0_pay124, k0_pay108]; rfl

theorem inv_14 (K : IVec S1x128 32) (t : Fin 1) (r : Fin 8) (c : Fin 128) : k0_pay125 (F := Ideal) (k0_pay108 (F := Ideal) K) (ix3 t r c) = pow2b (IntOp.subi 0#32 (K (ix2 0 14))) := by
  rw [ix3_one]; pointwise [k0_pay125, k0_pay108]; rfl

theorem inv_15 (K : IVec S1x128 32) (t : Fin 1) (r : Fin 8) (c : Fin 128) : k0_pay126 (F := Ideal) (k0_pay108 (F := Ideal) K) (ix3 t r c) = pow2b (IntOp.subi 0#32 (K (ix2 0 15))) := by
  rw [ix3_one]; pointwise [k0_pay126, k0_pay108]; rfl

theorem inv_16 (K : IVec S1x128 32) (t : Fin 1) (r : Fin 8) (c : Fin 128) : k0_pay128 (F := Ideal) (k0_pay127 (F := Ideal) (k0_pay108 (F := Ideal) K)) (ix3 t r c) = pow2b (IntOp.subi 0#32 (K (ix2 0 16))) := by
  rw [ix3_one]; pointwise [k0_pay128, k0_pay127, k0_pay108]; rfl

theorem inv_17 (K : IVec S1x128 32) (t : Fin 1) (r : Fin 8) (c : Fin 128) : k0_pay129 (F := Ideal) (k0_pay108 (F := Ideal) K) (ix3 t r c) = pow2b (IntOp.subi 0#32 (K (ix2 0 17))) := by
  rw [ix3_one]; pointwise [k0_pay129, k0_pay108]; rfl

theorem inv_18 (K : IVec S1x128 32) (t : Fin 1) (r : Fin 8) (c : Fin 128) : k0_pay130 (F := Ideal) (k0_pay108 (F := Ideal) K) (ix3 t r c) = pow2b (IntOp.subi 0#32 (K (ix2 0 18))) := by
  rw [ix3_one]; pointwise [k0_pay130, k0_pay108]; rfl

theorem inv_19 (K : IVec S1x128 32) (t : Fin 1) (r : Fin 8) (c : Fin 128) : k0_pay131 (F := Ideal) (k0_pay108 (F := Ideal) K) (ix3 t r c) = pow2b (IntOp.subi 0#32 (K (ix2 0 19))) := by
  rw [ix3_one]; pointwise [k0_pay131, k0_pay108]; rfl

theorem inv_20 (K : IVec S1x128 32) (t : Fin 1) (r : Fin 8) (c : Fin 128) : k0_pay132 (F := Ideal) (k0_pay108 (F := Ideal) K) (ix3 t r c) = pow2b (IntOp.subi 0#32 (K (ix2 0 20))) := by
  rw [ix3_one]; pointwise [k0_pay132, k0_pay108]; rfl

theorem inv_21 (K : IVec S1x128 32) (t : Fin 1) (r : Fin 8) (c : Fin 128) : k0_pay133 (F := Ideal) (k0_pay108 (F := Ideal) K) (ix3 t r c) = pow2b (IntOp.subi 0#32 (K (ix2 0 21))) := by
  rw [ix3_one]; pointwise [k0_pay133, k0_pay108]; rfl

theorem inv_22 (K : IVec S1x128 32) (t : Fin 1) (r : Fin 8) (c : Fin 128) : k0_pay135 (F := Ideal) (k0_pay134 (F := Ideal) (k0_pay108 (F := Ideal) K)) (ix3 t r c) = pow2b (IntOp.subi 0#32 (K (ix2 0 22))) := by
  rw [ix3_one]; pointwise [k0_pay135, k0_pay134, k0_pay108]; rfl

theorem inv_23 (K : IVec S1x128 32) (t : Fin 1) (r : Fin 8) (c : Fin 128) : k0_pay136 (F := Ideal) (k0_pay108 (F := Ideal) K) (ix3 t r c) = pow2b (IntOp.subi 0#32 (K (ix2 0 23))) := by
  rw [ix3_one]; pointwise [k0_pay136, k0_pay108]; rfl

theorem inv_24 (K : IVec S1x128 32) (t : Fin 1) (r : Fin 8) (c : Fin 128) : k0_pay137 (F := Ideal) (k0_pay108 (F := Ideal) K) (ix3 t r c) = pow2b (IntOp.subi 0#32 (K (ix2 0 24))) := by
  rw [ix3_one]; pointwise [k0_pay137, k0_pay108]; rfl

theorem inv_25 (K : IVec S1x128 32) (t : Fin 1) (r : Fin 8) (c : Fin 128) : k0_pay138 (F := Ideal) (k0_pay108 (F := Ideal) K) (ix3 t r c) = pow2b (IntOp.subi 0#32 (K (ix2 0 25))) := by
  rw [ix3_one]; pointwise [k0_pay138, k0_pay108]; rfl

theorem inv_26 (K : IVec S1x128 32) (t : Fin 1) (r : Fin 8) (c : Fin 128) : k0_pay139 (F := Ideal) (k0_pay108 (F := Ideal) K) (ix3 t r c) = pow2b (IntOp.subi 0#32 (K (ix2 0 26))) := by
  rw [ix3_one]; pointwise [k0_pay139, k0_pay108]; rfl

theorem inv_27 (K : IVec S1x128 32) (t : Fin 1) (r : Fin 8) (c : Fin 128) : k0_pay140 (F := Ideal) (k0_pay108 (F := Ideal) K) (ix3 t r c) = pow2b (IntOp.subi 0#32 (K (ix2 0 27))) := by
  rw [ix3_one]; pointwise [k0_pay140, k0_pay108]; rfl

theorem inv_28 (K : IVec S1x128 32) (t : Fin 1) (r : Fin 8) (c : Fin 128) : k0_pay142 (F := Ideal) (k0_pay141 (F := Ideal) (k0_pay108 (F := Ideal) K)) (ix3 t r c) = pow2b (IntOp.subi 0#32 (K (ix2 0 28))) := by
  rw [ix3_one]; pointwise [k0_pay142, k0_pay141, k0_pay108]; rfl

theorem inv_29 (K : IVec S1x128 32) (t : Fin 1) (r : Fin 8) (c : Fin 128) : k0_pay143 (F := Ideal) (k0_pay108 (F := Ideal) K) (ix3 t r c) = pow2b (IntOp.subi 0#32 (K (ix2 0 29))) := by
  rw [ix3_one]; pointwise [k0_pay143, k0_pay108]; rfl

theorem inv_30 (K : IVec S1x128 32) (t : Fin 1) (r : Fin 8) (c : Fin 128) : k0_pay144 (F := Ideal) (k0_pay108 (F := Ideal) K) (ix3 t r c) = pow2b (IntOp.subi 0#32 (K (ix2 0 30))) := by
  rw [ix3_one]; pointwise [k0_pay144, k0_pay108]; rfl

theorem inv_31 (K : IVec S1x128 32) (t : Fin 1) (r : Fin 8) (c : Fin 128) : k0_pay145 (F := Ideal) (k0_pay108 (F := Ideal) K) (ix3 t r c) = pow2b (IntOp.subi 0#32 (K (ix2 0 31))) := by
  rw [ix3_one]; pointwise [k0_pay145, k0_pay108]; rfl

theorem inv_32 (K : IVec S1x128 32) (t : Fin 1) (r : Fin 8) (c : Fin 128) : k0_pay146 (F := Ideal) (k0_pay108 (F := Ideal) K) (ix3 t r c) = pow2b (IntOp.subi 0#32 (K (ix2 0 32))) := by
  rw [ix3_one]; pointwise [k0_pay146, k0_pay108]; rfl

theorem inv_33 (K : IVec S1x128 32) (t : Fin 1) (r : Fin 8) (c : Fin 128) : k0_pay147 (F := Ideal) (k0_pay108 (F := Ideal) K) (ix3 t r c) = pow2b (IntOp.subi 0#32 (K (ix2 0 33))) := by
  rw [ix3_one]; pointwise [k0_pay147, k0_pay108]; rfl

theorem inv_34 (K : IVec S1x128 32) (t : Fin 1) (r : Fin 8) (c : Fin 128) : k0_pay149 (F := Ideal) (k0_pay148 (F := Ideal) (k0_pay108 (F := Ideal) K)) (ix3 t r c) = pow2b (IntOp.subi 0#32 (K (ix2 0 34))) := by
  rw [ix3_one]; pointwise [k0_pay149, k0_pay148, k0_pay108]; rfl

theorem inv_35 (K : IVec S1x128 32) (t : Fin 1) (r : Fin 8) (c : Fin 128) : k0_pay150 (F := Ideal) (k0_pay108 (F := Ideal) K) (ix3 t r c) = pow2b (IntOp.subi 0#32 (K (ix2 0 35))) := by
  rw [ix3_one]; pointwise [k0_pay150, k0_pay108]; rfl

theorem inv_36 (K : IVec S1x128 32) (t : Fin 1) (r : Fin 8) (c : Fin 128) : k0_pay151 (F := Ideal) (k0_pay108 (F := Ideal) K) (ix3 t r c) = pow2b (IntOp.subi 0#32 (K (ix2 0 36))) := by
  rw [ix3_one]; pointwise [k0_pay151, k0_pay108]; rfl

theorem inv_37 (K : IVec S1x128 32) (t : Fin 1) (r : Fin 8) (c : Fin 128) : k0_pay152 (F := Ideal) (k0_pay108 (F := Ideal) K) (ix3 t r c) = pow2b (IntOp.subi 0#32 (K (ix2 0 37))) := by
  rw [ix3_one]; pointwise [k0_pay152, k0_pay108]; rfl

theorem inv_38 (K : IVec S1x128 32) (t : Fin 1) (r : Fin 8) (c : Fin 128) : k0_pay153 (F := Ideal) (k0_pay108 (F := Ideal) K) (ix3 t r c) = pow2b (IntOp.subi 0#32 (K (ix2 0 38))) := by
  rw [ix3_one]; pointwise [k0_pay153, k0_pay108]; rfl

theorem inv_39 (K : IVec S1x128 32) (t : Fin 1) (r : Fin 8) (c : Fin 128) : k0_pay154 (F := Ideal) (k0_pay108 (F := Ideal) K) (ix3 t r c) = pow2b (IntOp.subi 0#32 (K (ix2 0 39))) := by
  rw [ix3_one]; pointwise [k0_pay154, k0_pay108]; rfl

theorem inv_40 (K : IVec S1x128 32) (t : Fin 1) (r : Fin 8) (c : Fin 128) : k0_pay156 (F := Ideal) (k0_pay155 (F := Ideal) (k0_pay108 (F := Ideal) K)) (ix3 t r c) = pow2b (IntOp.subi 0#32 (K (ix2 0 40))) := by
  rw [ix3_one]; pointwise [k0_pay156, k0_pay155, k0_pay108]; rfl

theorem inv_41 (K : IVec S1x128 32) (t : Fin 1) (r : Fin 8) (c : Fin 128) : k0_pay157 (F := Ideal) (k0_pay108 (F := Ideal) K) (ix3 t r c) = pow2b (IntOp.subi 0#32 (K (ix2 0 41))) := by
  rw [ix3_one]; pointwise [k0_pay157, k0_pay108]; rfl

theorem inv_42 (K : IVec S1x128 32) (t : Fin 1) (r : Fin 8) (c : Fin 128) : k0_pay158 (F := Ideal) (k0_pay108 (F := Ideal) K) (ix3 t r c) = pow2b (IntOp.subi 0#32 (K (ix2 0 42))) := by
  rw [ix3_one]; pointwise [k0_pay158, k0_pay108]; rfl

theorem inv_43 (K : IVec S1x128 32) (t : Fin 1) (r : Fin 8) (c : Fin 128) : k0_pay159 (F := Ideal) (k0_pay108 (F := Ideal) K) (ix3 t r c) = pow2b (IntOp.subi 0#32 (K (ix2 0 43))) := by
  rw [ix3_one]; pointwise [k0_pay159, k0_pay108]; rfl

theorem inv_44 (K : IVec S1x128 32) (t : Fin 1) (r : Fin 8) (c : Fin 128) : k0_pay160 (F := Ideal) (k0_pay108 (F := Ideal) K) (ix3 t r c) = pow2b (IntOp.subi 0#32 (K (ix2 0 44))) := by
  rw [ix3_one]; pointwise [k0_pay160, k0_pay108]; rfl

theorem inv_45 (K : IVec S1x128 32) (t : Fin 1) (r : Fin 8) (c : Fin 128) : k0_pay161 (F := Ideal) (k0_pay108 (F := Ideal) K) (ix3 t r c) = pow2b (IntOp.subi 0#32 (K (ix2 0 45))) := by
  rw [ix3_one]; pointwise [k0_pay161, k0_pay108]; rfl

theorem inv_46 (K : IVec S1x128 32) (t : Fin 1) (r : Fin 8) (c : Fin 128) : k0_pay163 (F := Ideal) (k0_pay162 (F := Ideal) (k0_pay108 (F := Ideal) K)) (ix3 t r c) = pow2b (IntOp.subi 0#32 (K (ix2 0 46))) := by
  rw [ix3_one]; pointwise [k0_pay163, k0_pay162, k0_pay108]; rfl

theorem inv_47 (K : IVec S1x128 32) (t : Fin 1) (r : Fin 8) (c : Fin 128) : k0_pay164 (F := Ideal) (k0_pay108 (F := Ideal) K) (ix3 t r c) = pow2b (IntOp.subi 0#32 (K (ix2 0 47))) := by
  rw [ix3_one]; pointwise [k0_pay164, k0_pay108]; rfl

theorem inv_48 (K : IVec S1x128 32) (t : Fin 1) (r : Fin 8) (c : Fin 128) : k0_pay165 (F := Ideal) (k0_pay108 (F := Ideal) K) (ix3 t r c) = pow2b (IntOp.subi 0#32 (K (ix2 0 48))) := by
  rw [ix3_one]; pointwise [k0_pay165, k0_pay108]; rfl

theorem inv_49 (K : IVec S1x128 32) (t : Fin 1) (r : Fin 8) (c : Fin 128) : k0_pay166 (F := Ideal) (k0_pay108 (F := Ideal) K) (ix3 t r c) = pow2b (IntOp.subi 0#32 (K (ix2 0 49))) := by
  rw [ix3_one]; pointwise [k0_pay166, k0_pay108]; rfl

theorem inv_50 (K : IVec S1x128 32) (t : Fin 1) (r : Fin 8) (c : Fin 128) : k0_pay167 (F := Ideal) (k0_pay108 (F := Ideal) K) (ix3 t r c) = pow2b (IntOp.subi 0#32 (K (ix2 0 50))) := by
  rw [ix3_one]; pointwise [k0_pay167, k0_pay108]; rfl

theorem inv_51 (K : IVec S1x128 32) (t : Fin 1) (r : Fin 8) (c : Fin 128) : k0_pay168 (F := Ideal) (k0_pay108 (F := Ideal) K) (ix3 t r c) = pow2b (IntOp.subi 0#32 (K (ix2 0 51))) := by
  rw [ix3_one]; pointwise [k0_pay168, k0_pay108]; rfl

theorem inv_52 (K : IVec S1x128 32) (t : Fin 1) (r : Fin 8) (c : Fin 128) : k0_pay170 (F := Ideal) (k0_pay169 (F := Ideal) (k0_pay108 (F := Ideal) K)) (ix3 t r c) = pow2b (IntOp.subi 0#32 (K (ix2 0 52))) := by
  rw [ix3_one]; pointwise [k0_pay170, k0_pay169, k0_pay108]; rfl

theorem inv_53 (K : IVec S1x128 32) (t : Fin 1) (r : Fin 8) (c : Fin 128) : k0_pay171 (F := Ideal) (k0_pay108 (F := Ideal) K) (ix3 t r c) = pow2b (IntOp.subi 0#32 (K (ix2 0 53))) := by
  rw [ix3_one]; pointwise [k0_pay171, k0_pay108]; rfl

theorem inv_54 (K : IVec S1x128 32) (t : Fin 1) (r : Fin 8) (c : Fin 128) : k0_pay172 (F := Ideal) (k0_pay108 (F := Ideal) K) (ix3 t r c) = pow2b (IntOp.subi 0#32 (K (ix2 0 54))) := by
  rw [ix3_one]; pointwise [k0_pay172, k0_pay108]; rfl

theorem inv_55 (K : IVec S1x128 32) (t : Fin 1) (r : Fin 8) (c : Fin 128) : k0_pay173 (F := Ideal) (k0_pay108 (F := Ideal) K) (ix3 t r c) = pow2b (IntOp.subi 0#32 (K (ix2 0 55))) := by
  rw [ix3_one]; pointwise [k0_pay173, k0_pay108]; rfl

end Cert.KernelIdeal.Hand
end
-- ==== Proof.Rest.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Trip
public import proofs.«01_k».proof.Proof.Pay
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

/-- The body after the loop: the block scales and the gains of the next step. -/
def restProg (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (v3 : BitVec 32) (v22 : IVec S8x128 32) (v23 : FVec Ideal S8x128 .f32) (v25 : IVec S8x128 1) (v27 : FVec Ideal S8x128 .f32) :
    Prog (TpuEff nD τ sig (Elt Ideal) Λ₀ .tc) PUnit := do
  let ⟨v59, v61, v66⟩ : Σ' (v59 : FVec Ideal S8x128 .f32) (v61 : IVec S8x128 1), FVec Ideal S8x1 .f32 ← k0_part16 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v23 v25 v27
  let ⟨v104, v105⟩ : Σ' (v104 : FVec Ideal S8x128 .f32), IVec S8x128 32 ← k0_part17 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v59 v61 v66
  let ⟨v140, v142⟩ : Σ' (v140 : FVec Ideal S8x128 .f32), IVec S8x128 1 ← k0_part18 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v104 v105
  let ⟨v176, v178, v181⟩ : Σ' (v176 : FVec Ideal S8x128 .f32) (v178 : IVec S8x128 1), FVec Ideal S8 .f32 ← k0_part19 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v140 v142
  let v221 : FVec Ideal S8x128 .f32 ← k0_part20 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v176 v178 v181
  let ⟨v257, v259⟩ : Σ' (v257 : FVec Ideal S8x128 .f32), IVec S8x128 1 ← k0_part21 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v221
  let ⟨v293, v295, v297⟩ : Σ' (v293 : FVec Ideal S8x128 .f32) (v295 : IVec S8x128 1), FVec Ideal S8x128 .f32 ← k0_part22 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v257 v259
  let ⟨v329, v331, v336⟩ : Σ' (v329 : FVec Ideal S8x128 .f32) (v331 : IVec S8x128 1), FVec Ideal S8x1 .f32 ← k0_part23 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v293 v295 v297
  let ⟨v374, v375⟩ : Σ' (v374 : FVec Ideal S8x128 .f32), IVec S8x128 32 ← k0_part24 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v329 v331 v336
  let ⟨v410, v412⟩ : Σ' (v410 : FVec Ideal S8x128 .f32), IVec S8x128 1 ← k0_part25 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v374 v375
  let ⟨v446, v448, v451⟩ : Σ' (v446 : FVec Ideal S8x128 .f32) (v448 : IVec S8x128 1), FVec Ideal S8 .f32 ← k0_part26 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v410 v412
  let v491 : FVec Ideal S8x128 .f32 ← k0_part27 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v446 v448 v451
  let ⟨v529, cst_188⟩ : Σ' (v529 : FVec Ideal S1x128 .f32), Ideal .f32 ← k0_part28 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v22 v491
  let ⟨v531, v568, v574⟩ : Σ' (v531 : FVec Ideal S1x128 .f32) (v568 : IVec S1x128 32), IVec S1x128 1 ← k0_part29 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v529 cst_188
  let ⟨v610, v617⟩ : Σ' (v610 : IVec S1x128 32), FVec Ideal S8x128 .f32 ← k0_part30 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v531 v568 v574
  let ⟨v629, v656⟩ : Σ' (v629 : FVec Ideal S8x128 .f32), FVec Ideal S8x128 .f32 ← k0_part31 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v610 v617
  let v692 : FVec Ideal S8x128 .f32 ← k0_part32 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v656
  let v728 : FVec Ideal S8x128 .f32 ← k0_part33 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v692
  let v764 : FVec Ideal S8x128 .f32 ← k0_part34 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v728
  let v800 : FVec Ideal S8x128 .f32 ← k0_part35 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v764
  let v836 : FVec Ideal S8x128 .f32 ← k0_part36 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v800
  let v872 : FVec Ideal S8x128 .f32 ← k0_part37 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v836
  let v908 : FVec Ideal S8x128 .f32 ← k0_part38 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v872
  let v944 : FVec Ideal S8x128 .f32 ← k0_part39 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v629 v908
  let v979 : FVec Ideal S1x128 .f32 ← k0_part40 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v629 v944
  let v983 : Vec Ideal S128x128 .f32 ← Prog.lift (.load arg12 (Rect.unit (s := S128x128) ![0, 0] S128x128.size inb_S128x128_S128x128_0_0).toLoadRect (View.loadsAt_vmem h_S128x128))
  Prog.lift (.store arg12 (Rect.unit (s := S128x128) ![0, 0] S128x128.size inb_S128x128_S128x128_0_0) (k0_pay1 v979) Finset.univ (View.stores_vmem_bits_univ h_S128x128 rfl) (.inl rfl))
  pure ⟨⟩

/-- The inverse scale of block `q` from the largest magnitudes. -/
def invAt (X : S56x8x128.Idx → EReal) (q : ℕ) : EReal := pow2b (IntOp.subi 0#32 (blockExp (rowAmax X q)))

/-- The scale of block `q` from the largest magnitudes. -/
def srowAt (X : S56x8x128.Idx → EReal) (q : ℕ) : EReal := pow2b (blockExp (rowAmax X q))

set_option maxHeartbeats 8000000 in
set_option maxRecDepth 65536 in
/-- The body after the loop, on what its arrays hold. -/
theorem rest (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (Y5 : S2x128.Idx → EReal) (Y11 : S128x128.Idx → EReal) (Y12 : S128x128.Idx → EReal) (Y13 : S56x8x128.Idx → EReal) (Y14 : S56x8x128.Idx → EReal) (Y15 : S8x128.Idx → EReal) (v27 : FVec Ideal S8x128 .f32)
    (hv : ∀ (r : Fin 8) (c : Fin 128), v27 (ix2 r c) = at3 Y13 0 r.val c.val) (Q : PUnit → sProp (MT nD τ sig Unit (Elt Ideal) ℕ (UR sig nD τ) ℕ)) :
    (iprop(owns (c : Thread nD τ) arg5 fullShare Y5 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15) : sProp (MT nD τ sig Unit (Elt Ideal) ℕ (UR sig nD τ) ℕ)) ⊢ iprop((iprop(owns (c : Thread nD τ) arg5 fullShare (Y5) ∗ owns (c : Thread nD τ) arg11 fullShare (Y11) ∗ owns (c : Thread nD τ) arg12 fullShare (fun y => gainAt (min (i 0).val 287) Y5 Y11 (y 0).val) ∗ owns (c : Thread nD τ) arg13 fullShare (Y13) ∗ owns (c : Thread nD τ) arg14 fullShare (fun y => invAt Y13 (y 0).val) ∗ owns (c : Thread nD τ) arg15 fullShare (fun y => srowAt Y13 (y 1).val)) -∗ Q ⟨⟩) -∗
      wp frame (wpE (defs₀ (F := Ideal)) Variants.none c none) Set.univ
      (restProg i arg1 harg1 arg2 harg2 arg3 harg3 arg4 harg4 arg5 harg5 arg6 harg6 arg7 harg7 arg8 harg8 arg9 harg9 arg10 harg10 arg11 harg11 arg12 harg12 arg13 harg13 arg14 harg14 arg15 harg15 (Scalar.minsi (BitVec.ofNat 32 (i 0).val) 287#32) (iota .tc S8x128 32 [1] iota_S8x128_d1_w32) (k0_pay71 (F := Ideal)) k0_pay72 v27) Q) := by
  unfold restProg
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold owns
  iintro ⟨⟨%f5, %e5, H5⟩, ⟨%f11, %e11, H11⟩, ⟨%f12, %e12, H12⟩, ⟨%f13, %e13, H13⟩, ⟨%f14, %e14, H14⟩, ⟨%f15, %e15, H15⟩⟩ Hk
  sl_exec
  sl_step
  obtain rfl := e5
  obtain rfl := e11
  obtain rfl := e13
  generalize hX : arg13.view.read (Elt Ideal) f13 = X13 at hv ⊢
  have hrow : ∀ y : Fin 128, rest.sl.r_25 c arg13 v27 f13 (ix2 0 y) = rowAmax X13 y.val := by
    subst hX
    exact pick101 (arg13.view.read (Elt Ideal) f13) _ _ _ _ _ (pick100 (arg13.view.read (Elt Ideal) f13) _ _ _ _ _ _ (pick97 (arg13.view.read (Elt Ideal) f13) _ _ _ _ _ (pick95 (arg13.view.read (Elt Ideal) f13) _ _ _ _ _ (pick93 (arg13.view.read (Elt Ideal) f13) _ _ _ _ _ _ (pick90 (arg13.view.read (Elt Ideal) f13) _ _ _ _ _ (pick87 (arg13.view.read (Elt Ideal) f13) _ _ _ _ _ (pick85 (arg13.view.read (Elt Ideal) f13) _ _ _ _ _ (pick84 (arg13.view.read (Elt Ideal) f13) _ _ _ _ _ _ (pick81 (arg13.view.read (Elt Ideal) f13) _ _ _ _ _ (pick79 (arg13.view.read (Elt Ideal) f13) _ _ _ _ _ (pick77 (arg13.view.read (Elt Ideal) f13) _ _ _ _ _ _ (pick74 (arg13.view.read (Elt Ideal) f13) _ _ _ _ hv (fun r c => ldt0 (arg13.view.read (Elt Ideal) f13) rfl rfl inb_S56x8x128_S1x8x128_1_0_0 r c) (fun r c => ldt0 (arg13.view.read (Elt Ideal) f13) rfl rfl inb_S56x8x128_S1x8x128_2_0_0 r c) (fun r c => ldt0 (arg13.view.read (Elt Ideal) f13) rfl rfl inb_S56x8x128_S1x8x128_3_0_0 r c)) (fun r c => ldt0 (arg13.view.read (Elt Ideal) f13) rfl rfl inb_S56x8x128_S1x8x128_4_0_0 r c) (fun r c => ldt0 (arg13.view.read (Elt Ideal) f13) rfl rfl inb_S56x8x128_S1x8x128_5_0_0 r c) (fun r c => ldt0 (arg13.view.read (Elt Ideal) f13) rfl rfl inb_S56x8x128_S1x8x128_6_0_0 r c) (fun r c => ldt0 (arg13.view.read (Elt Ideal) f13) rfl rfl inb_S56x8x128_S1x8x128_7_0_0 r c) (fun r c => ldt0 (arg13.view.read (Elt Ideal) f13) rfl rfl inb_S56x8x128_S1x8x128_8_0_0 r c)) (fun r c => ldt0 (arg13.view.read (Elt Ideal) f13) rfl rfl inb_S56x8x128_S1x8x128_9_0_0 r c) (fun r c => ldt0 (arg13.view.read (Elt Ideal) f13) rfl rfl inb_S56x8x128_S1x8x128_10_0_0 r c) (fun r c => ldt0 (arg13.view.read (Elt Ideal) f13) rfl rfl inb_S56x8x128_S1x8x128_11_0_0 r c) (fun r c => ldt0 (arg13.view.read (Elt Ideal) f13) rfl rfl inb_S56x8x128_S1x8x128_12_0_0 r c)) (fun r c => ldt0 (arg13.view.read (Elt Ideal) f13) rfl rfl inb_S56x8x128_S1x8x128_13_0_0 r c) (fun r c => ldt0 (arg13.view.read (Elt Ideal) f13) rfl rfl inb_S56x8x128_S1x8x128_14_0_0 r c) (fun r c => ldt0 (arg13.view.read (Elt Ideal) f13) rfl rfl inb_S56x8x128_S1x8x128_15_0_0 r c) (fun r c => ldt0 (arg13.view.read (Elt Ideal) f13) rfl rfl inb_S56x8x128_S1x8x128_16_0_0 r c)) (fun r c => ldt0 (arg13.view.read (Elt Ideal) f13) rfl rfl inb_S56x8x128_S1x8x128_17_0_0 r c) (fun r c => ldt0 (arg13.view.read (Elt Ideal) f13) rfl rfl inb_S56x8x128_S1x8x128_18_0_0 r c) (fun r c => ldt0 (arg13.view.read (Elt Ideal) f13) rfl rfl inb_S56x8x128_S1x8x128_19_0_0 r c) (fun r c => ldt0 (arg13.view.read (Elt Ideal) f13) rfl rfl inb_S56x8x128_S1x8x128_20_0_0 r c) (fun r c => ldt0 (arg13.view.read (Elt Ideal) f13) rfl rfl inb_S56x8x128_S1x8x128_21_0_0 r c)) (fun r c => ldt0 (arg13.view.read (Elt Ideal) f13) rfl rfl inb_S56x8x128_S1x8x128_22_0_0 r c) (fun r c => ldt0 (arg13.view.read (Elt Ideal) f13) rfl rfl inb_S56x8x128_S1x8x128_23_0_0 r c) (fun r c => ldt0 (arg13.view.read (Elt Ideal) f13) rfl rfl inb_S56x8x128_S1x8x128_24_0_0 r c) (fun r c => ldt0 (arg13.view.read (Elt Ideal) f13) rfl rfl inb_S56x8x128_S1x8x128_25_0_0 r c)) (fun r c => ldt0 (arg13.view.read (Elt Ideal) f13) rfl rfl inb_S56x8x128_S1x8x128_26_0_0 r c) (fun r c => ldt0 (arg13.view.read (Elt Ideal) f13) rfl rfl inb_S56x8x128_S1x8x128_27_0_0 r c) (fun r c => ldt0 (arg13.view.read (Elt Ideal) f13) rfl rfl inb_S56x8x128_S1x8x128_28_0_0 r c) (fun r c => ldt0 (arg13.view.read (Elt Ideal) f13) rfl rfl inb_S56x8x128_S1x8x128_29_0_0 r c)) (fun r c => ldt0 (arg13.view.read (Elt Ideal) f13) rfl rfl inb_S56x8x128_S1x8x128_30_0_0 r c) (fun r c => ldt0 (arg13.view.read (Elt Ideal) f13) rfl rfl inb_S56x8x128_S1x8x128_31_0_0 r c) (fun r c => ldt0 (arg13.view.read (Elt Ideal) f13) rfl rfl inb_S56x8x128_S1x8x128_32_0_0 r c) (fun r c => ldt0 (arg13.view.read (Elt Ideal) f13) rfl rfl inb_S56x8x128_S1x8x128_33_0_0 r c)) (fun r c => ldt0 (arg13.view.read (Elt Ideal) f13) rfl rfl inb_S56x8x128_S1x8x128_34_0_0 r c) (fun r c => ldt0 (arg13.view.read (Elt Ideal) f13) rfl rfl inb_S56x8x128_S1x8x128_35_0_0 r c) (fun r c => ldt0 (arg13.view.read (Elt Ideal) f13) rfl rfl inb_S56x8x128_S1x8x128_36_0_0 r c) (fun r c => ldt0 (arg13.view.read (Elt Ideal) f13) rfl rfl inb_S56x8x128_S1x8x128_37_0_0 r c) (fun r c => ldt0 (arg13.view.read (Elt Ideal) f13) rfl rfl inb_S56x8x128_S1x8x128_38_0_0 r c)) (fun r c => ldt0 (arg13.view.read (Elt Ideal) f13) rfl rfl inb_S56x8x128_S1x8x128_39_0_0 r c) (fun r c => ldt0 (arg13.view.read (Elt Ideal) f13) rfl rfl inb_S56x8x128_S1x8x128_40_0_0 r c) (fun r c => ldt0 (arg13.view.read (Elt Ideal) f13) rfl rfl inb_S56x8x128_S1x8x128_41_0_0 r c) (fun r c => ldt0 (arg13.view.read (Elt Ideal) f13) rfl rfl inb_S56x8x128_S1x8x128_42_0_0 r c)) (fun r c => ldt0 (arg13.view.read (Elt Ideal) f13) rfl rfl inb_S56x8x128_S1x8x128_43_0_0 r c) (fun r c => ldt0 (arg13.view.read (Elt Ideal) f13) rfl rfl inb_S56x8x128_S1x8x128_44_0_0 r c) (fun r c => ldt0 (arg13.view.read (Elt Ideal) f13) rfl rfl inb_S56x8x128_S1x8x128_45_0_0 r c) (fun r c => ldt0 (arg13.view.read (Elt Ideal) f13) rfl rfl inb_S56x8x128_S1x8x128_46_0_0 r c)) (fun r c => ldt0 (arg13.view.read (Elt Ideal) f13) rfl rfl inb_S56x8x128_S1x8x128_47_0_0 r c) (fun r c => ldt0 (arg13.view.read (Elt Ideal) f13) rfl rfl inb_S56x8x128_S1x8x128_48_0_0 r c) (fun r c => ldt0 (arg13.view.read (Elt Ideal) f13) rfl rfl inb_S56x8x128_S1x8x128_49_0_0 r c) (fun r c => ldt0 (arg13.view.read (Elt Ideal) f13) rfl rfl inb_S56x8x128_S1x8x128_50_0_0 r c) (fun r c => ldt0 (arg13.view.read (Elt Ideal) f13) rfl rfl inb_S56x8x128_S1x8x128_51_0_0 r c)) (fun r c => ldt0 (arg13.view.read (Elt Ideal) f13) rfl rfl inb_S56x8x128_S1x8x128_52_0_0 r c) (fun r c => ldt0 (arg13.view.read (Elt Ideal) f13) rfl rfl inb_S56x8x128_S1x8x128_53_0_0 r c) (fun r c => ldt0 (arg13.view.read (Elt Ideal) f13) rfl rfl inb_S56x8x128_S1x8x128_54_0_0 r c) (fun r c => ldt0 (arg13.view.read (Elt Ideal) f13) rfl rfl inb_S56x8x128_S1x8x128_55_0_0 r c)
  have hexp : ∀ y : Fin 128, rest.sl.r_29 c arg13 v27 f13 (ix2 0 y) = blockExp (rowAmax X13 y.val) := fun y =>
    (pay105_at _ y).trans (congrArg blockExp (hrow y))
  iapply Hk
  isplitl [H5]
  · iexists _; isplitr; swap; · iexact H5
    ipureintro
    rfl
  isplitl [H11]
  · iexists _; isplitr; swap; · iexact H11
    ipureintro
    rfl
  isplitl [H12]
  · iexists _; isplitr; swap; · iexact H12
    ipureintro
    refine read_writes_eq _ _ _ _ (List.forall_mem_cons.2 ⟨?_, fun _ h => absurd h List.not_mem_nil⟩) ?_
    · exact piece2 (fun r _ => gainAt (min (i 0).val 287) (arg5.view.read (Elt Ideal) f5) (arg11.view.read (Elt Ideal) f11) r) (rfl : (![0, 0] : Fin 2 → ℕ) = ![0, 0]) inb_S128x128_S128x128_0_0 _ fun r y =>
        (pay1_at i _ _ _ (arg5.view.read (Elt Ideal) f5) (arg11.view.read (Elt Ideal) f11) (fun r c => ldw (arg11.view.read (Elt Ideal) f11) rfl inb_S128x128_S128x128_0_0 r c)
          (fun z => ldr2 (arg5.view.read (Elt Ideal) f5) rfl inb_S2x128_S1x128_1_0 0 z |>.trans (by congr 1; omega)) (fun z => ldr2 (arg5.view.read (Elt Ideal) f5) rfl inb_S2x128_S1x128_0_0 0 z |>.trans (by congr 1; omega)) r y).trans (congrArg (gainAt _ _ _) (Nat.zero_add _).symm)
    · intro y hy
      obtain ⟨n0, hy⟩ := List.forall_mem_cons.1 hy
      replace n0 := off2 (rfl : (![0, 0] : Fin 2 → ℕ) = ![0, 0]) (inb := inb_S128x128_S128x128_0_0) n0
      have h0 : (y 0).val < 128 := (y 0).isLt
      have h1 : (y 1).val < 128 := (y 1).isLt
      omega
  isplitl [H13]
  · iexists _; isplitr; swap; · iexact H13
    ipureintro
    exact hX
  isplitl [H14]
  · iexists _; isplitr; swap; · iexact H14
    ipureintro
    refine read_writes_eq _ _ _ _ (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, fun _ h => absurd h List.not_mem_nil⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩) ?_
    · exact piece3 (fun q _ _ => invAt X13 q) (rfl : (![55, 0, 0] : Fin 3 → ℕ) = ![55, 0, 0]) inb_S56x8x128_S1x8x128_55_0_0 _ fun t r y => (inv_55 _ t r y).trans ((congrArg (fun z => pow2b (IntOp.subi 0#32 z)) (hexp 55)).trans (by rw [show t.val = 0 by omega]; rfl))
    · exact piece3 (fun q _ _ => invAt X13 q) (rfl : (![54, 0, 0] : Fin 3 → ℕ) = ![54, 0, 0]) inb_S56x8x128_S1x8x128_54_0_0 _ fun t r y => (inv_54 _ t r y).trans ((congrArg (fun z => pow2b (IntOp.subi 0#32 z)) (hexp 54)).trans (by rw [show t.val = 0 by omega]; rfl))
    · exact piece3 (fun q _ _ => invAt X13 q) (rfl : (![53, 0, 0] : Fin 3 → ℕ) = ![53, 0, 0]) inb_S56x8x128_S1x8x128_53_0_0 _ fun t r y => (inv_53 _ t r y).trans ((congrArg (fun z => pow2b (IntOp.subi 0#32 z)) (hexp 53)).trans (by rw [show t.val = 0 by omega]; rfl))
    · exact piece3 (fun q _ _ => invAt X13 q) (rfl : (![52, 0, 0] : Fin 3 → ℕ) = ![52, 0, 0]) inb_S56x8x128_S1x8x128_52_0_0 _ fun t r y => (inv_52 _ t r y).trans ((congrArg (fun z => pow2b (IntOp.subi 0#32 z)) (hexp 52)).trans (by rw [show t.val = 0 by omega]; rfl))
    · exact piece3 (fun q _ _ => invAt X13 q) (rfl : (![51, 0, 0] : Fin 3 → ℕ) = ![51, 0, 0]) inb_S56x8x128_S1x8x128_51_0_0 _ fun t r y => (inv_51 _ t r y).trans ((congrArg (fun z => pow2b (IntOp.subi 0#32 z)) (hexp 51)).trans (by rw [show t.val = 0 by omega]; rfl))
    · exact piece3 (fun q _ _ => invAt X13 q) (rfl : (![50, 0, 0] : Fin 3 → ℕ) = ![50, 0, 0]) inb_S56x8x128_S1x8x128_50_0_0 _ fun t r y => (inv_50 _ t r y).trans ((congrArg (fun z => pow2b (IntOp.subi 0#32 z)) (hexp 50)).trans (by rw [show t.val = 0 by omega]; rfl))
    · exact piece3 (fun q _ _ => invAt X13 q) (rfl : (![49, 0, 0] : Fin 3 → ℕ) = ![49, 0, 0]) inb_S56x8x128_S1x8x128_49_0_0 _ fun t r y => (inv_49 _ t r y).trans ((congrArg (fun z => pow2b (IntOp.subi 0#32 z)) (hexp 49)).trans (by rw [show t.val = 0 by omega]; rfl))
    · exact piece3 (fun q _ _ => invAt X13 q) (rfl : (![48, 0, 0] : Fin 3 → ℕ) = ![48, 0, 0]) inb_S56x8x128_S1x8x128_48_0_0 _ fun t r y => (inv_48 _ t r y).trans ((congrArg (fun z => pow2b (IntOp.subi 0#32 z)) (hexp 48)).trans (by rw [show t.val = 0 by omega]; rfl))
    · exact piece3 (fun q _ _ => invAt X13 q) (rfl : (![47, 0, 0] : Fin 3 → ℕ) = ![47, 0, 0]) inb_S56x8x128_S1x8x128_47_0_0 _ fun t r y => (inv_47 _ t r y).trans ((congrArg (fun z => pow2b (IntOp.subi 0#32 z)) (hexp 47)).trans (by rw [show t.val = 0 by omega]; rfl))
    · exact piece3 (fun q _ _ => invAt X13 q) (rfl : (![46, 0, 0] : Fin 3 → ℕ) = ![46, 0, 0]) inb_S56x8x128_S1x8x128_46_0_0 _ fun t r y => (inv_46 _ t r y).trans ((congrArg (fun z => pow2b (IntOp.subi 0#32 z)) (hexp 46)).trans (by rw [show t.val = 0 by omega]; rfl))
    · exact piece3 (fun q _ _ => invAt X13 q) (rfl : (![45, 0, 0] : Fin 3 → ℕ) = ![45, 0, 0]) inb_S56x8x128_S1x8x128_45_0_0 _ fun t r y => (inv_45 _ t r y).trans ((congrArg (fun z => pow2b (IntOp.subi 0#32 z)) (hexp 45)).trans (by rw [show t.val = 0 by omega]; rfl))
    · exact piece3 (fun q _ _ => invAt X13 q) (rfl : (![44, 0, 0] : Fin 3 → ℕ) = ![44, 0, 0]) inb_S56x8x128_S1x8x128_44_0_0 _ fun t r y => (inv_44 _ t r y).trans ((congrArg (fun z => pow2b (IntOp.subi 0#32 z)) (hexp 44)).trans (by rw [show t.val = 0 by omega]; rfl))
    · exact piece3 (fun q _ _ => invAt X13 q) (rfl : (![43, 0, 0] : Fin 3 → ℕ) = ![43, 0, 0]) inb_S56x8x128_S1x8x128_43_0_0 _ fun t r y => (inv_43 _ t r y).trans ((congrArg (fun z => pow2b (IntOp.subi 0#32 z)) (hexp 43)).trans (by rw [show t.val = 0 by omega]; rfl))
    · exact piece3 (fun q _ _ => invAt X13 q) (rfl : (![42, 0, 0] : Fin 3 → ℕ) = ![42, 0, 0]) inb_S56x8x128_S1x8x128_42_0_0 _ fun t r y => (inv_42 _ t r y).trans ((congrArg (fun z => pow2b (IntOp.subi 0#32 z)) (hexp 42)).trans (by rw [show t.val = 0 by omega]; rfl))
    · exact piece3 (fun q _ _ => invAt X13 q) (rfl : (![41, 0, 0] : Fin 3 → ℕ) = ![41, 0, 0]) inb_S56x8x128_S1x8x128_41_0_0 _ fun t r y => (inv_41 _ t r y).trans ((congrArg (fun z => pow2b (IntOp.subi 0#32 z)) (hexp 41)).trans (by rw [show t.val = 0 by omega]; rfl))
    · exact piece3 (fun q _ _ => invAt X13 q) (rfl : (![40, 0, 0] : Fin 3 → ℕ) = ![40, 0, 0]) inb_S56x8x128_S1x8x128_40_0_0 _ fun t r y => (inv_40 _ t r y).trans ((congrArg (fun z => pow2b (IntOp.subi 0#32 z)) (hexp 40)).trans (by rw [show t.val = 0 by omega]; rfl))
    · exact piece3 (fun q _ _ => invAt X13 q) (rfl : (![39, 0, 0] : Fin 3 → ℕ) = ![39, 0, 0]) inb_S56x8x128_S1x8x128_39_0_0 _ fun t r y => (inv_39 _ t r y).trans ((congrArg (fun z => pow2b (IntOp.subi 0#32 z)) (hexp 39)).trans (by rw [show t.val = 0 by omega]; rfl))
    · exact piece3 (fun q _ _ => invAt X13 q) (rfl : (![38, 0, 0] : Fin 3 → ℕ) = ![38, 0, 0]) inb_S56x8x128_S1x8x128_38_0_0 _ fun t r y => (inv_38 _ t r y).trans ((congrArg (fun z => pow2b (IntOp.subi 0#32 z)) (hexp 38)).trans (by rw [show t.val = 0 by omega]; rfl))
    · exact piece3 (fun q _ _ => invAt X13 q) (rfl : (![37, 0, 0] : Fin 3 → ℕ) = ![37, 0, 0]) inb_S56x8x128_S1x8x128_37_0_0 _ fun t r y => (inv_37 _ t r y).trans ((congrArg (fun z => pow2b (IntOp.subi 0#32 z)) (hexp 37)).trans (by rw [show t.val = 0 by omega]; rfl))
    · exact piece3 (fun q _ _ => invAt X13 q) (rfl : (![36, 0, 0] : Fin 3 → ℕ) = ![36, 0, 0]) inb_S56x8x128_S1x8x128_36_0_0 _ fun t r y => (inv_36 _ t r y).trans ((congrArg (fun z => pow2b (IntOp.subi 0#32 z)) (hexp 36)).trans (by rw [show t.val = 0 by omega]; rfl))
    · exact piece3 (fun q _ _ => invAt X13 q) (rfl : (![35, 0, 0] : Fin 3 → ℕ) = ![35, 0, 0]) inb_S56x8x128_S1x8x128_35_0_0 _ fun t r y => (inv_35 _ t r y).trans ((congrArg (fun z => pow2b (IntOp.subi 0#32 z)) (hexp 35)).trans (by rw [show t.val = 0 by omega]; rfl))
    · exact piece3 (fun q _ _ => invAt X13 q) (rfl : (![34, 0, 0] : Fin 3 → ℕ) = ![34, 0, 0]) inb_S56x8x128_S1x8x128_34_0_0 _ fun t r y => (inv_34 _ t r y).trans ((congrArg (fun z => pow2b (IntOp.subi 0#32 z)) (hexp 34)).trans (by rw [show t.val = 0 by omega]; rfl))
    · exact piece3 (fun q _ _ => invAt X13 q) (rfl : (![33, 0, 0] : Fin 3 → ℕ) = ![33, 0, 0]) inb_S56x8x128_S1x8x128_33_0_0 _ fun t r y => (inv_33 _ t r y).trans ((congrArg (fun z => pow2b (IntOp.subi 0#32 z)) (hexp 33)).trans (by rw [show t.val = 0 by omega]; rfl))
    · exact piece3 (fun q _ _ => invAt X13 q) (rfl : (![32, 0, 0] : Fin 3 → ℕ) = ![32, 0, 0]) inb_S56x8x128_S1x8x128_32_0_0 _ fun t r y => (inv_32 _ t r y).trans ((congrArg (fun z => pow2b (IntOp.subi 0#32 z)) (hexp 32)).trans (by rw [show t.val = 0 by omega]; rfl))
    · exact piece3 (fun q _ _ => invAt X13 q) (rfl : (![31, 0, 0] : Fin 3 → ℕ) = ![31, 0, 0]) inb_S56x8x128_S1x8x128_31_0_0 _ fun t r y => (inv_31 _ t r y).trans ((congrArg (fun z => pow2b (IntOp.subi 0#32 z)) (hexp 31)).trans (by rw [show t.val = 0 by omega]; rfl))
    · exact piece3 (fun q _ _ => invAt X13 q) (rfl : (![30, 0, 0] : Fin 3 → ℕ) = ![30, 0, 0]) inb_S56x8x128_S1x8x128_30_0_0 _ fun t r y => (inv_30 _ t r y).trans ((congrArg (fun z => pow2b (IntOp.subi 0#32 z)) (hexp 30)).trans (by rw [show t.val = 0 by omega]; rfl))
    · exact piece3 (fun q _ _ => invAt X13 q) (rfl : (![29, 0, 0] : Fin 3 → ℕ) = ![29, 0, 0]) inb_S56x8x128_S1x8x128_29_0_0 _ fun t r y => (inv_29 _ t r y).trans ((congrArg (fun z => pow2b (IntOp.subi 0#32 z)) (hexp 29)).trans (by rw [show t.val = 0 by omega]; rfl))
    · exact piece3 (fun q _ _ => invAt X13 q) (rfl : (![28, 0, 0] : Fin 3 → ℕ) = ![28, 0, 0]) inb_S56x8x128_S1x8x128_28_0_0 _ fun t r y => (inv_28 _ t r y).trans ((congrArg (fun z => pow2b (IntOp.subi 0#32 z)) (hexp 28)).trans (by rw [show t.val = 0 by omega]; rfl))
    · exact piece3 (fun q _ _ => invAt X13 q) (rfl : (![27, 0, 0] : Fin 3 → ℕ) = ![27, 0, 0]) inb_S56x8x128_S1x8x128_27_0_0 _ fun t r y => (inv_27 _ t r y).trans ((congrArg (fun z => pow2b (IntOp.subi 0#32 z)) (hexp 27)).trans (by rw [show t.val = 0 by omega]; rfl))
    · exact piece3 (fun q _ _ => invAt X13 q) (rfl : (![26, 0, 0] : Fin 3 → ℕ) = ![26, 0, 0]) inb_S56x8x128_S1x8x128_26_0_0 _ fun t r y => (inv_26 _ t r y).trans ((congrArg (fun z => pow2b (IntOp.subi 0#32 z)) (hexp 26)).trans (by rw [show t.val = 0 by omega]; rfl))
    · exact piece3 (fun q _ _ => invAt X13 q) (rfl : (![25, 0, 0] : Fin 3 → ℕ) = ![25, 0, 0]) inb_S56x8x128_S1x8x128_25_0_0 _ fun t r y => (inv_25 _ t r y).trans ((congrArg (fun z => pow2b (IntOp.subi 0#32 z)) (hexp 25)).trans (by rw [show t.val = 0 by omega]; rfl))
    · exact piece3 (fun q _ _ => invAt X13 q) (rfl : (![24, 0, 0] : Fin 3 → ℕ) = ![24, 0, 0]) inb_S56x8x128_S1x8x128_24_0_0 _ fun t r y => (inv_24 _ t r y).trans ((congrArg (fun z => pow2b (IntOp.subi 0#32 z)) (hexp 24)).trans (by rw [show t.val = 0 by omega]; rfl))
    · exact piece3 (fun q _ _ => invAt X13 q) (rfl : (![23, 0, 0] : Fin 3 → ℕ) = ![23, 0, 0]) inb_S56x8x128_S1x8x128_23_0_0 _ fun t r y => (inv_23 _ t r y).trans ((congrArg (fun z => pow2b (IntOp.subi 0#32 z)) (hexp 23)).trans (by rw [show t.val = 0 by omega]; rfl))
    · exact piece3 (fun q _ _ => invAt X13 q) (rfl : (![22, 0, 0] : Fin 3 → ℕ) = ![22, 0, 0]) inb_S56x8x128_S1x8x128_22_0_0 _ fun t r y => (inv_22 _ t r y).trans ((congrArg (fun z => pow2b (IntOp.subi 0#32 z)) (hexp 22)).trans (by rw [show t.val = 0 by omega]; rfl))
    · exact piece3 (fun q _ _ => invAt X13 q) (rfl : (![21, 0, 0] : Fin 3 → ℕ) = ![21, 0, 0]) inb_S56x8x128_S1x8x128_21_0_0 _ fun t r y => (inv_21 _ t r y).trans ((congrArg (fun z => pow2b (IntOp.subi 0#32 z)) (hexp 21)).trans (by rw [show t.val = 0 by omega]; rfl))
    · exact piece3 (fun q _ _ => invAt X13 q) (rfl : (![20, 0, 0] : Fin 3 → ℕ) = ![20, 0, 0]) inb_S56x8x128_S1x8x128_20_0_0 _ fun t r y => (inv_20 _ t r y).trans ((congrArg (fun z => pow2b (IntOp.subi 0#32 z)) (hexp 20)).trans (by rw [show t.val = 0 by omega]; rfl))
    · exact piece3 (fun q _ _ => invAt X13 q) (rfl : (![19, 0, 0] : Fin 3 → ℕ) = ![19, 0, 0]) inb_S56x8x128_S1x8x128_19_0_0 _ fun t r y => (inv_19 _ t r y).trans ((congrArg (fun z => pow2b (IntOp.subi 0#32 z)) (hexp 19)).trans (by rw [show t.val = 0 by omega]; rfl))
    · exact piece3 (fun q _ _ => invAt X13 q) (rfl : (![18, 0, 0] : Fin 3 → ℕ) = ![18, 0, 0]) inb_S56x8x128_S1x8x128_18_0_0 _ fun t r y => (inv_18 _ t r y).trans ((congrArg (fun z => pow2b (IntOp.subi 0#32 z)) (hexp 18)).trans (by rw [show t.val = 0 by omega]; rfl))
    · exact piece3 (fun q _ _ => invAt X13 q) (rfl : (![17, 0, 0] : Fin 3 → ℕ) = ![17, 0, 0]) inb_S56x8x128_S1x8x128_17_0_0 _ fun t r y => (inv_17 _ t r y).trans ((congrArg (fun z => pow2b (IntOp.subi 0#32 z)) (hexp 17)).trans (by rw [show t.val = 0 by omega]; rfl))
    · exact piece3 (fun q _ _ => invAt X13 q) (rfl : (![16, 0, 0] : Fin 3 → ℕ) = ![16, 0, 0]) inb_S56x8x128_S1x8x128_16_0_0 _ fun t r y => (inv_16 _ t r y).trans ((congrArg (fun z => pow2b (IntOp.subi 0#32 z)) (hexp 16)).trans (by rw [show t.val = 0 by omega]; rfl))
    · exact piece3 (fun q _ _ => invAt X13 q) (rfl : (![15, 0, 0] : Fin 3 → ℕ) = ![15, 0, 0]) inb_S56x8x128_S1x8x128_15_0_0 _ fun t r y => (inv_15 _ t r y).trans ((congrArg (fun z => pow2b (IntOp.subi 0#32 z)) (hexp 15)).trans (by rw [show t.val = 0 by omega]; rfl))
    · exact piece3 (fun q _ _ => invAt X13 q) (rfl : (![14, 0, 0] : Fin 3 → ℕ) = ![14, 0, 0]) inb_S56x8x128_S1x8x128_14_0_0 _ fun t r y => (inv_14 _ t r y).trans ((congrArg (fun z => pow2b (IntOp.subi 0#32 z)) (hexp 14)).trans (by rw [show t.val = 0 by omega]; rfl))
    · exact piece3 (fun q _ _ => invAt X13 q) (rfl : (![13, 0, 0] : Fin 3 → ℕ) = ![13, 0, 0]) inb_S56x8x128_S1x8x128_13_0_0 _ fun t r y => (inv_13 _ t r y).trans ((congrArg (fun z => pow2b (IntOp.subi 0#32 z)) (hexp 13)).trans (by rw [show t.val = 0 by omega]; rfl))
    · exact piece3 (fun q _ _ => invAt X13 q) (rfl : (![12, 0, 0] : Fin 3 → ℕ) = ![12, 0, 0]) inb_S56x8x128_S1x8x128_12_0_0 _ fun t r y => (inv_12 _ t r y).trans ((congrArg (fun z => pow2b (IntOp.subi 0#32 z)) (hexp 12)).trans (by rw [show t.val = 0 by omega]; rfl))
    · exact piece3 (fun q _ _ => invAt X13 q) (rfl : (![11, 0, 0] : Fin 3 → ℕ) = ![11, 0, 0]) inb_S56x8x128_S1x8x128_11_0_0 _ fun t r y => (inv_11 _ t r y).trans ((congrArg (fun z => pow2b (IntOp.subi 0#32 z)) (hexp 11)).trans (by rw [show t.val = 0 by omega]; rfl))
    · exact piece3 (fun q _ _ => invAt X13 q) (rfl : (![10, 0, 0] : Fin 3 → ℕ) = ![10, 0, 0]) inb_S56x8x128_S1x8x128_10_0_0 _ fun t r y => (inv_10 _ t r y).trans ((congrArg (fun z => pow2b (IntOp.subi 0#32 z)) (hexp 10)).trans (by rw [show t.val = 0 by omega]; rfl))
    · exact piece3 (fun q _ _ => invAt X13 q) (rfl : (![9, 0, 0] : Fin 3 → ℕ) = ![9, 0, 0]) inb_S56x8x128_S1x8x128_9_0_0 _ fun t r y => (inv_9 _ t r y).trans ((congrArg (fun z => pow2b (IntOp.subi 0#32 z)) (hexp 9)).trans (by rw [show t.val = 0 by omega]; rfl))
    · exact piece3 (fun q _ _ => invAt X13 q) (rfl : (![8, 0, 0] : Fin 3 → ℕ) = ![8, 0, 0]) inb_S56x8x128_S1x8x128_8_0_0 _ fun t r y => (inv_8 _ t r y).trans ((congrArg (fun z => pow2b (IntOp.subi 0#32 z)) (hexp 8)).trans (by rw [show t.val = 0 by omega]; rfl))
    · exact piece3 (fun q _ _ => invAt X13 q) (rfl : (![7, 0, 0] : Fin 3 → ℕ) = ![7, 0, 0]) inb_S56x8x128_S1x8x128_7_0_0 _ fun t r y => (inv_7 _ t r y).trans ((congrArg (fun z => pow2b (IntOp.subi 0#32 z)) (hexp 7)).trans (by rw [show t.val = 0 by omega]; rfl))
    · exact piece3 (fun q _ _ => invAt X13 q) (rfl : (![6, 0, 0] : Fin 3 → ℕ) = ![6, 0, 0]) inb_S56x8x128_S1x8x128_6_0_0 _ fun t r y => (inv_6 _ t r y).trans ((congrArg (fun z => pow2b (IntOp.subi 0#32 z)) (hexp 6)).trans (by rw [show t.val = 0 by omega]; rfl))
    · exact piece3 (fun q _ _ => invAt X13 q) (rfl : (![5, 0, 0] : Fin 3 → ℕ) = ![5, 0, 0]) inb_S56x8x128_S1x8x128_5_0_0 _ fun t r y => (inv_5 _ t r y).trans ((congrArg (fun z => pow2b (IntOp.subi 0#32 z)) (hexp 5)).trans (by rw [show t.val = 0 by omega]; rfl))
    · exact piece3 (fun q _ _ => invAt X13 q) (rfl : (![4, 0, 0] : Fin 3 → ℕ) = ![4, 0, 0]) inb_S56x8x128_S1x8x128_4_0_0 _ fun t r y => (inv_4 _ t r y).trans ((congrArg (fun z => pow2b (IntOp.subi 0#32 z)) (hexp 4)).trans (by rw [show t.val = 0 by omega]; rfl))
    · exact piece3 (fun q _ _ => invAt X13 q) (rfl : (![3, 0, 0] : Fin 3 → ℕ) = ![3, 0, 0]) inb_S56x8x128_S1x8x128_3_0_0 _ fun t r y => (inv_3 _ t r y).trans ((congrArg (fun z => pow2b (IntOp.subi 0#32 z)) (hexp 3)).trans (by rw [show t.val = 0 by omega]; rfl))
    · exact piece3 (fun q _ _ => invAt X13 q) (rfl : (![2, 0, 0] : Fin 3 → ℕ) = ![2, 0, 0]) inb_S56x8x128_S1x8x128_2_0_0 _ fun t r y => (inv_2 _ t r y).trans ((congrArg (fun z => pow2b (IntOp.subi 0#32 z)) (hexp 2)).trans (by rw [show t.val = 0 by omega]; rfl))
    · exact piece3 (fun q _ _ => invAt X13 q) (rfl : (![1, 0, 0] : Fin 3 → ℕ) = ![1, 0, 0]) inb_S56x8x128_S1x8x128_1_0_0 _ fun t r y => (inv_1 _ t r y).trans ((congrArg (fun z => pow2b (IntOp.subi 0#32 z)) (hexp 1)).trans (by rw [show t.val = 0 by omega]; rfl))
    · exact piece3 (fun q _ _ => invAt X13 q) (rfl : (![0, 0, 0] : Fin 3 → ℕ) = ![0, 0, 0]) inb_S56x8x128_S1x8x128_0_0_0 _ fun t r y => (inv_0 _ t r y).trans ((congrArg (fun z => pow2b (IntOp.subi 0#32 z)) (hexp 0)).trans (by rw [show t.val = 0 by omega]; rfl))
    · intro y hy
      exfalso
      have h0 : (y 0).val < 56 := (y 0).isLt
      have h1 : (y 1).val < 8 := (y 1).isLt
      have h2 : (y 2).val < 128 := (y 2).isLt
      obtain ⟨n55, hy⟩ := List.forall_mem_cons.1 hy
      obtain ⟨n54, hy⟩ := List.forall_mem_cons.1 hy
      obtain ⟨n53, hy⟩ := List.forall_mem_cons.1 hy
      obtain ⟨n52, hy⟩ := List.forall_mem_cons.1 hy
      obtain ⟨n51, hy⟩ := List.forall_mem_cons.1 hy
      obtain ⟨n50, hy⟩ := List.forall_mem_cons.1 hy
      obtain ⟨n49, hy⟩ := List.forall_mem_cons.1 hy
      obtain ⟨n48, hy⟩ := List.forall_mem_cons.1 hy
      obtain ⟨n47, hy⟩ := List.forall_mem_cons.1 hy
      obtain ⟨n46, hy⟩ := List.forall_mem_cons.1 hy
      obtain ⟨n45, hy⟩ := List.forall_mem_cons.1 hy
      obtain ⟨n44, hy⟩ := List.forall_mem_cons.1 hy
      obtain ⟨n43, hy⟩ := List.forall_mem_cons.1 hy
      obtain ⟨n42, hy⟩ := List.forall_mem_cons.1 hy
      obtain ⟨n41, hy⟩ := List.forall_mem_cons.1 hy
      obtain ⟨n40, hy⟩ := List.forall_mem_cons.1 hy
      obtain ⟨n39, hy⟩ := List.forall_mem_cons.1 hy
      obtain ⟨n38, hy⟩ := List.forall_mem_cons.1 hy
      obtain ⟨n37, hy⟩ := List.forall_mem_cons.1 hy
      obtain ⟨n36, hy⟩ := List.forall_mem_cons.1 hy
      obtain ⟨n35, hy⟩ := List.forall_mem_cons.1 hy
      obtain ⟨n34, hy⟩ := List.forall_mem_cons.1 hy
      obtain ⟨n33, hy⟩ := List.forall_mem_cons.1 hy
      obtain ⟨n32, hy⟩ := List.forall_mem_cons.1 hy
      obtain ⟨n31, hy⟩ := List.forall_mem_cons.1 hy
      obtain ⟨n30, hy⟩ := List.forall_mem_cons.1 hy
      obtain ⟨n29, hy⟩ := List.forall_mem_cons.1 hy
      obtain ⟨n28, hy⟩ := List.forall_mem_cons.1 hy
      obtain ⟨n27, hy⟩ := List.forall_mem_cons.1 hy
      obtain ⟨n26, hy⟩ := List.forall_mem_cons.1 hy
      obtain ⟨n25, hy⟩ := List.forall_mem_cons.1 hy
      obtain ⟨n24, hy⟩ := List.forall_mem_cons.1 hy
      obtain ⟨n23, hy⟩ := List.forall_mem_cons.1 hy
      obtain ⟨n22, hy⟩ := List.forall_mem_cons.1 hy
      obtain ⟨n21, hy⟩ := List.forall_mem_cons.1 hy
      obtain ⟨n20, hy⟩ := List.forall_mem_cons.1 hy
      obtain ⟨n19, hy⟩ := List.forall_mem_cons.1 hy
      obtain ⟨n18, hy⟩ := List.forall_mem_cons.1 hy
      obtain ⟨n17, hy⟩ := List.forall_mem_cons.1 hy
      obtain ⟨n16, hy⟩ := List.forall_mem_cons.1 hy
      obtain ⟨n15, hy⟩ := List.forall_mem_cons.1 hy
      obtain ⟨n14, hy⟩ := List.forall_mem_cons.1 hy
      obtain ⟨n13, hy⟩ := List.forall_mem_cons.1 hy
      obtain ⟨n12, hy⟩ := List.forall_mem_cons.1 hy
      obtain ⟨n11, hy⟩ := List.forall_mem_cons.1 hy
      obtain ⟨n10, hy⟩ := List.forall_mem_cons.1 hy
      obtain ⟨n9, hy⟩ := List.forall_mem_cons.1 hy
      obtain ⟨n8, hy⟩ := List.forall_mem_cons.1 hy
      obtain ⟨n7, hy⟩ := List.forall_mem_cons.1 hy
      obtain ⟨n6, hy⟩ := List.forall_mem_cons.1 hy
      obtain ⟨n5, hy⟩ := List.forall_mem_cons.1 hy
      obtain ⟨n4, hy⟩ := List.forall_mem_cons.1 hy
      obtain ⟨n3, hy⟩ := List.forall_mem_cons.1 hy
      obtain ⟨n2, hy⟩ := List.forall_mem_cons.1 hy
      obtain ⟨n1, hy⟩ := List.forall_mem_cons.1 hy
      obtain ⟨n0, hy⟩ := List.forall_mem_cons.1 hy
      replace n55 : (y 0).val ≠ 55 := fun h => off3 (rfl : (![55, 0, 0] : Fin 3 → ℕ) = ![55, 0, 0]) (inb := inb_S56x8x128_S1x8x128_55_0_0) n55 (by omega)
      replace n54 : (y 0).val ≠ 54 := fun h => off3 (rfl : (![54, 0, 0] : Fin 3 → ℕ) = ![54, 0, 0]) (inb := inb_S56x8x128_S1x8x128_54_0_0) n54 (by omega)
      replace n53 : (y 0).val ≠ 53 := fun h => off3 (rfl : (![53, 0, 0] : Fin 3 → ℕ) = ![53, 0, 0]) (inb := inb_S56x8x128_S1x8x128_53_0_0) n53 (by omega)
      replace n52 : (y 0).val ≠ 52 := fun h => off3 (rfl : (![52, 0, 0] : Fin 3 → ℕ) = ![52, 0, 0]) (inb := inb_S56x8x128_S1x8x128_52_0_0) n52 (by omega)
      replace n51 : (y 0).val ≠ 51 := fun h => off3 (rfl : (![51, 0, 0] : Fin 3 → ℕ) = ![51, 0, 0]) (inb := inb_S56x8x128_S1x8x128_51_0_0) n51 (by omega)
      replace n50 : (y 0).val ≠ 50 := fun h => off3 (rfl : (![50, 0, 0] : Fin 3 → ℕ) = ![50, 0, 0]) (inb := inb_S56x8x128_S1x8x128_50_0_0) n50 (by omega)
      replace n49 : (y 0).val ≠ 49 := fun h => off3 (rfl : (![49, 0, 0] : Fin 3 → ℕ) = ![49, 0, 0]) (inb := inb_S56x8x128_S1x8x128_49_0_0) n49 (by omega)
      replace n48 : (y 0).val ≠ 48 := fun h => off3 (rfl : (![48, 0, 0] : Fin 3 → ℕ) = ![48, 0, 0]) (inb := inb_S56x8x128_S1x8x128_48_0_0) n48 (by omega)
      replace n47 : (y 0).val ≠ 47 := fun h => off3 (rfl : (![47, 0, 0] : Fin 3 → ℕ) = ![47, 0, 0]) (inb := inb_S56x8x128_S1x8x128_47_0_0) n47 (by omega)
      replace n46 : (y 0).val ≠ 46 := fun h => off3 (rfl : (![46, 0, 0] : Fin 3 → ℕ) = ![46, 0, 0]) (inb := inb_S56x8x128_S1x8x128_46_0_0) n46 (by omega)
      replace n45 : (y 0).val ≠ 45 := fun h => off3 (rfl : (![45, 0, 0] : Fin 3 → ℕ) = ![45, 0, 0]) (inb := inb_S56x8x128_S1x8x128_45_0_0) n45 (by omega)
      replace n44 : (y 0).val ≠ 44 := fun h => off3 (rfl : (![44, 0, 0] : Fin 3 → ℕ) = ![44, 0, 0]) (inb := inb_S56x8x128_S1x8x128_44_0_0) n44 (by omega)
      replace n43 : (y 0).val ≠ 43 := fun h => off3 (rfl : (![43, 0, 0] : Fin 3 → ℕ) = ![43, 0, 0]) (inb := inb_S56x8x128_S1x8x128_43_0_0) n43 (by omega)
      replace n42 : (y 0).val ≠ 42 := fun h => off3 (rfl : (![42, 0, 0] : Fin 3 → ℕ) = ![42, 0, 0]) (inb := inb_S56x8x128_S1x8x128_42_0_0) n42 (by omega)
      replace n41 : (y 0).val ≠ 41 := fun h => off3 (rfl : (![41, 0, 0] : Fin 3 → ℕ) = ![41, 0, 0]) (inb := inb_S56x8x128_S1x8x128_41_0_0) n41 (by omega)
      replace n40 : (y 0).val ≠ 40 := fun h => off3 (rfl : (![40, 0, 0] : Fin 3 → ℕ) = ![40, 0, 0]) (inb := inb_S56x8x128_S1x8x128_40_0_0) n40 (by omega)
      replace n39 : (y 0).val ≠ 39 := fun h => off3 (rfl : (![39, 0, 0] : Fin 3 → ℕ) = ![39, 0, 0]) (inb := inb_S56x8x128_S1x8x128_39_0_0) n39 (by omega)
      replace n38 : (y 0).val ≠ 38 := fun h => off3 (rfl : (![38, 0, 0] : Fin 3 → ℕ) = ![38, 0, 0]) (inb := inb_S56x8x128_S1x8x128_38_0_0) n38 (by omega)
      replace n37 : (y 0).val ≠ 37 := fun h => off3 (rfl : (![37, 0, 0] : Fin 3 → ℕ) = ![37, 0, 0]) (inb := inb_S56x8x128_S1x8x128_37_0_0) n37 (by omega)
      replace n36 : (y 0).val ≠ 36 := fun h => off3 (rfl : (![36, 0, 0] : Fin 3 → ℕ) = ![36, 0, 0]) (inb := inb_S56x8x128_S1x8x128_36_0_0) n36 (by omega)
      replace n35 : (y 0).val ≠ 35 := fun h => off3 (rfl : (![35, 0, 0] : Fin 3 → ℕ) = ![35, 0, 0]) (inb := inb_S56x8x128_S1x8x128_35_0_0) n35 (by omega)
      replace n34 : (y 0).val ≠ 34 := fun h => off3 (rfl : (![34, 0, 0] : Fin 3 → ℕ) = ![34, 0, 0]) (inb := inb_S56x8x128_S1x8x128_34_0_0) n34 (by omega)
      replace n33 : (y 0).val ≠ 33 := fun h => off3 (rfl : (![33, 0, 0] : Fin 3 → ℕ) = ![33, 0, 0]) (inb := inb_S56x8x128_S1x8x128_33_0_0) n33 (by omega)
      replace n32 : (y 0).val ≠ 32 := fun h => off3 (rfl : (![32, 0, 0] : Fin 3 → ℕ) = ![32, 0, 0]) (inb := inb_S56x8x128_S1x8x128_32_0_0) n32 (by omega)
      replace n31 : (y 0).val ≠ 31 := fun h => off3 (rfl : (![31, 0, 0] : Fin 3 → ℕ) = ![31, 0, 0]) (inb := inb_S56x8x128_S1x8x128_31_0_0) n31 (by omega)
      replace n30 : (y 0).val ≠ 30 := fun h => off3 (rfl : (![30, 0, 0] : Fin 3 → ℕ) = ![30, 0, 0]) (inb := inb_S56x8x128_S1x8x128_30_0_0) n30 (by omega)
      replace n29 : (y 0).val ≠ 29 := fun h => off3 (rfl : (![29, 0, 0] : Fin 3 → ℕ) = ![29, 0, 0]) (inb := inb_S56x8x128_S1x8x128_29_0_0) n29 (by omega)
      replace n28 : (y 0).val ≠ 28 := fun h => off3 (rfl : (![28, 0, 0] : Fin 3 → ℕ) = ![28, 0, 0]) (inb := inb_S56x8x128_S1x8x128_28_0_0) n28 (by omega)
      replace n27 : (y 0).val ≠ 27 := fun h => off3 (rfl : (![27, 0, 0] : Fin 3 → ℕ) = ![27, 0, 0]) (inb := inb_S56x8x128_S1x8x128_27_0_0) n27 (by omega)
      replace n26 : (y 0).val ≠ 26 := fun h => off3 (rfl : (![26, 0, 0] : Fin 3 → ℕ) = ![26, 0, 0]) (inb := inb_S56x8x128_S1x8x128_26_0_0) n26 (by omega)
      replace n25 : (y 0).val ≠ 25 := fun h => off3 (rfl : (![25, 0, 0] : Fin 3 → ℕ) = ![25, 0, 0]) (inb := inb_S56x8x128_S1x8x128_25_0_0) n25 (by omega)
      replace n24 : (y 0).val ≠ 24 := fun h => off3 (rfl : (![24, 0, 0] : Fin 3 → ℕ) = ![24, 0, 0]) (inb := inb_S56x8x128_S1x8x128_24_0_0) n24 (by omega)
      replace n23 : (y 0).val ≠ 23 := fun h => off3 (rfl : (![23, 0, 0] : Fin 3 → ℕ) = ![23, 0, 0]) (inb := inb_S56x8x128_S1x8x128_23_0_0) n23 (by omega)
      replace n22 : (y 0).val ≠ 22 := fun h => off3 (rfl : (![22, 0, 0] : Fin 3 → ℕ) = ![22, 0, 0]) (inb := inb_S56x8x128_S1x8x128_22_0_0) n22 (by omega)
      replace n21 : (y 0).val ≠ 21 := fun h => off3 (rfl : (![21, 0, 0] : Fin 3 → ℕ) = ![21, 0, 0]) (inb := inb_S56x8x128_S1x8x128_21_0_0) n21 (by omega)
      replace n20 : (y 0).val ≠ 20 := fun h => off3 (rfl : (![20, 0, 0] : Fin 3 → ℕ) = ![20, 0, 0]) (inb := inb_S56x8x128_S1x8x128_20_0_0) n20 (by omega)
      replace n19 : (y 0).val ≠ 19 := fun h => off3 (rfl : (![19, 0, 0] : Fin 3 → ℕ) = ![19, 0, 0]) (inb := inb_S56x8x128_S1x8x128_19_0_0) n19 (by omega)
      replace n18 : (y 0).val ≠ 18 := fun h => off3 (rfl : (![18, 0, 0] : Fin 3 → ℕ) = ![18, 0, 0]) (inb := inb_S56x8x128_S1x8x128_18_0_0) n18 (by omega)
      replace n17 : (y 0).val ≠ 17 := fun h => off3 (rfl : (![17, 0, 0] : Fin 3 → ℕ) = ![17, 0, 0]) (inb := inb_S56x8x128_S1x8x128_17_0_0) n17 (by omega)
      replace n16 : (y 0).val ≠ 16 := fun h => off3 (rfl : (![16, 0, 0] : Fin 3 → ℕ) = ![16, 0, 0]) (inb := inb_S56x8x128_S1x8x128_16_0_0) n16 (by omega)
      replace n15 : (y 0).val ≠ 15 := fun h => off3 (rfl : (![15, 0, 0] : Fin 3 → ℕ) = ![15, 0, 0]) (inb := inb_S56x8x128_S1x8x128_15_0_0) n15 (by omega)
      replace n14 : (y 0).val ≠ 14 := fun h => off3 (rfl : (![14, 0, 0] : Fin 3 → ℕ) = ![14, 0, 0]) (inb := inb_S56x8x128_S1x8x128_14_0_0) n14 (by omega)
      replace n13 : (y 0).val ≠ 13 := fun h => off3 (rfl : (![13, 0, 0] : Fin 3 → ℕ) = ![13, 0, 0]) (inb := inb_S56x8x128_S1x8x128_13_0_0) n13 (by omega)
      replace n12 : (y 0).val ≠ 12 := fun h => off3 (rfl : (![12, 0, 0] : Fin 3 → ℕ) = ![12, 0, 0]) (inb := inb_S56x8x128_S1x8x128_12_0_0) n12 (by omega)
      replace n11 : (y 0).val ≠ 11 := fun h => off3 (rfl : (![11, 0, 0] : Fin 3 → ℕ) = ![11, 0, 0]) (inb := inb_S56x8x128_S1x8x128_11_0_0) n11 (by omega)
      replace n10 : (y 0).val ≠ 10 := fun h => off3 (rfl : (![10, 0, 0] : Fin 3 → ℕ) = ![10, 0, 0]) (inb := inb_S56x8x128_S1x8x128_10_0_0) n10 (by omega)
      replace n9 : (y 0).val ≠ 9 := fun h => off3 (rfl : (![9, 0, 0] : Fin 3 → ℕ) = ![9, 0, 0]) (inb := inb_S56x8x128_S1x8x128_9_0_0) n9 (by omega)
      replace n8 : (y 0).val ≠ 8 := fun h => off3 (rfl : (![8, 0, 0] : Fin 3 → ℕ) = ![8, 0, 0]) (inb := inb_S56x8x128_S1x8x128_8_0_0) n8 (by omega)
      replace n7 : (y 0).val ≠ 7 := fun h => off3 (rfl : (![7, 0, 0] : Fin 3 → ℕ) = ![7, 0, 0]) (inb := inb_S56x8x128_S1x8x128_7_0_0) n7 (by omega)
      replace n6 : (y 0).val ≠ 6 := fun h => off3 (rfl : (![6, 0, 0] : Fin 3 → ℕ) = ![6, 0, 0]) (inb := inb_S56x8x128_S1x8x128_6_0_0) n6 (by omega)
      replace n5 : (y 0).val ≠ 5 := fun h => off3 (rfl : (![5, 0, 0] : Fin 3 → ℕ) = ![5, 0, 0]) (inb := inb_S56x8x128_S1x8x128_5_0_0) n5 (by omega)
      replace n4 : (y 0).val ≠ 4 := fun h => off3 (rfl : (![4, 0, 0] : Fin 3 → ℕ) = ![4, 0, 0]) (inb := inb_S56x8x128_S1x8x128_4_0_0) n4 (by omega)
      replace n3 : (y 0).val ≠ 3 := fun h => off3 (rfl : (![3, 0, 0] : Fin 3 → ℕ) = ![3, 0, 0]) (inb := inb_S56x8x128_S1x8x128_3_0_0) n3 (by omega)
      replace n2 : (y 0).val ≠ 2 := fun h => off3 (rfl : (![2, 0, 0] : Fin 3 → ℕ) = ![2, 0, 0]) (inb := inb_S56x8x128_S1x8x128_2_0_0) n2 (by omega)
      replace n1 : (y 0).val ≠ 1 := fun h => off3 (rfl : (![1, 0, 0] : Fin 3 → ℕ) = ![1, 0, 0]) (inb := inb_S56x8x128_S1x8x128_1_0_0) n1 (by omega)
      replace n0 : (y 0).val ≠ 0 := fun h => off3 (rfl : (![0, 0, 0] : Fin 3 → ℕ) = ![0, 0, 0]) (inb := inb_S56x8x128_S1x8x128_0_0_0) n0 (by omega)
      clear hy
      omega
  iexists _; isplitr; swap; · iexact H15
  ipureintro
  refine read_writes_eq _ _ _ _ (List.forall_mem_cons.2 ⟨?_, fun _ h => absurd h List.not_mem_nil⟩) ?_
  · exact piece2 (fun _ l => srowAt X13 l) (rfl : (![0, 0] : Fin 2 → ℕ) = ![0, 0]) inb_S8x128_S8x128_0_0 _ fun r y =>
      (pay106_at _ _ _ r y).trans ((congrArg pow2b (hexp y)).trans (congrArg (srowAt X13) (Nat.zero_add _).symm))
  · intro y hy
    obtain ⟨n0, hy⟩ := List.forall_mem_cons.1 hy
    replace n0 := off2 (rfl : (![0, 0] : Fin 2 → ℕ) = ![0, 0]) (inb := inb_S8x128_S8x128_0_0) n0
    have h0 : (y 0).val < 8 := (y 0).isLt
    have h1 : (y 1).val < 128 := (y 1).isLt
    omega

end Cert.KernelIdeal.Hand
end
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Tail
public import proofs.«01_k».proof.Proof.Rest
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F] [∀ e, Nonempty (Elt F e)]

local notation "𝕄" => MT nD τ sig Unit (Elt F) ℕ (UR sig nD τ) ℕ

/-- The left operand of a band: the identity, half the low-rank factor, zero. -/
def lhsOf (X4 : S128x64.Idx → EReal) (r c : ℕ) : EReal :=
  if c < 128 then (if r = c then 1 else 0) else if c < 192 then at2 X4 r (c - 128) * Ideal.ofBits FTy.bf16 16128#16 else 0

/-- An array the first step clears. -/
def zed {α : Type} (i : grid0.Coords) (Y : α → EReal) : α → EReal := if (i 0).val = 0 then fun _ => 0 else Y

theorem first_iff (i : grid0.Coords) :
    (Scalar.cmpi .ne (Scalar.extui (Scalar.cmpi .eq (BitVec.ofNat 32 (i 0).val) 0#32 : BitVec 1) : BitVec 32) 0#32 : BitVec 1) = 1#1 ↔ (i 0).val = 0 := by
  have h : ∀ n : Fin 290, ((Scalar.cmpi .ne (Scalar.extui (Scalar.cmpi .eq (BitVec.ofNat 32 n.val) 0#32 : BitVec 1) : BitVec 32) 0#32 : BitVec 1) = 1#1 ↔ n.val = 0) := by
    decide +kernel
  exact h (i 0)

theorem zero_4 (t : Fin 28) (r : Fin 128) (y : Fin 256) : k0_pay4 (F := Ideal) (ix3 t r y) = 0 := by pointwise [k0_pay4]
theorem zero_5 (t : Fin 28) (r : Fin 128) (y : Fin 256) : k0_pay5 (F := Ideal) (ix3 t r y) = 0 := by pointwise [k0_pay5]
theorem zero_6 (r y : Fin 128) : k0_pay6 (F := Ideal) (ix2 r y) = 0 := by pointwise [k0_pay6]
theorem zero_7 (t : Fin 56) (r : Fin 8) (y : Fin 128) : k0_pay7 (F := Ideal) (ix3 t r y) = 0 := by pointwise [k0_pay7]
theorem zero_65 (r : Fin 8) (y : Fin 128) : k0_pay65 (F := Ideal) k0_pay8 (ix2 r y) = 0 := by pointwise [k0_pay65, k0_pay8]
theorem zero_67 (r y : Fin 128) : k0_pay67 (F := Ideal) (ix2 r y) = 0 := by pointwise [k0_pay67]

theorem lhs66 (X4 : S128x64.Idx → EReal) (a : S128x64.Idx → EReal) (ha : ∀ (r : Fin 128) (c : Fin 64), a (ix2 r c) = at2 X4 r.val c.val) (r : Fin 128) (y : Fin 64) :
    k0_pay66 (F := Ideal) a (ix2 r y) = lhsOf X4 (0 + r.val) (128 + y.val) := by
  have hy := y.isLt
  pointwise [k0_pay66]
  rw [ha]
  unfold lhsOf
  rw [if_neg (by omega), if_pos (by omega)]
  congr 2 <;> omega

/-- An entry of the left operand outside the columns of the low-rank factor. -/
def lhsFixed (r c : ℕ) : EReal := if c < 128 then (if r = c then 1 else 0) else 0

theorem lhs_fixed (X4 : S128x64.Idx → EReal) (r c : ℕ) (h : ¬ (128 ≤ c ∧ c < 192)) : lhsOf X4 r c = lhsFixed r c := by
  unfold lhsOf lhsFixed
  by_cases hc : c < 128
  · rw [if_pos hc, if_pos hc]
  · rw [if_neg hc, if_neg hc, if_neg (by omega)]

theorem lhs3 (r y : Fin 128) : k0_pay3 (F := Ideal) (ix2 r y) = lhsFixed (0 + r.val) (128 + y.val) := by
  pointwise [k0_pay3]
  exact (if_neg (by omega)).symm

theorem read_writes_cons {sig : RefSig} {κ : Kind} {sp : Space} {s : Shape} {e : EltTy} {Val : EltTy → Type} (v : View sig κ sp s e) (f : v.ty.Contents Val)
    (p : View.Piece Val s e) (L : List (View.Piece Val s e)) (G : s.Idx → Val e) (hG : ∀ x, p.2 x = G (p.1.emb x))
    (hf : ∀ y, y ∉ p.1.set → v.read Val (v.writes Val f L) y = G y) : v.read Val (v.writes Val f (p :: L)) = G :=
  read_writes_eq v (v.writes Val f L) [p] G (List.forall_mem_cons.2 ⟨hG, fun _ h => absurd h List.not_mem_nil⟩)
    fun y hy => hf y (List.forall_mem_cons.1 hy).1

theorem lhs2 (r y : Fin 128) : k0_pay2 (F := Ideal) (ix2 r y) = lhsFixed (0 + r.val) (0 + y.val) := by
  have hy := y.isLt
  have hr := r.isLt
  pointwise [k0_pay2]
  rw [sel_eq]
  unfold lhsFixed
  rw [if_pos hy]
  have e : (BitVec.ofNat 32 r.val = BitVec.ofNat 32 y.val) ↔ r.val = y.val := by
    constructor
    · intro h
      have := congrArg BitVec.toNat h
      simp only [BitVec.toNat_ofNat] at this
      omega
    · intro h; rw [h]
  by_cases h : r.val = y.val
  · rw [if_pos (e.2 h), if_pos h]
  · rw [if_neg (mt e.1 h), if_neg h]

set_option maxHeartbeats 8000000 in
set_option maxRecDepth 65536 in
/-- The first part of the body: the operands set up, the loop and the store of the scales. -/
theorem part15 (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (Y1 : S16128.Idx → EReal) (Y2 : S128x7168.Idx → EReal) (Y3 : S1x64x7168.Idx → EReal) (Y4 : S128x64.Idx → EReal) (Y5 : S2x128.Idx → EReal) (Y6 : S128x7168.Idx → EReal) (Y7 : S288x56.Idx → EReal) (Y8 : S128x256.Idx → EReal) (Y9 : S28x128x256.Idx → EReal) (Y10 : S28x128x256.Idx → EReal) (Y11 : S128x128.Idx → EReal) (Y12 : S128x128.Idx → EReal) (Y13 : S56x8x128.Idx → EReal) (Y14 : S56x8x128.Idx → EReal) (Y15 : S8x128.Idx → EReal)
    (h8 : (i 0).val ≠ 0 → ∀ r c : ℕ, r < 128 → c < 256 → ¬ (128 ≤ c ∧ c < 192) → at2 Y8 r c = lhsFixed r c) (Q : (Σ' (v3 : BitVec 32) (v22 : IVec S8x128 32) (v23 : FVec Ideal S8x128 .f32) (v25 : IVec S8x128 1), FVec Ideal S8x128 .f32) → sProp (MT nD τ sig Unit (Elt Ideal) ℕ (UR sig nD τ) ℕ)) :
    (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15) : sProp (MT nD τ sig Unit (Elt Ideal) ℕ (UR sig nD τ) ℕ)) ⊢ iprop((iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare (fun y => mix6 7 (zed i Y10) (zed i Y14) Y6 (y 0).val (y 1).val) ∗ owns (c : Thread nD τ) arg7 fullShare (fun y => scaleRow (min ((i 0).val - 2) 287) (zed i Y15) Y7 (y 0).val (y 1).val) ∗ owns (c : Thread nD τ) arg8 fullShare (fun y => lhsOf Y4 (y 0).val (y 1).val) ∗ owns (c : Thread nD τ) arg9 fullShare (fun y => mix9 7 (merged Y1 Y2 Y3 (fun y => lhsOf Y4 (y 0).val (y 1).val) (min (i 0).val 287)) (zed i Y9) (y 0).val (y 1).val (y 2).val) ∗ owns (c : Thread nD τ) arg10 fullShare (fun y => mix10 7 (zed i Y9) (zed i Y12) (zed i Y10) (y 0).val (y 1).val (y 2).val) ∗ owns (c : Thread nD τ) arg11 fullShare (fun y => mix11 7 (merged Y1 Y2 Y3 (fun y => lhsOf Y4 (y 0).val (y 1).val) (min (i 0).val 287)) (fun _ => 0) (y 0).val (y 1).val) ∗ owns (c : Thread nD τ) arg12 fullShare ((zed i Y12)) ∗ owns (c : Thread nD τ) arg13 fullShare (fun y => mix13 7 (zed i Y9) (zed i Y12) Y13 (y 0).val (y 1).val (y 2).val) ∗ owns (c : Thread nD τ) arg14 fullShare ((zed i Y14)) ∗ owns (c : Thread nD τ) arg15 fullShare ((zed i Y15))) -∗ Q ⟨Scalar.minsi (BitVec.ofNat 32 (i 0).val) 287#32, iota .tc S8x128 32 [1] iota_S8x128_d1_w32, k0_pay71 (F := Ideal), k0_pay72, k0_pay73 (firstMax (fun y => mix13 7 (zed i Y9) (zed i Y12) Y13 (y 0).val (y 1).val (y 2).val))⟩) -∗ wp frame (wpE (defs₀ (F := Ideal)) Variants.none c none) Set.univ
      (k0_part15 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  rw [k0_part15_eq_skeleton]; unfold k0_part15_skel
  simp only [k0_part1_eq_skeleton]
  iintro ⟨H1, H2, H3, H4, H5, H6, H7, H8, H9, H10, H11, H12, H13, H14, H15⟩ Hk
  unfold owns
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  icases H15 with ⟨%f15, %e15, H15⟩
  by_cases h0 : (Scalar.cmpi .ne (Scalar.extui (Scalar.cmpi .eq (BitVec.ofNat 32 (i 0).val) 0#32 : BitVec 1) : BitVec 32) 0#32 : BitVec 1) = 1#1
  · have hz := (first_iff i).1 h0
    have z9 : zed i Y9 = fun _ => 0 := if_pos hz
    have z10 : zed i Y10 = fun _ => 0 := if_pos hz
    have z12 : zed i Y12 = fun _ => 0 := if_pos hz
    have z14 : zed i Y14 = fun _ => 0 := if_pos hz
    have z15 : zed i Y15 = fun _ => 0 := if_pos hz
    rw [z9, z10, z12, z14, z15]
    sl_exec
    iapply (tail15 c i arg1 harg1 arg2 harg2 arg3 harg3 arg4 harg4 arg5 harg5 arg6 harg6 arg7 harg7 arg8 harg8 arg9 harg9 arg10 harg10 arg11 harg11 arg12 harg12 arg13 harg13 arg14 harg14 arg15 harg15 Y1 Y2 Y3 Y4 Y5 Y6 Y7 (fun y => lhsOf Y4 (y 0).val (y 1).val) (fun _ => 0) (fun _ => 0) (fun _ => 0) (fun _ => 0) Y13 (fun _ => 0) (fun _ => 0) Q) $$ [H1 H2 H3 H4 H5 H6 H7 H8 H9 H10 H11 H12 H13 H14 H15] [Hk]
    · unfold owns
      isplitl [H1]
      · iexists _; isplitr; swap; · iexact H1
        ipureintro
        exact e1
      isplitl [H2]
      · iexists _; isplitr; swap; · iexact H2
        ipureintro
        exact e2
      isplitl [H3]
      · iexists _; isplitr; swap; · iexact H3
        ipureintro
        exact e3
      isplitl [H4]
      · iexists _; isplitr; swap; · iexact H4
        ipureintro
        exact e4
      isplitl [H5]
      · iexists _; isplitr; swap; · iexact H5
        ipureintro
        exact e5
      isplitl [H6]
      · iexists _; isplitr; swap; · iexact H6
        ipureintro
        exact e6
      isplitl [H7]
      · iexists _; isplitr; swap; · iexact H7
        ipureintro
        exact e7
      isplitl [H8]
      · iexists _; isplitr; swap; · iexact H8
        ipureintro
        obtain rfl := e4
        refine read_writes_cons _ _ _ _ _ ?_ ?_
        · exact piece2 (lhsOf (arg4.view.read (Elt Ideal) f4)) (rfl : (![0, 128] : Fin 2 → ℕ) = ![0, 128]) inb_S128x256_S128x64_0_128 _ fun r y => (lhs66 _ _ (fun r c => ldw (arg4.view.read (Elt Ideal) f4) rfl inb_S128x64_S128x64_0_0 r c) r y)
        · intro y n0
          replace n0 := off2 (rfl : (![0, 128] : Fin 2 → ℕ) = ![0, 128]) (inb := inb_S128x256_S128x64_0_128) n0
          have h0 : (y 0).val < 128 := (y 0).isLt
          have h1 : (y 1).val < 256 := (y 1).isLt
          refine (congrFun (read_writes_eq _ _ _ (fun y => lhsFixed (y 0).val (y 1).val) (List.forall_mem_cons.2 ⟨?_, List.forall_mem_cons.2 ⟨?_, fun _ h => absurd h List.not_mem_nil⟩⟩) ?_) y).trans ?_
          · exact piece2 lhsFixed (rfl : (![0, 128] : Fin 2 → ℕ) = ![0, 128]) inb_S128x256_S128x128_0_128 _ fun r y => lhs3 r y
          · exact piece2 lhsFixed (rfl : (![0, 0] : Fin 2 → ℕ) = ![0, 0]) inb_S128x256_S128x128_0_0 _ fun r y => lhs2 r y
          · intro y hy
            exfalso
            obtain ⟨n1, hy⟩ := List.forall_mem_cons.1 hy
            obtain ⟨n2, hy⟩ := List.forall_mem_cons.1 hy
            have h0 : (y 0).val < 128 := (y 0).isLt
            have h1 : (y 1).val < 256 := (y 1).isLt
            replace n1 := off2 (rfl : (![0, 128] : Fin 2 → ℕ) = ![0, 128]) (inb := inb_S128x256_S128x128_0_128) n1
            replace n2 := off2 (rfl : (![0, 0] : Fin 2 → ℕ) = ![0, 0]) (inb := inb_S128x256_S128x128_0_0) n2
            omega
          · exact (lhs_fixed _ _ _ (by omega)).symm
      isplitl [H9]
      · iexists _; isplitr; swap; · iexact H9
        ipureintro
        refine read_writes_eq _ _ _ _ (List.forall_mem_cons.2 ⟨?_, fun _ h => absurd h List.not_mem_nil⟩) ?_
        · exact piece3 (fun _ _ _ => (0 : EReal)) (rfl : (![0, 0, 0] : Fin 3 → ℕ) = ![0, 0, 0]) inb_S28x128x256_S28x128x256_0_0_0 _ fun t r y => zero_4 t r y
        · intro y hy
          exfalso
          obtain ⟨n0, hy⟩ := List.forall_mem_cons.1 hy
          replace n0 := off3 (rfl : (![0, 0, 0] : Fin 3 → ℕ) = ![0, 0, 0]) (inb := inb_S28x128x256_S28x128x256_0_0_0) n0
          have h0 : (y 0).val < 28 := (y 0).isLt
          have h1 : (y 1).val < 128 := (y 1).isLt
          have h2 : (y 2).val < 256 := (y 2).isLt
          omega
      isplitl [H10]
      · iexists _; isplitr; swap; · iexact H10
        ipureintro
        refine read_writes_eq _ _ _ _ (List.forall_mem_cons.2 ⟨?_, fun _ h => absurd h List.not_mem_nil⟩) ?_
        · exact piece3 (fun _ _ _ => (0 : EReal)) (rfl : (![0, 0, 0] : Fin 3 → ℕ) = ![0, 0, 0]) inb_S28x128x256_S28x128x256_0_0_0 _ fun t r y => zero_5 t r y
        · intro y hy
          exfalso
          obtain ⟨n0, hy⟩ := List.forall_mem_cons.1 hy
          replace n0 := off3 (rfl : (![0, 0, 0] : Fin 3 → ℕ) = ![0, 0, 0]) (inb := inb_S28x128x256_S28x128x256_0_0_0) n0
          have h0 : (y 0).val < 28 := (y 0).isLt
          have h1 : (y 1).val < 128 := (y 1).isLt
          have h2 : (y 2).val < 256 := (y 2).isLt
          omega
      isplitl [H11]
      · iexists _; isplitr; swap; · iexact H11
        ipureintro
        refine read_writes_eq _ _ _ _ (List.forall_mem_cons.2 ⟨?_, fun _ h => absurd h List.not_mem_nil⟩) ?_
        · exact piece2 (fun _ _ => (0 : EReal)) (rfl : (![0, 0] : Fin 2 → ℕ) = ![0, 0]) inb_S128x128_S128x128_0_0 _ fun r y => zero_67 r y
        · intro y hy
          exfalso
          obtain ⟨n0, hy⟩ := List.forall_mem_cons.1 hy
          replace n0 := off2 (rfl : (![0, 0] : Fin 2 → ℕ) = ![0, 0]) (inb := inb_S128x128_S128x128_0_0) n0
          have h0 : (y 0).val < 128 := (y 0).isLt
          have h1 : (y 1).val < 128 := (y 1).isLt
          omega
      isplitl [H12]
      · iexists _; isplitr; swap; · iexact H12
        ipureintro
        refine read_writes_eq _ _ _ _ (List.forall_mem_cons.2 ⟨?_, fun _ h => absurd h List.not_mem_nil⟩) ?_
        · exact piece2 (fun _ _ => (0 : EReal)) (rfl : (![0, 0] : Fin 2 → ℕ) = ![0, 0]) inb_S128x128_S128x128_0_0 _ fun r y => zero_6 r y
        · intro y hy
          exfalso
          obtain ⟨n0, hy⟩ := List.forall_mem_cons.1 hy
          replace n0 := off2 (rfl : (![0, 0] : Fin 2 → ℕ) = ![0, 0]) (inb := inb_S128x128_S128x128_0_0) n0
          have h0 : (y 0).val < 128 := (y 0).isLt
          have h1 : (y 1).val < 128 := (y 1).isLt
          omega
      isplitl [H13]
      · iexists _; isplitr; swap; · iexact H13
        ipureintro
        exact e13
      isplitl [H14]
      · iexists _; isplitr; swap; · iexact H14
        ipureintro
        refine read_writes_eq _ _ _ _ (List.forall_mem_cons.2 ⟨?_, fun _ h => absurd h List.not_mem_nil⟩) ?_
        · exact piece3 (fun _ _ _ => (0 : EReal)) (rfl : (![0, 0, 0] : Fin 3 → ℕ) = ![0, 0, 0]) inb_S56x8x128_S56x8x128_0_0_0 _ fun t r y => zero_7 t r y
        · intro y hy
          exfalso
          obtain ⟨n0, hy⟩ := List.forall_mem_cons.1 hy
          replace n0 := off3 (rfl : (![0, 0, 0] : Fin 3 → ℕ) = ![0, 0, 0]) (inb := inb_S56x8x128_S56x8x128_0_0_0) n0
          have h0 : (y 0).val < 56 := (y 0).isLt
          have h1 : (y 1).val < 8 := (y 1).isLt
          have h2 : (y 2).val < 128 := (y 2).isLt
          omega
      iexists _; isplitr; swap; · iexact H15
      ipureintro
      refine read_writes_eq _ _ _ _ (List.forall_mem_cons.2 ⟨?_, fun _ h => absurd h List.not_mem_nil⟩) ?_
      · exact piece2 (fun _ _ => (0 : EReal)) (rfl : (![0, 0] : Fin 2 → ℕ) = ![0, 0]) inb_S8x128_S8x128_0_0 _ fun r y => zero_65 r y
      · intro y hy
        exfalso
        obtain ⟨n0, hy⟩ := List.forall_mem_cons.1 hy
        replace n0 := off2 (rfl : (![0, 0] : Fin 2 → ℕ) = ![0, 0]) (inb := inb_S8x128_S8x128_0_0) n0
        have h0 : (y 0).val < 8 := (y 0).isLt
        have h1 : (y 1).val < 128 := (y 1).isLt
        omega
    · unfold owns
      iexact Hk
  · have hz := mt (first_iff i).2 h0
    have z9 : zed i Y9 = Y9 := if_neg hz
    have z10 : zed i Y10 = Y10 := if_neg hz
    have z12 : zed i Y12 = Y12 := if_neg hz
    have z14 : zed i Y14 = Y14 := if_neg hz
    have z15 : zed i Y15 = Y15 := if_neg hz
    rw [z9, z10, z12, z14, z15]
    sl_exec
    iapply (tail15 c i arg1 harg1 arg2 harg2 arg3 harg3 arg4 harg4 arg5 harg5 arg6 harg6 arg7 harg7 arg8 harg8 arg9 harg9 arg10 harg10 arg11 harg11 arg12 harg12 arg13 harg13 arg14 harg14 arg15 harg15 Y1 Y2 Y3 Y4 Y5 Y6 Y7 (fun y => lhsOf Y4 (y 0).val (y 1).val) Y9 Y10 (fun _ => 0) Y12 Y13 Y14 Y15 Q) $$ [H1 H2 H3 H4 H5 H6 H7 H8 H9 H10 H11 H12 H13 H14 H15] [Hk]
    · unfold owns
      isplitl [H1]
      · iexists _; isplitr; swap; · iexact H1
        ipureintro
        exact e1
      isplitl [H2]
      · iexists _; isplitr; swap; · iexact H2
        ipureintro
        exact e2
      isplitl [H3]
      · iexists _; isplitr; swap; · iexact H3
        ipureintro
        exact e3
      isplitl [H4]
      · iexists _; isplitr; swap; · iexact H4
        ipureintro
        exact e4
      isplitl [H5]
      · iexists _; isplitr; swap; · iexact H5
        ipureintro
        exact e5
      isplitl [H6]
      · iexists _; isplitr; swap; · iexact H6
        ipureintro
        exact e6
      isplitl [H7]
      · iexists _; isplitr; swap; · iexact H7
        ipureintro
        exact e7
      isplitl [H8]
      · iexists _; isplitr; swap; · iexact H8
        ipureintro
        obtain rfl := e4
        refine read_writes_eq _ _ _ _ (List.forall_mem_cons.2 ⟨?_, fun _ h => absurd h List.not_mem_nil⟩) ?_
        · exact piece2 (lhsOf (arg4.view.read (Elt Ideal) f4)) (rfl : (![0, 128] : Fin 2 → ℕ) = ![0, 128]) inb_S128x256_S128x64_0_128 _ fun r y => (lhs66 _ _ (fun r c => ldw (arg4.view.read (Elt Ideal) f4) rfl inb_S128x64_S128x64_0_0 r c) r y)
        · intro y hy
          obtain ⟨n0, hy⟩ := List.forall_mem_cons.1 hy
          replace n0 := off2 (rfl : (![0, 128] : Fin 2 → ℕ) = ![0, 128]) (inb := inb_S128x256_S128x64_0_128) n0
          have h0 : (y 0).val < 128 := (y 0).isLt
          have h1 : (y 1).val < 256 := (y 1).isLt
          rw [e8]
          refine (at2_idx _ y).trans ((h8 hz _ _ h0 h1 (by omega)).trans (Eq.symm ?_))
          exact lhs_fixed _ _ _ (by omega)
      isplitl [H9]
      · iexists _; isplitr; swap; · iexact H9
        ipureintro
        exact e9
      isplitl [H10]
      · iexists _; isplitr; swap; · iexact H10
        ipureintro
        exact e10
      isplitl [H11]
      · iexists _; isplitr; swap; · iexact H11
        ipureintro
        refine read_writes_eq _ _ _ _ (List.forall_mem_cons.2 ⟨?_, fun _ h => absurd h List.not_mem_nil⟩) ?_
        · exact piece2 (fun _ _ => (0 : EReal)) (rfl : (![0, 0] : Fin 2 → ℕ) = ![0, 0]) inb_S128x128_S128x128_0_0 _ fun r y => zero_67 r y
        · intro y hy
          exfalso
          obtain ⟨n0, hy⟩ := List.forall_mem_cons.1 hy
          replace n0 := off2 (rfl : (![0, 0] : Fin 2 → ℕ) = ![0, 0]) (inb := inb_S128x128_S128x128_0_0) n0
          have h0 : (y 0).val < 128 := (y 0).isLt
          have h1 : (y 1).val < 128 := (y 1).isLt
          omega
      isplitl [H12]
      · iexists _; isplitr; swap; · iexact H12
        ipureintro
        exact e12
      isplitl [H13]
      · iexists _; isplitr; swap; · iexact H13
        ipureintro
        exact e13
      isplitl [H14]
      · iexists _; isplitr; swap; · iexact H14
        ipureintro
        exact e14
      iexists _; isplitr; swap; · iexact H15
      ipureintro
      exact e15
    · unfold owns
      iexact Hk

set_option maxHeartbeats 4000000 in
set_option maxRecDepth 65536 in
/-- The body is its first part followed by the rest. -/
theorem body_split (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) :
    cc0_dora_merge (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 = (k0_part15 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 >>= fun r => restProg i arg1 harg1 arg2 harg2 arg3 harg3 arg4 harg4 arg5 harg5 arg6 harg6 arg7 harg7 arg8 harg8 arg9 harg9 arg10 harg10 arg11 harg11 arg12 harg12 arg13 harg13 arg14 harg14 arg15 harg15 r.1 r.2.1 r.2.2.1 r.2.2.2.1 r.2.2.2.2) := by
  rw [cc0_dora_merge_eq_skeleton]
  rfl

theorem pay73_at (a : S1x8x128.Idx → EReal) (r : Fin 8) (c : Fin 128) : k0_pay73 (F := Ideal) a (ix2 r c) = a (ix3 0 r c) := by
  pointwise [k0_pay73]

set_option maxHeartbeats 8000000 in
set_option maxRecDepth 65536 in
/-- One step of the grid, on what its arrays hold. -/
theorem body (c : Dev nD) (i : grid0.Coords) (arg1 : Memref sig .tc .smem S16128 .f32) (harg1 : arg1.IsWhole) (arg2 : Memref sig .tc .vmem S128x7168 .fp8e4m3) (harg2 : arg2.IsWhole) (arg3 : Memref sig .tc .vmem S1x64x7168 .bf16) (harg3 : arg3.IsWhole) (arg4 : Memref sig .tc .vmem S128x64 .bf16) (harg4 : arg4.IsWhole) (arg5 : Memref sig .tc .vmem S2x128 .f32) (harg5 : arg5.IsWhole) (arg6 : Memref sig .tc .vmem S128x7168 .fp8e4m3) (harg6 : arg6.IsWhole) (arg7 : Memref sig .tc .vmem S288x56 .f32) (harg7 : arg7.IsWhole) (arg8 : Memref sig .tc .vmem S128x256 .bf16) (harg8 : arg8.IsWhole) (arg9 : Memref sig .tc .vmem S28x128x256 .f32) (harg9 : arg9.IsWhole) (arg10 : Memref sig .tc .vmem S28x128x256 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S56x8x128 .f32) (harg13 : arg13.IsWhole) (arg14 : Memref sig .tc .vmem S56x8x128 .f32) (harg14 : arg14.IsWhole) (arg15 : Memref sig .tc .vmem S8x128 .f32) (harg15 : arg15.IsWhole) (Y1 : S16128.Idx → EReal) (Y2 : S128x7168.Idx → EReal) (Y3 : S1x64x7168.Idx → EReal) (Y4 : S128x64.Idx → EReal) (Y5 : S2x128.Idx → EReal) (Y6 : S128x7168.Idx → EReal) (Y7 : S288x56.Idx → EReal) (Y8 : S128x256.Idx → EReal) (Y9 : S28x128x256.Idx → EReal) (Y10 : S28x128x256.Idx → EReal) (Y11 : S128x128.Idx → EReal) (Y12 : S128x128.Idx → EReal) (Y13 : S56x8x128.Idx → EReal) (Y14 : S56x8x128.Idx → EReal) (Y15 : S8x128.Idx → EReal)
    (h8 : (i 0).val ≠ 0 → ∀ r c : ℕ, r < 128 → c < 256 → ¬ (128 ≤ c ∧ c < 192) → at2 Y8 r c = lhsFixed r c) (Q : PUnit → sProp (MT nD τ sig Unit (Elt Ideal) ℕ (UR sig nD τ) ℕ)) :
    (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15) : sProp (MT nD τ sig Unit (Elt Ideal) ℕ (UR sig nD τ) ℕ)) ⊢ iprop((iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare (fun y => mix6 7 (zed i Y10) (zed i Y14) Y6 (y 0).val (y 1).val) ∗ owns (c : Thread nD τ) arg7 fullShare (fun y => scaleRow (min ((i 0).val - 2) 287) (zed i Y15) Y7 (y 0).val (y 1).val) ∗ owns (c : Thread nD τ) arg8 fullShare (fun y => lhsOf Y4 (y 0).val (y 1).val) ∗ owns (c : Thread nD τ) arg9 fullShare (fun y => mix9 7 (merged Y1 Y2 Y3 (fun y => lhsOf Y4 (y 0).val (y 1).val) (min (i 0).val 287)) (zed i Y9) (y 0).val (y 1).val (y 2).val) ∗ owns (c : Thread nD τ) arg10 fullShare (fun y => mix10 7 (zed i Y9) (zed i Y12) (zed i Y10) (y 0).val (y 1).val (y 2).val) ∗ owns (c : Thread nD τ) arg11 fullShare (fun y => mix11 7 (merged Y1 Y2 Y3 (fun y => lhsOf Y4 (y 0).val (y 1).val) (min (i 0).val 287)) (fun _ => 0) (y 0).val (y 1).val) ∗ owns (c : Thread nD τ) arg12 fullShare (fun y => gainAt (min (i 0).val 287) Y5 (fun y => mix11 7 (merged Y1 Y2 Y3 (fun y => lhsOf Y4 (y 0).val (y 1).val) (min (i 0).val 287)) (fun _ => 0) (y 0).val (y 1).val) (y 0).val) ∗ owns (c : Thread nD τ) arg13 fullShare (fun y => mix13 7 (zed i Y9) (zed i Y12) Y13 (y 0).val (y 1).val (y 2).val) ∗ owns (c : Thread nD τ) arg14 fullShare (fun y => invAt (fun y => mix13 7 (zed i Y9) (zed i Y12) Y13 (y 0).val (y 1).val (y 2).val) (y 0).val) ∗ owns (c : Thread nD τ) arg15 fullShare (fun y => srowAt (fun y => mix13 7 (zed i Y9) (zed i Y12) Y13 (y 0).val (y 1).val (y 2).val) (y 1).val)) -∗ Q ⟨⟩) -∗ wp frame (wpE (defs₀ (F := Ideal)) Variants.none c none) Set.univ
      (cc0_dora_merge (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  rw [body_split, wp_bind]
  iintro ⟨H1, H2, H3, H4, H5, H6, H7, H8, H9, H10, H11, H12, H13, H14, H15⟩ Hk
  iapply (part15 c i arg1 harg1 arg2 harg2 arg3 harg3 arg4 harg4 arg5 harg5 arg6 harg6 arg7 harg7 arg8 harg8 arg9 harg9 arg10 harg10 arg11 harg11 arg12 harg12 arg13 harg13 arg14 harg14 arg15 harg15 Y1 Y2 Y3 Y4 Y5 Y6 Y7 Y8 Y9 Y10 Y11 Y12 Y13 Y14 Y15 h8 _) $$ [H1 H2 H3 H4 H5 H6 H7 H8 H9 H10 H11 H12 H13 H14 H15] [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro ⟨H1, H2, H3, H4, H5, H6, H7, H8, H9, H10, H11, H12, H13, H14, H15⟩
    iapply (rest c i arg1 harg1 arg2 harg2 arg3 harg3 arg4 harg4 arg5 harg5 arg6 harg6 arg7 harg7 arg8 harg8 arg9 harg9 arg10 harg10 arg11 harg11 arg12 harg12 arg13 harg13 arg14 harg14 arg15 harg15 Y5 (fun y => mix11 7 (merged Y1 Y2 Y3 (fun y => lhsOf Y4 (y 0).val (y 1).val) (min (i 0).val 287)) (fun _ => 0) (y 0).val (y 1).val) (zed i Y12) (fun y => mix13 7 (zed i Y9) (zed i Y12) Y13 (y 0).val (y 1).val (y 2).val) (zed i Y14) (zed i Y15) _
      (fun r z => (pay73_at _ r z).trans (ldt0 (fun y => mix13 7 (zed i Y9) (zed i Y12) Y13 (y 0).val (y 1).val (y 2).val) rfl rfl inb_S56x8x128_S1x8x128_0_0_0 r z)) Q) $$ [H5 H11 H12 H13 H14 H15] [Hk H1 H2 H3 H4 H6 H7 H8 H9 H10]
    · isplitl [H5]; · iexact H5
      isplitl [H11]; · iexact H11
      isplitl [H12]; · iexact H12
      isplitl [H13]; · iexact H13
      isplitl [H14]; · iexact H14
      iexact H15
    · iintro ⟨H5, H11, H12, H13, H14, H15⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

end Cert.KernelIdeal.Hand
end
-- ==== Proof.Bands.lean ====
module

public import proofs.«01_k».proof.Proof.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

/-! ## The operands, cut into bands of 128 rows -/

/-- The five operands as the region finds them. -/
structure Ops where
  s : S16128.Idx → EReal
  w : S36864x7168.Idx → EReal
  a : S2x64x7168.Idx → EReal
  b : S36864x64.Idx → EReal
  g : S2x18432.Idx → EReal

namespace Ops

variable (O : Ops) (b : ℕ)

/-- Band `b` of the codes. -/
def w1 : S128x7168.Idx → EReal := fun y => at2 O.w (128 * b + (y 0).val) (y 1).val
/-- The adapter rows of band `b`'s expert. -/
def a1 : S1x64x7168.Idx → EReal := fun y => at3 O.a (b / 144 + (y 0).val) (y 1).val (y 2).val
/-- Band `b` of the low-rank factor. -/
def b1 : S128x64.Idx → EReal := fun y => at2 O.b (128 * b + (y 0).val) (y 1).val
/-- The magnitudes of band `b`'s rows, for both experts. -/
def g1 : S2x128.Idx → EReal := fun y => at2 O.g (y 0).val (128 * (b % 144) + (y 1).val)
/-- The merged weights of band `b`, by tile, row and column. -/
def mm : ℕ → ℕ → ℕ → EReal := merged O.s (O.w1 b) (O.a1 b) (fun y => lhsOf (O.b1 b) (y 0).val (y 1).val) b
/-- The same, as an array. -/
def m9 : S28x128x256.Idx → EReal := fun y => O.mm b (y 0).val (y 1).val (y 2).val
/-- The sums of squares of band `b`, lane by lane. -/
def acc : S128x128.Idx → EReal := fun y => mix11 7 (O.mm b) (fun _ => 0) (y 0).val (y 1).val
/-- The gain of band `b`'s rows, along the lanes. -/
def g12 : S128x128.Idx → EReal := fun y => gainAt b (O.g1 b) (O.acc b) (y 0).val
/-- The weights of band `b` times the gain. -/
def v10 : S28x128x256.Idx → EReal := fun y => at3 (O.m9 b) (y 0).val (y 1).val (y 2).val * at2 (O.g12 b) (y 1).val ((y 2).val % 128)
/-- The largest magnitudes of band `b`, by column block, row modulo 8 and lane. -/
def x13 : S56x8x128.Idx → EReal := fun y => amax (O.m9 b) (O.g12 b) (y 0).val (y 1).val (y 2).val
/-- The reciprocal scales of band `b`. -/
def i14 : S56x8x128.Idx → EReal := fun y => invAt (O.x13 b) (y 0).val
/-- The scales of band `b`. -/
def s15 : S8x128.Idx → EReal := fun y => srowAt (O.x13 b) (y 1).val
/-- The codes of band `b`. -/
def codes : S128x7168.Idx → EReal := fun y =>
  clamp (at3 (O.v10 b) ((y 1).val / 256) (y 0).val ((y 1).val % 256) * at3 (O.i14 b) ((y 1).val / 128) ((y 0).val % 8) ((y 1).val % 128))

end Ops

variable (m : (ℓ : Loc nD τ sig) → Buf (Elt Ideal) ℓ) (c : Dev nD)

/-- The operands on one device. -/
def ops : Ops where
  s := V m c (Pipeline.arrRef spec0 0)
  w := V m c (Pipeline.arrRef spec0 1)
  a := V m c (Pipeline.arrRef spec0 2)
  b := V m c (Pipeline.arrRef spec0 3)
  g := V m c (Pipeline.arrRef spec0 4)

theorem index1 : ∀ t : Fin grid0.N, win0_1.index t = ![min t.val 287, 0] := by decide +kernel
theorem index2 : ∀ t : Fin grid0.N, win0_2.index t = ![min t.val 287 / 144, 0, 0] := by decide +kernel
theorem index3 : ∀ t : Fin grid0.N, win0_3.index t = ![min t.val 287, 0] := by decide +kernel
theorem index4 : ∀ t : Fin grid0.N, win0_4.index t = ![0, min t.val 287 % 144] := by decide +kernel
theorem index5 : ∀ t : Fin grid0.N, win0_5.index t = ![min (t.val - 2) 287, 0] := by decide +kernel

theorem index0 : ∀ t : Fin grid0.N, win0_0.index t = ![0] := by decide +kernel

/-- The scales' block is the whole array. -/
theorem blk0_eq (t : Fin cfg0.N) : iblk m c 0 t = (ops m c).s := by
  funext y
  unfold iblk
  refine (at1_idx (n0 := 16128) (V m c (Pipeline.arrRef spec0 0)) _).trans ?_
  refine Eq.trans ?_ (at1_idx (n0 := 16128) (ops m c).s y).symm
  show at1 _ _ = at1 _ _
  congr 1
  blk_simp [index0 t]
  try simp
  try omega

/-- The codes' block is the band. -/
theorem blk1_eq (t : Fin cfg0.N) : iblk m c 1 t = (ops m c).w1 (min t.val 287) := by
  funext y
  unfold iblk
  refine (at2_idx (n0 := 36864) (n1 := 7168) (V m c (Pipeline.arrRef spec0 1)) _).trans ?_
  show _ = at2 _ _ _
  congr 1
  · blk_simp [index1 t]
    try simp
    try omega
  · blk_simp [index1 t]
    try simp
    try omega

/-- The adapter's block is the expert's rows. -/
theorem blk2_eq (t : Fin cfg0.N) : iblk m c 2 t = (ops m c).a1 (min t.val 287) := by
  funext y
  unfold iblk
  refine (at3_idx (n0 := 2) (n1 := 64) (n2 := 7168) (V m c (Pipeline.arrRef spec0 2)) _).trans ?_
  show _ = at3 _ _ _ _
  congr 1
  · blk_simp [index2 t]
    try simp
    try omega
  · blk_simp [index2 t]
    try simp
    try omega
  · blk_simp [index2 t]
    try simp
    try omega

/-- The low-rank factor's block is the band. -/
theorem blk3_eq (t : Fin cfg0.N) : iblk m c 3 t = (ops m c).b1 (min t.val 287) := by
  funext y
  unfold iblk
  refine (at2_idx (n0 := 36864) (n1 := 64) (V m c (Pipeline.arrRef spec0 3)) _).trans ?_
  show _ = at2 _ _ _
  congr 1
  · blk_simp [index3 t]
    try simp
    try omega
  · blk_simp [index3 t]
    try simp
    try omega

/-- The magnitudes' block is the band's rows. -/
theorem blk4_eq (t : Fin cfg0.N) : iblk m c 4 t = (ops m c).g1 (min t.val 287) := by
  funext y
  unfold iblk
  refine (at2_idx (n0 := 2) (n1 := 18432) (V m c (Pipeline.arrRef spec0 4)) _).trans ?_
  show _ = at2 _ _ _
  congr 1
  · blk_simp [index4 t]
    try simp
    try omega
  · blk_simp [index4 t]
    try simp
    try omega

end Cert.KernelIdeal.Hand
end
-- ==== Proof.Num.lean ====
module

public import proofs.«01_k».proof.Proof.Pay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

/-! ## Powers of two and the exponent of a block -/

/-- The float whose exponent field is `n`. -/
def pw (n : ℕ) : EReal := Ideal.ofBits FTy.f32 (IntOp.shli ArithUnit.vector (BitVec.ofNat 32 n) 23#32)

theorem pw_fields : ∀ n : Fin 256, ((IntOp.shli ArithUnit.vector (BitVec.ofNat 32 n.val) 23#32).extractLsb' 31 1 == 1#1) = false
    ∧ ((IntOp.shli ArithUnit.vector (BitVec.ofNat 32 n.val) 23#32).extractLsb' 23 8).toNat = n.val
    ∧ ((IntOp.shli ArithUnit.vector (BitVec.ofNat 32 n.val) 23#32).extractLsb' 0 23).toNat = 0 := by
  decide +kernel

theorem pw_zero : pw 0 = 0 := by
  obtain ⟨h1, h2, h3⟩ := pw_fields 0
  unfold pw Ideal.ofBits Ideal.ieee
  simp only [Nat.reduceAdd] at *
  simp only [Fin.val_zero] at h1 h2 h3
  rw [h1, h2, h3]
  norm_num

theorem pw_top : pw 255 = ⊤ := by
  obtain ⟨h1, h2, h3⟩ := pw_fields 255
  unfold pw Ideal.ofBits Ideal.ieee
  have e : ((255 : Fin 256).val) = 255 := rfl
  rw [e] at h1 h2 h3
  simp only [Nat.reduceAdd]
  rw [h1, h2, h3]
  norm_num

theorem pw_eq (n : ℕ) (h1 : 1 ≤ n) (h2 : n ≤ 254) : pw n = (((2 : ℝ) ^ ((n : ℤ) - 127) : ℝ) : EReal) := by
  obtain ⟨a1, a2, a3⟩ := pw_fields ⟨n, by omega⟩
  unfold pw Ideal.ofBits Ideal.ieee
  simp only [Nat.reduceAdd] at *
  rw [a1, a2, a3]
  rw [if_neg (by omega), if_neg (by omega)]
  refine congrArg Real.toEReal ?_
  simp only [Bool.false_eq_true, if_false, Nat.cast_add, Nat.cast_pow, Nat.cast_ofNat, Nat.cast_zero, add_zero, one_mul]
  rw [show ((n : ℤ) - (2 ^ (8 - 1) - 1) - 23) = ((n : ℤ) - 127) - 23 by norm_num]
  rw [zpow_sub₀ (by norm_num) ((n : ℤ) - 127) 23]
  norm_num
  ring

theorem pw_mono (n m : ℕ) (h : n ≤ m) (hm : m ≤ 255) : pw n ≤ pw m := by
  by_cases h0 : n = 0
  · subst h0
    rw [pw_zero]
    by_cases hm0 : m = 0
    · subst hm0; rw [pw_zero]
    · by_cases hm5 : m = 255
      · rw [hm5, pw_top]; exact le_top
      · rw [pw_eq m (by omega) (by omega)]
        exact EReal.coe_nonneg.2 (by positivity)
  · by_cases hm5 : m = 255
    · rw [hm5, pw_top]; exact le_top
    · rw [pw_eq m (by omega) (by omega), pw_eq n (by omega) (by omega)]
      exact EReal.coe_le_coe_iff.2 (zpow_le_zpow_right₀ (by norm_num) (by omega))

/-- The largest exponent field whose power of two is at most `x`. -/
theorem exists_field (x : EReal) (hx : 0 ≤ x) : ∃ c : ℕ, c ≤ 255 ∧ ∀ n : ℕ, n ≤ 255 → (pw n ≤ x ↔ n ≤ c) := by
  classical
  refine ⟨Nat.findGreatest (fun n => pw n ≤ x) 255, Nat.findGreatest_le _, fun n hn => ⟨fun h => Nat.le_findGreatest hn h, fun h => ?_⟩⟩
  exact le_trans (pw_mono _ _ h (Nat.findGreatest_le _)) (Nat.findGreatest_spec (P := fun n => pw n ≤ x) (Nat.zero_le 255) (by show pw 0 ≤ x; rw [pw_zero]; exact hx))

theorem bstep_ofNat (x : EReal) (c : ℕ) (hc : ∀ n : ℕ, n ≤ 255 → (pw n ≤ x ↔ n ≤ c)) (k : BitVec 32) (s : ℕ)
    (hk : ∃ n : ℕ, k = BitVec.ofNat 32 n ∧ n ≤ c ∧ c < n + 2 * s ∧ n + 2 * s ≤ 256) (hs : 1 ≤ s) :
    ∃ n : ℕ, bstep x k (BitVec.ofNat 32 s) = BitVec.ofNat 32 n ∧ n ≤ c ∧ c < n + s ∧ n + s ≤ 256 := by
  obtain ⟨n, rfl, h1, h2, h3⟩ := hk
  have e : IntOp.addi (BitVec.ofNat 32 n) (BitVec.ofNat 32 s) = BitVec.ofNat 32 (n + s) := (BitVec.ofNat_add n s).symm
  have hb : bstep x (BitVec.ofNat 32 n) (BitVec.ofNat 32 s) = if pw (n + s) ≤ x then BitVec.ofNat 32 (n + s) else BitVec.ofNat 32 n := by
    unfold bstep pw; rw [e]
  rw [hb]
  by_cases h : n + s ≤ c
  · rw [if_pos ((hc (n + s) (by omega)).2 h)]
    exact ⟨n + s, rfl, h, by omega, by omega⟩
  · rw [if_neg (fun h' => h ((hc (n + s) (by omega)).1 h'))]
    exact ⟨n, rfl, h1, by omega, by omega⟩

theorem biased_eq (x : EReal) (c : ℕ) (hc5 : c ≤ 255) (hc : ∀ n : ℕ, n ≤ 255 → (pw n ≤ x ↔ n ≤ c)) : biased x = BitVec.ofNat 32 c := by
  have h0 : ∃ n : ℕ, (0#32 : BitVec 32) = BitVec.ofNat 32 n ∧ n ≤ c ∧ c < n + 2 * 128 ∧ n + 2 * 128 ≤ 256 := ⟨0, rfl, by omega, by omega, by omega⟩
  have h1 := bstep_ofNat x c hc _ 128 h0 (by omega)
  have h2 := bstep_ofNat x c hc _ 64 h1 (by omega)
  have h3 := bstep_ofNat x c hc _ 32 h2 (by omega)
  have h4 := bstep_ofNat x c hc _ 16 h3 (by omega)
  have h5 := bstep_ofNat x c hc _ 8 h4 (by omega)
  have h6 := bstep_ofNat x c hc _ 4 h5 (by omega)
  have h7 := bstep_ofNat x c hc _ 2 h6 (by omega)
  obtain ⟨n, e, a1, a2, a3⟩ := bstep_ofNat x c hc _ 1 h7 (by omega)
  have : n = c := by omega
  subst this
  exact e

/-- The exponent of a block as a count of the powers of two at most its largest magnitude over 448. -/
def expo (a : EReal) : EReal :=
  if a = 0 then 0
  else if a * Ideal.ofBits FTy.f32 991054117#32 < Ideal.ofBits FTy.f32 8388608#32 then 0
  else (∑ k : Fin 254, if Ideal.exp2 (((k.val : ℝ) : EReal) - Ideal.ofBits FTy.f32 1123811328#32) ≤ a * Ideal.ofBits FTy.f32 991054117#32 then (1 : EReal) else 0)
    - Ideal.ofBits FTy.f32 1123811328#32

theorem ofBits_126 : Ideal.ofBits FTy.f32 1123811328#32 = ((126 : ℝ) : EReal) := by
  simp [Ideal.ofBits, Ideal.ieee, -EReal.coe_mul]
  all_goals norm_num

/-- The reciprocal of 448 as rounded. -/
theorem ofBits_recip : ∃ r : ℝ, Ideal.ofBits FTy.f32 991054117#32 = (r : EReal) ∧ 0 < r ∧ r ≤ 1 / 256 := by
  refine ⟨(9586981 : ℝ) * (2 : ℝ) ^ (-32 : ℤ), ?_, by positivity, by norm_num⟩
  simp [Ideal.ofBits, Ideal.ieee, -EReal.coe_mul]
  all_goals norm_num

/-- The largest finite float. -/
theorem ofBits_max : ∃ r : ℝ, Ideal.ofBits FTy.f32 2139095039#32 = (r : EReal) ∧ 0 ≤ r ∧ r ≤ 2 ^ (128 : ℤ) := by
  refine ⟨(16777215 : ℝ) * (2 : ℝ) ^ (104 : ℤ), ?_, by positivity, by norm_num⟩
  simp [Ideal.ofBits, Ideal.ieee, -EReal.coe_mul]

theorem ofBits_half_bf16 : Ideal.ofBits FTy.bf16 16128#16 = (((1 : ℝ) / 2 : ℝ) : EReal) := by
  simp [Ideal.ofBits, Ideal.ieee, -EReal.coe_mul]
  all_goals norm_num

theorem ofBits_half_f32 : Ideal.ofBits FTy.f32 1056964608#32 = (((1 : ℝ) / 2 : ℝ) : EReal) := by
  simp [Ideal.ofBits, Ideal.ieee, -EReal.coe_mul]
  all_goals norm_num

theorem ofBits_bot : Ideal.ofBits FTy.f32 4286578688#32 = ⊥ := by
  simp [Ideal.ofBits, Ideal.ieee, -EReal.coe_mul]

theorem exp2_pw (z : ℤ) (h1 : -126 ≤ z) (h2 : z ≤ 127) : Ideal.exp2 (((z : ℝ) : ℝ) : EReal) = pw (z + 127).toNat := by
  rw [pw_eq _ (by omega) (by omega)]
  show ((Real.rpow 2 (z : ℝ) : ℝ) : EReal) = _
  rw [show Real.rpow 2 (z : ℝ) = (2 : ℝ) ^ (z : ℝ) from rfl, Real.rpow_intCast]
  congr 2
  omega

theorem field_words : ∀ c : Fin 253,
    IntOp.addi (if BitVec.ofNat 32 c.val = 0#32 then 0#32 else IntOp.subi (BitVec.ofNat 32 c.val) 126#32) 127#32 = BitVec.ofNat 32 (if c.val = 0 then 127 else c.val + 1)
    ∧ IntOp.addi (IntOp.subi 0#32 (if BitVec.ofNat 32 c.val = 0#32 then 0#32 else IntOp.subi (BitVec.ofNat 32 c.val) 126#32)) 127#32 = BitVec.ofNat 32 (if c.val = 0 then 127 else 253 - c.val) := by
  decide +kernel

theorem count_le : ∀ c : Fin 255, (Finset.univ.filter (fun k : Fin 254 => k.val + 1 ≤ c.val)).card = c.val := by
  decide +kernel

/-- The exponent found by the search and the count of powers of two name the same scale and the same reciprocal. -/
theorem scale_eq (a : EReal) (ha : 0 ≤ a) (hM : a ≤ Ideal.ofBits FTy.f32 2139095039#32) :
    pow2b (blockExp a) = Ideal.exp2 (expo a) ∧ pow2b (IntOp.subi 0#32 (blockExp a)) = Ideal.exp2 (0 - expo a) := by
  obtain ⟨q, hq, hq0, hq1⟩ := ofBits_recip
  obtain ⟨M, hMe, hM0, hM1⟩ := ofBits_max
  rw [hMe] at hM
  have hne : a ≠ ⊤ := fun h => by rw [h] at hM; exact absurd hM (not_le.2 (EReal.coe_lt_top M))
  have hnb : a ≠ ⊥ := fun h => by rw [h] at ha; exact absurd ha (by decide)
  lift a to ℝ using ⟨hne, hnb⟩
  have ha' : 0 ≤ a := EReal.coe_nonneg.1 ha
  have hM' : a ≤ M := EReal.coe_le_coe_iff.1 hM
  have hx : (a : EReal) * Ideal.ofBits FTy.f32 991054117#32 = ((a * q : ℝ) : EReal) := by rw [hq]; exact (EReal.coe_mul a q).symm
  have hx0 : (0 : EReal) ≤ ((a * q : ℝ) : EReal) := EReal.coe_nonneg.2 (by positivity)
  obtain ⟨c, hc5, hc⟩ := exists_field _ hx0
  have hc2 : c ≤ 252 := by
    by_contra hcon
    have h := (hc 253 (by omega)).2 (by omega)
    rw [pw_eq 253 (by omega) (by omega)] at h
    have h' := EReal.coe_le_coe_iff.1 h
    have : a * q ≤ (2 : ℝ) ^ (128 : ℤ) * (1 / 256) := mul_le_mul (hM'.trans hM1) hq1 hq0.le (by positivity)
    have h3 := h'.trans this
    norm_num at h3
  have hb := biased_eq _ c hc5 hc
  have hE : blockExp (a : EReal) = if BitVec.ofNat 32 c = 0#32 then 0#32 else IntOp.subi (BitVec.ofNat 32 c) 126#32 := by
    unfold blockExp; rw [hx, hb]
  obtain ⟨w1, w2⟩ := field_words ⟨c, by omega⟩
  have p1 : pow2b (blockExp (a : EReal)) = pw (if c = 0 then 127 else c + 1) := by
    unfold pow2b pw; rw [hE, w1]
  have p2 : pow2b (IntOp.subi 0#32 (blockExp (a : EReal))) = pw (if c = 0 then 127 else 253 - c) := by
    unfold pow2b pw; rw [hE, w2]
  have hpw1 : Ideal.ofBits FTy.f32 8388608#32 = pw 1 := by unfold pw; congr 1
  have hexpo : expo (a : EReal) = (((if c = 0 then 0 else (c : ℤ) - 126 : ℤ) : ℝ) : EReal) := by
    unfold expo
    by_cases h0 : (a : EReal) = 0
    · rw [if_pos h0]
      have hc0 : c = 0 := by
        by_contra hcon
        have h := (hc 1 (by omega)).2 (by omega)
        have : a = 0 := EReal.coe_eq_zero.1 h0
        rw [this, zero_mul, pw_eq 1 (by omega) (by omega)] at h
        have h' := EReal.coe_le_coe_iff.1 h
        norm_num at h'
      rw [if_pos hc0]; norm_num
    · rw [if_neg h0, hx, hpw1]
      by_cases hc0 : c = 0
      · rw [if_pos hc0, if_pos (lt_of_not_ge fun h => by have := (hc 1 (by omega)).1 h; omega)]
        norm_num
      · rw [if_neg hc0, if_neg (not_lt.2 ((hc 1 (by omega)).2 (by omega)))]
        have hsum : (∑ k : Fin 254, if Ideal.exp2 (((k.val : ℝ) : EReal) - Ideal.ofBits FTy.f32 1123811328#32) ≤ ((a * q : ℝ) : EReal) then (1 : EReal) else 0) = ((c : ℝ) : EReal) := by
          have hterm : ∀ k : Fin 254, (if Ideal.exp2 (((k.val : ℝ) : EReal) - Ideal.ofBits FTy.f32 1123811328#32) ≤ ((a * q : ℝ) : EReal) then (1 : EReal) else 0)
              = if k.val + 1 ≤ c then (1 : EReal) else 0 := fun k => by
            have hk : ((k.val : ℝ) : EReal) - Ideal.ofBits FTy.f32 1123811328#32 = ((((k.val : ℤ) - 126 : ℤ) : ℝ) : EReal) := by
              rw [ofBits_126, ← EReal.coe_sub]; push_cast; rfl
            have := k.isLt
            rw [hk, exp2_pw _ (by omega) (by omega), show (((k.val : ℤ) - 126) + 127).toNat = k.val + 1 by omega]
            exact if_congr (hc (k.val + 1) (by omega)) rfl rfl
          rw [Finset.sum_congr rfl fun k _ => hterm k, Finset.sum_boole, count_le ⟨c, by omega⟩]
          rfl
        rw [hsum, ofBits_126, ← EReal.coe_sub]
        push_cast; rfl
  refine ⟨?_, ?_⟩
  · rw [p1, hexpo, exp2_pw _ (by split <;> omega) (by split <;> omega)]
    congr 1
    split <;> omega
  · rw [p2, hexpo]
    have : (0 : EReal) - (((if c = 0 then 0 else (c : ℤ) - 126 : ℤ) : ℝ) : EReal) = ((((if c = 0 then 0 else 126 - (c : ℤ) : ℤ)) : ℝ) : EReal) := by
      rw [show (0 : EReal) = ((0 : ℝ) : EReal) from rfl, ← EReal.coe_sub]
      congr 1
      split <;> push_cast <;> ring
    rw [this, exp2_pw _ (by split <;> omega) (by split <;> omega)]
    congr 1
    split <;> omega

end Cert.KernelIdeal.Hand
end
-- ==== Proof.Model.lean ====
module

public import proofs.«01_k».proof.Proof.Num

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

/-! ## What both programs compute: one band of 128 rows -/

/-- The sum of the squares of a row, lane block by lane block. -/
def sumSq (W : ℕ → ℕ → EReal) (r : ℕ) : EReal := ∑ q : Fin 56, ∑ l : Fin 128, W r (q.val * 128 + l.val) * W r (q.val * 128 + l.val)

/-- The divisor of a row from the sum of its squares: the root, or one when the root is zero. -/
def normOf (S : EReal) : EReal := if Ideal.sqrt S = 0 then 1 else Ideal.sqrt S

/-- A weight scaled to its row's magnitude. -/
def prodM (W : ℕ → ℕ → EReal) (g : ℕ → EReal) (r c : ℕ) : EReal := W r c * Ideal.div (g r) (normOf (sumSq W r))

/-- The magnitude as the larger of a number and its negative. -/
def mag (x : EReal) : EReal := max x (-x)

/-- The largest magnitude of lane block `q` of the band. -/
def topM (W : ℕ → ℕ → EReal) (g : ℕ → EReal) (q : ℕ) : EReal :=
  Finset.fold max (Ideal.ofBits FTy.f32 4286578688#32) (fun x : Fin 128 × Fin 128 => mag (prodM W g x.1.val (q * 128 + x.2.val))) Finset.univ

/-- The scale of lane block `q`. -/
def scaleM (W : ℕ → ℕ → EReal) (g : ℕ → EReal) (q : ℕ) : EReal := Ideal.exp2 (expo (topM W g q))

/-- The code at row `r` and column `c`. -/
def codeM (W : ℕ → ℕ → EReal) (g : ℕ → EReal) (r c : ℕ) : EReal :=
  clamp (prodM W g r c * Ideal.exp2 (0 - expo (topM W g (c / 128))))

/-- The merged weight: the stored code times its block's scale, plus half the low-rank product. -/
def mergedM (P : S2x18432x7168.Idx → EReal) (s : S2x144x56.Idx → EReal) (A : S2x64x7168.Idx → EReal) (B : S2x18432x64.Idx → EReal) (e p r c : ℕ) : EReal :=
  at3 P e (p * 128 + r) c * at3 s e p (c / 128)
    + Ideal.ofBits FTy.f32 1056964608#32 * ∑ k : Fin 64, at3 B e (p * 128 + r) k.val * at3 A e k.val c

/-- The magnitudes of a band. -/
def gainM (g : S2x18432.Idx → EReal) (e p r : ℕ) : EReal := at2 g e (p * 128 + r)

/-- The first result. -/
def codesM (P : S2x18432x7168.Idx → EReal) (s : S2x144x56.Idx → EReal) (A : S2x64x7168.Idx → EReal) (B : S2x18432x64.Idx → EReal) (g : S2x18432.Idx → EReal) :
    S36864x7168.Idx → EReal := fun y =>
  codeM (mergedM P s A B ((y 0).val / 18432) ((y 0).val / 128 % 144)) (gainM g ((y 0).val / 18432) ((y 0).val / 128 % 144)) ((y 0).val % 128) (y 1).val

/-- The second result. -/
def scalesM (P : S2x18432x7168.Idx → EReal) (s : S2x144x56.Idx → EReal) (A : S2x64x7168.Idx → EReal) (B : S2x18432x64.Idx → EReal) (g : S2x18432.Idx → EReal) :
    S288x56.Idx → EReal := fun y =>
  scaleM (mergedM P s A B ((y 0).val / 144) ((y 0).val % 144)) (gainM g ((y 0).val / 144) ((y 0).val % 144)) (y 1).val

theorem mag_nonneg (x : EReal) : 0 ≤ mag x := by
  unfold mag
  rcases le_total 0 x with h | h
  · exact le_max_of_le_left h
  · exact le_max_of_le_right (EReal.neg_nonneg.2 h)

theorem mul_self_nonneg' (x : EReal) : 0 ≤ x * x := by
  rcases le_total 0 x with h | h
  · exact mul_nonneg h h
  · have := mul_nonneg (EReal.neg_nonneg.2 h) (EReal.neg_nonneg.2 h)
    rwa [neg_mul_neg] at this

/-- A weight scaled by its row's root sum of squares is no larger than the magnitude it is scaled to. -/
theorem scaled_le (w g S : EReal) (M : ℝ) (hw : w * w ≤ S) (hg : mag g ≤ (M : EReal)) : mag (w * Ideal.div g (normOf S)) ≤ (M : EReal) := by
  have hM : 0 ≤ M := EReal.coe_nonneg.1 ((mag_nonneg g).trans hg)
  have hzero : mag 0 ≤ (M : EReal) := by unfold mag; simpa using hM
  have hgt : g ≠ ⊤ := fun h => by
    rw [h] at hg; exact absurd ((le_max_left _ _).trans hg) (not_le.2 (EReal.coe_lt_top M))
  have hgb : g ≠ ⊥ := fun h => by
    rw [h] at hg; exact absurd ((le_max_right (⊥ : EReal) (-⊥)).trans hg) (by rw [EReal.neg_bot]; exact not_le.2 (EReal.coe_lt_top M))
  lift g to ℝ using ⟨hgt, hgb⟩
  have hg' : |g| ≤ M := by
    unfold mag at hg
    rw [← EReal.coe_neg] at hg
    exact abs_le'.2 ⟨EReal.coe_le_coe_iff.1 ((le_max_left _ _).trans hg), EReal.coe_le_coe_iff.1 ((le_max_right _ _).trans hg)⟩
  have hS0 : 0 ≤ S := (mul_self_nonneg' w).trans hw
  by_cases hS : S = ⊤
  · subst hS
    have e1 : normOf ⊤ = ⊤ := by
      unfold normOf
      rw [show Ideal.sqrt (⊤ : EReal) = ⊤ from rfl, if_neg (by decide)]
    have e2 : Ideal.div (g : EReal) ⊤ = 0 := by
      unfold Ideal.div
      rw [if_neg (by decide), EReal.inv_top, mul_zero]
    rw [e1, e2, mul_zero]; exact hzero
  · have hSb : S ≠ ⊥ := fun h => by rw [h] at hS0; exact absurd hS0 (by decide)
    lift S to ℝ using ⟨hS, hSb⟩
    have hwt : w ≠ ⊤ := fun h => by rw [h, EReal.top_mul_top] at hw; exact absurd hw (not_le.2 (EReal.coe_lt_top S))
    have hwb : w ≠ ⊥ := fun h => by rw [h, EReal.bot_mul_bot] at hw; exact absurd hw (not_le.2 (EReal.coe_lt_top S))
    lift w to ℝ using ⟨hwt, hwb⟩
    have hw' : w * w ≤ S := by rw [← EReal.coe_mul] at hw; exact EReal.coe_le_coe_iff.1 hw
    have hS0' : 0 ≤ S := EReal.coe_nonneg.1 hS0
    have es : Ideal.sqrt (S : EReal) = ((Real.sqrt S : ℝ) : EReal) := by
      show (if S < 0 then (⊥ : EReal) else ((Real.sqrt S : ℝ) : EReal)) = _
      rw [if_neg (not_lt.2 hS0')]
    by_cases hr : Real.sqrt S = 0
    · have : S = 0 := (Real.sqrt_eq_zero hS0').1 hr
      have hw0 : w = 0 := by
        have : w * w ≤ 0 := by rw [this] at hw'; exact hw'
        exact mul_self_eq_zero.1 (le_antisymm this (mul_self_nonneg w))
      rw [hw0, EReal.coe_zero, zero_mul]; exact hzero
    · have e1 : normOf (S : EReal) = ((Real.sqrt S : ℝ) : EReal) := by
        unfold normOf
        rw [es, if_neg (fun h => hr (EReal.coe_eq_zero.1 h))]
      have e2 : Ideal.div (g : EReal) ((Real.sqrt S : ℝ) : EReal) = ((g * (Real.sqrt S)⁻¹ : ℝ) : EReal) := by
        unfold Ideal.div
        rw [if_neg (fun h => hr (EReal.coe_eq_zero.1 h)), EReal.coe_mul, EReal.coe_inv]
      rw [e1, e2, ← EReal.coe_mul]
      have hpos : 0 < Real.sqrt S := lt_of_le_of_ne (Real.sqrt_nonneg S) (Ne.symm hr)
      have hwS : |w| ≤ Real.sqrt S := Real.abs_le_sqrt (by rw [sq]; exact hw')
      have hb : |w * (g * (Real.sqrt S)⁻¹)| ≤ M := by
        rw [abs_mul, abs_mul, abs_inv, abs_of_pos hpos]
        have : |w| * (|g| * (Real.sqrt S)⁻¹) = (|w| / Real.sqrt S) * |g| := by field_simp
        rw [this]
        calc (|w| / Real.sqrt S) * |g| ≤ 1 * |g| := mul_le_mul_of_nonneg_right ((div_le_one hpos).2 hwS) (abs_nonneg g)
          _ = |g| := one_mul _
          _ ≤ M := hg'
      unfold mag
      rw [← EReal.coe_neg]
      exact max_le (EReal.coe_le_coe_iff.2 (abs_le'.1 hb).1) (EReal.coe_le_coe_iff.2 (abs_le'.1 hb).2)

theorem sq_le_sumSq (W : ℕ → ℕ → EReal) (r : ℕ) (q : Fin 56) (l : Fin 128) :
    W r (q.val * 128 + l.val) * W r (q.val * 128 + l.val) ≤ sumSq W r := by
  unfold sumSq
  refine le_trans ?_ (Finset.single_le_sum (f := fun q : Fin 56 => ∑ l : Fin 128, W r (q.val * 128 + l.val) * W r (q.val * 128 + l.val))
    (fun q _ => Finset.sum_nonneg fun l _ => mul_self_nonneg' _) (Finset.mem_univ q))
  exact Finset.single_le_sum (f := fun l : Fin 128 => W r (q.val * 128 + l.val) * W r (q.val * 128 + l.val)) (fun l _ => mul_self_nonneg' _) (Finset.mem_univ l)

theorem le_topM (W : ℕ → ℕ → EReal) (g : ℕ → EReal) (q : ℕ) (r l : Fin 128) : mag (prodM W g r.val (q * 128 + l.val)) ≤ topM W g q := by
  unfold topM
  exact (Finset.le_fold_max _).2 (Or.inr ⟨(r, l), Finset.mem_univ _, le_refl _⟩)

theorem topM_nonneg (W : ℕ → ℕ → EReal) (g : ℕ → EReal) (q : ℕ) : 0 ≤ topM W g q :=
  (mag_nonneg _).trans (le_topM W g q 0 0)

theorem topM_le (W : ℕ → ℕ → EReal) (g : ℕ → EReal) (q : Fin 56) (hg : ∀ r : ℕ, r < 128 → mag (g r) ≤ Ideal.ofBits FTy.f32 2139095039#32) :
    topM W g q.val ≤ Ideal.ofBits FTy.f32 2139095039#32 := by
  unfold topM
  refine (Finset.fold_max_le _).2 ⟨by rw [ofBits_bot]; exact bot_le, fun x _ => ?_⟩
  obtain ⟨M, hM, -, -⟩ := ofBits_max
  have h := hg x.1.val x.1.isLt
  rw [hM] at h ⊢
  exact scaled_le _ _ _ M (sq_le_sumSq W x.1.val q x.2) h

end Cert.KernelIdeal.Hand
end
-- ==== Proof.Link.lean ====
module

public import proofs.«01_k».proof.Proof.Bands
public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

/-! ## The operands of the region from the arguments -/

/-- The region's operands, read through the flattening of the expert axis. -/
structure Linked (O : Ops) (P : S2x18432x7168.Idx → EReal) (s : S2x144x56.Idx → EReal) (A : S2x64x7168.Idx → EReal) (B : S2x18432x64.Idx → EReal) (g : S2x18432.Idx → EReal) : Prop where
  hs : ∀ e p q : ℕ, e < 2 → p < 144 → q < 56 → at1 O.s (56 * (144 * e + p) + q) = at3 s e p q
  hw : ∀ e r c : ℕ, e < 2 → r < 18432 → c < 7168 → at2 O.w (18432 * e + r) c = at3 P e r c
  hb : ∀ e r c : ℕ, e < 2 → r < 18432 → c < 64 → at2 O.b (18432 * e + r) c = at3 B e r c
  ha : O.a = A
  hg : O.g = g

variable (m : (ℓ : Loc nD τ sig) → Buf (Elt Ideal) ℓ) (c : Dev nD)

theorem entry_w (x : S36864x7168.Idx) : (V m c main_v0 : S36864x7168.Idx → EReal) x = shapeCast (s := S2x18432x7168) S36864x7168 (m ((c : Thread nD τ).loc main_arg0)) shapeCasts_S2x18432x7168_S36864x7168 x := by
  entry_read
  rfl

theorem entry_s (x : S16128.Idx) : (V m c main_v1 : S16128.Idx → EReal) x = shapeCast (s := S2x144x56) S16128 (m ((c : Thread nD τ).loc main_arg1)) shapeCasts_S2x144x56_S16128 x := by
  entry_read
  rfl

theorem entry_b (x : S36864x64.Idx) : (V m c main_v2 : S36864x64.Idx → EReal) x = shapeCast (s := S2x18432x64) S36864x64 (m ((c : Thread nD τ).loc main_arg3)) shapeCasts_S2x18432x64_S36864x64 x := by
  entry_read
  rfl

theorem cast_w (X : S2x18432x7168.Idx → EReal) (r : Fin 36864) (q : Fin 7168) : (shapeCast (s := S2x18432x7168) S36864x7168 X shapeCasts_S2x18432x7168_S36864x7168 : S36864x7168.Idx → EReal) (ix2 r q)
    = X (ix3 ⟨r.val / 18432, by have := r.isLt; omega⟩ ⟨r.val % 18432, by omega⟩ q) := by
  pointwise

theorem cast_s (X : S2x144x56.Idx → EReal) (r : Fin 16128) : (shapeCast (s := S2x144x56) S16128 X shapeCasts_S2x144x56_S16128 : S16128.Idx → EReal) (ix1 r)
    = X (ix3 ⟨r.val / 8064, by have := r.isLt; omega⟩ ⟨r.val / 56 % 144, by omega⟩ ⟨r.val % 56, by omega⟩) := by
  pointwise

theorem cast_b (X : S2x18432x64.Idx → EReal) (r : Fin 36864) (q : Fin 64) : (shapeCast (s := S2x18432x64) S36864x64 X shapeCasts_S2x18432x64_S36864x64 : S36864x64.Idx → EReal) (ix2 r q)
    = X (ix3 ⟨r.val / 18432, by have := r.isLt; omega⟩ ⟨r.val % 18432, by omega⟩ q) := by
  pointwise

/-- The operands of the region on one device are the arguments, flattened. -/
theorem linked : Linked (ops m c) (m ((c : Thread nD τ).loc main_arg0)) (m ((c : Thread nD τ).loc main_arg1)) (m ((c : Thread nD τ).loc main_arg2))
    (m ((c : Thread nD τ).loc main_arg3)) (m ((c : Thread nD τ).loc main_arg4)) where
  hs e p q he hp hq := by
    unfold at1 at3
    rw [dif_pos (by omega : 56 * (144 * e + p) + q < 16128), dif_pos ⟨he, hp, hq⟩]
    refine (entry_s m c _).trans ((cast_s _ _).trans ?_)
    congr 2 <;> refine Fin.ext ?_ <;> dsimp only <;> omega
  hw e r q he hr hq := by
    unfold at2 at3
    rw [dif_pos (⟨by omega, hq⟩ : 18432 * e + r < 36864 ∧ q < 7168), dif_pos ⟨he, hr, hq⟩]
    refine (entry_w m c _).trans ((cast_w _ _ _).trans ?_)
    congr 2 <;> refine Fin.ext ?_ <;> dsimp only <;> omega
  hb e r q he hr hq := by
    unfold at2 at3
    rw [dif_pos (⟨by omega, hq⟩ : 18432 * e + r < 36864 ∧ q < 64), dif_pos ⟨he, hr, hq⟩]
    refine (entry_b m c _).trans ((cast_b _ _ _).trans ?_)
    congr 2 <;> refine Fin.ext ?_ <;> dsimp only <;> omega
  ha := V_main_arg2 m c
  hg := V_main_arg4 m c

end Cert.KernelIdeal.Hand
end
-- ==== Proof.Value.lean ====
module

public import proofs.«01_k».proof.Proof.Bands
public import proofs.«01_k».proof.Proof.Gen.KernelIdeal.Points
public import Idealize.ShloMosaic.Lib.Pipeline.FrameBody
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable (m : (ℓ : Loc nD τ sig) → Buf (Elt Ideal) ℓ) (ρ : Dev nD → PrngReg)

/-! ## What the scratch holds before each step -/

/-- The left operand's constant columns, the merged weights and gain of the band before, and the products and scales of the
    band before that. -/
structure Inv (O : Ops) (t : ℕ) (s0 : S128x256.Idx → EReal) (s1 : S28x128x256.Idx → EReal) (s2 : S28x128x256.Idx → EReal) (s3 : S128x128.Idx → EReal) (s4 : S128x128.Idx → EReal) (s5 : S56x8x128.Idx → EReal) (s6 : S56x8x128.Idx → EReal) (s7 : S8x128.Idx → EReal) : Prop where
  fixed : t ≠ 0 → ∀ r c : ℕ, r < 128 → c < 256 → ¬ (128 ≤ c ∧ c < 192) → at2 s0 r c = lhsFixed r c
  weights : 1 ≤ t → t ≤ 288 → s1 = O.m9 (t - 1)
  gain : 1 ≤ t → t ≤ 288 → s4 = O.g12 (t - 1)
  products : 2 ≤ t → t ≤ 289 → s2 = O.v10 (t - 2)
  inverses : 2 ≤ t → t ≤ 289 → s6 = O.i14 (t - 2)
  scales : 2 ≤ t → t ≤ 289 → s7 = O.s15 (t - 2)

/-- What a step leaves in a window: inputs stay; the codes' block holds the codes of the band two before; the scales' array
    gains that band's row. -/
def vafter (O : Ops) : (w : Fin cfg0.W) → (t : Fin cfg0.N) → ((cfg0.win w).block.Idx → Elt Ideal (cfg0.win w).elt) → ((cfg0.win w).block.Idx → Elt Ideal (cfg0.win w).elt) → Prop
  | 0, _, Y, X | 1, _, Y, X | 2, _, Y, X | 3, _, Y, X | 4, _, Y, X => X = Y
  | 5, t, _, X => 2 ≤ t.val → X = O.codes (t.val - 2)
  | 6, t, Y, X => 2 ≤ t.val → ∀ r c : ℕ, r < 288 → c < 56 →
      at2 (n0 := 288) (n1 := 56) X r c = if r = t.val - 2 then at2 (O.s15 (t.val - 2)) 0 c else at2 (n0 := 288) (n1 := 56) Y r c

/-- The scratch and the random register between steps. -/
def vΦ (c : Dev nD) (t : ℕ) : sProp (MT nD τ sig Unit (Elt Ideal) ℕ (UR sig nD τ) ℕ) :=
  iprop((∃ s0 : S128x256.Idx → EReal, ∃ s1 : S28x128x256.Idx → EReal, ∃ s2 : S28x128x256.Idx → EReal, ∃ s3 : S128x128.Idx → EReal, ∃ s4 : S128x128.Idx → EReal, ∃ s5 : S56x8x128.Idx → EReal, ∃ s6 : S56x8x128.Idx → EReal, ∃ s7 : S8x128.Idx → EReal, ⌜Inv (ops m c) t s0 s1 s2 s3 s4 s5 s6 s7⌝ ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5 ∗ owns (c : Thread nD τ) (Memref.whole cc0_scratch6) fullShare s6 ∗ owns (c : Thread nD τ) (Memref.whole cc0_scratch7) fullShare s7) ∗ ∃ r, prngReg c r)

/-- The region's data, at the values. -/
def vdat (c : Dev nD) : RDat τ (Elt Ideal) Unit ℕ (UR sig nD τ) ℕ cfg0 c where
  A w := V m c (Pipeline.arrRef spec0 w)
  after w t Y X := vafter (ops m c) w t Y X
  Φ t := vΦ m c t.val
  q _ := fullShare
  owed _ := 0

theorem coords0 : ∀ t : Fin cfg0.N, ((grid0.coords t) 0).val = t.val := by decide +kernel

/-- What a step finds in an input window is the operand's block. -/
theorem finds_in (c : Dev nD) (w : Fin cfg0.W) (hw : w.val < 5) (t : Fin cfg0.N) (Y) (h : (vdat m c).Finds w t Y) :
    ∃ d, Y = (vdat m c).fetched w t d := by
  have hcases : w = 0 ∨ w = 1 ∨ w = 2 ∨ w = 3 ∨ w = 4 := by
    rcases w with ⟨n, hn⟩
    have : n = 0 ∨ n = 1 ∨ n = 2 ∨ n = 3 ∨ n = 4 := by simp at hw; omega
    rcases this with rfl | rfl | rfl | rfl | rfl <;> simp
  rcases hcases with rfl | rfl | rfl | rfl | rfl
  · exact RDat.finds_in_eq_fetched (vdat m c) 0 rfl (fun _ _ _ => rfl) (fun t Y X h => h) t Y h
  · exact RDat.finds_in_eq_fetched (vdat m c) 1 rfl (fun _ _ _ => rfl) (fun t Y X h => h) t Y h
  · exact RDat.finds_in_eq_fetched (vdat m c) 2 rfl (fun _ _ _ => rfl) (fun t Y X h => h) t Y h
  · exact RDat.finds_in_eq_fetched (vdat m c) 3 rfl (fun _ _ _ => rfl) (fun t Y X h => h) t Y h
  · exact RDat.finds_in_eq_fetched (vdat m c) 4 rfl (fun _ _ _ => rfl) (fun t Y X h => h) t Y h

theorem finds0 (c : Dev nD) (t : Fin cfg0.N) (Y) (h : (vdat m c).Finds 0 t Y) : Y = (ops m c).s := by
  obtain ⟨d, rfl⟩ := finds_in m c 0 (by decide) t Y h
  exact blk0_eq m c t
theorem finds1 (c : Dev nD) (t : Fin cfg0.N) (Y) (h : (vdat m c).Finds 1 t Y) : Y = (ops m c).w1 (min t.val 287) := by
  obtain ⟨d, rfl⟩ := finds_in m c 1 (by decide) t Y h
  exact blk1_eq m c t
theorem finds2 (c : Dev nD) (t : Fin cfg0.N) (Y) (h : (vdat m c).Finds 2 t Y) : Y = (ops m c).a1 (min t.val 287) := by
  obtain ⟨d, rfl⟩ := finds_in m c 2 (by decide) t Y h
  exact blk2_eq m c t
theorem finds3 (c : Dev nD) (t : Fin cfg0.N) (Y) (h : (vdat m c).Finds 3 t Y) : Y = (ops m c).b1 (min t.val 287) := by
  obtain ⟨d, rfl⟩ := finds_in m c 3 (by decide) t Y h
  exact blk3_eq m c t
theorem finds4 (c : Dev nD) (t : Fin cfg0.N) (Y) (h : (vdat m c).Finds 4 t Y) : Y = (ops m c).g1 (min t.val 287) := by
  obtain ⟨d, rfl⟩ := finds_in m c 4 (by decide) t Y h
  exact blk4_eq m c t

/-! ## One step keeps the invariant -/

theorem zed_pos {α : Type} (i : grid0.Coords) (Y : α → EReal) (h : (i 0).val ≠ 0) : zed i Y = Y := if_neg h

set_option maxHeartbeats 1000000 in
theorem inv_step (O : Ops) (i : grid0.Coords) (hi : (i 0).val < 290) (s0 : S128x256.Idx → EReal) (s1 : S28x128x256.Idx → EReal) (s2 : S28x128x256.Idx → EReal) (s3 : S128x128.Idx → EReal) (s4 : S128x128.Idx → EReal) (s5 : S56x8x128.Idx → EReal) (s6 : S56x8x128.Idx → EReal) (s7 : S8x128.Idx → EReal) (h : Inv O (i 0).val s0 s1 s2 s3 s4 s5 s6 s7) :
    Inv O ((i 0).val + 1) (fun y => lhsOf (O.b1 (min (i 0).val 287)) (y 0).val (y 1).val) (fun y => mix9 7 (merged O.s (O.w1 (min (i 0).val 287)) (O.a1 (min (i 0).val 287)) (fun y => lhsOf (O.b1 (min (i 0).val 287)) (y 0).val (y 1).val) (min (i 0).val 287)) (zed i s1) (y 0).val (y 1).val (y 2).val) (fun y => mix10 7 (zed i s1) (zed i s4) (zed i s2) (y 0).val (y 1).val (y 2).val) (fun y => mix11 7 (merged O.s (O.w1 (min (i 0).val 287)) (O.a1 (min (i 0).val 287)) (fun y => lhsOf (O.b1 (min (i 0).val 287)) (y 0).val (y 1).val) (min (i 0).val 287)) (fun _ => 0) (y 0).val (y 1).val) (fun y => gainAt (min (i 0).val 287) (O.g1 (min (i 0).val 287)) (fun y => mix11 7 (merged O.s (O.w1 (min (i 0).val 287)) (O.a1 (min (i 0).val 287)) (fun y => lhsOf (O.b1 (min (i 0).val 287)) (y 0).val (y 1).val) (min (i 0).val 287)) (fun _ => 0) (y 0).val (y 1).val) (y 0).val) (fun y => mix13 7 (zed i s1) (zed i s4) s5 (y 0).val (y 1).val (y 2).val) (fun y => invAt (fun y => mix13 7 (zed i s1) (zed i s4) s5 (y 0).val (y 1).val (y 2).val) (y 0).val) (fun y => srowAt (fun y => mix13 7 (zed i s1) (zed i s4) s5 (y 0).val (y 1).val (y 2).val) (y 1).val) := by
  have e13 : 1 ≤ (i 0).val → (i 0).val ≤ 288 → (fun y => mix13 7 (zed i s1) (zed i s4) s5 (y 0).val (y 1).val (y 2).val) = O.x13 ((i 0).val - 1) := fun h1 h2 => by
    rw [zed_pos _ _ (by omega), zed_pos _ _ (by omega), h.weights h1 h2, h.gain h1 h2]
    funext y
    have h0 : (y 0).val < 56 := (y 0).isLt
    show mix13 7 _ _ _ _ _ _ = _
    unfold mix13 Ops.x13
    rw [if_pos (by omega)]
  refine ⟨?_, ?_, ?_, ?_, ?_, ?_⟩
  · intro _ r c hr hc hn
    rw [at2_fun (fun r c => lhsOf (O.b1 (min (i 0).val 287)) r c) hr hc]
    exact lhs_fixed _ r c hn
  · intro _ h2
    have hb : min (i 0).val 287 = (i 0).val + 1 - 1 := by omega
    rw [hb]
    funext y
    have h0 : (y 0).val < 28 := (y 0).isLt
    show mix9 7 _ _ _ _ _ = _
    unfold mix9
    rw [if_pos (by omega)]
    rfl
  · intro _ h2
    have hb : min (i 0).val 287 = (i 0).val + 1 - 1 := by omega
    rw [hb]
    rfl
  · intro h1 h2
    rw [zed_pos _ _ (by omega), zed_pos _ _ (by omega), zed_pos _ _ (by omega), h.weights (by omega) (by omega), h.gain (by omega) (by omega)]
    have hb : (i 0).val + 1 - 2 = (i 0).val - 1 := by omega
    rw [hb]
    funext y
    have h0 : (y 0).val < 28 := (y 0).isLt
    show mix10 7 _ _ _ _ _ _ = _
    unfold mix10
    rw [if_pos (by omega)]
    rfl
  · intro h1 h2
    rw [e13 (by omega) (by omega)]
    have hb : (i 0).val + 1 - 2 = (i 0).val - 1 := by omega
    rw [hb]
    rfl
  · intro h1 h2
    rw [e13 (by omega) (by omega)]
    have hb : (i 0).val + 1 - 2 = (i 0).val - 1 := by omega
    rw [hb]
    rfl

/-- The codes' block after a step. -/
theorem codes_step (O : Ops) (i : grid0.Coords) (hi : (i 0).val < 290) (s0 : S128x256.Idx → EReal) (s1 : S28x128x256.Idx → EReal) (s2 : S28x128x256.Idx → EReal) (s3 : S128x128.Idx → EReal) (s4 : S128x128.Idx → EReal) (s5 : S56x8x128.Idx → EReal) (s6 : S56x8x128.Idx → EReal) (s7 : S8x128.Idx → EReal) (h : Inv O (i 0).val s0 s1 s2 s3 s4 s5 s6 s7) (Y6 : S128x7168.Idx → EReal) (h2 : 2 ≤ (i 0).val) :
    (fun y : S128x7168.Idx => mix6 7 (zed i s2) (zed i s6) Y6 (y 0).val (y 1).val) = O.codes ((i 0).val - 2) := by
  rw [zed_pos _ _ (by omega), zed_pos _ _ (by omega), h.products h2 (by omega), h.inverses h2 (by omega)]
  funext y
  have h1 : (y 1).val < 7168 := (y 1).isLt
  show mix6 7 _ _ _ _ _ = _
  unfold mix6
  rw [if_pos (by omega)]
  rfl

/-- The scales' array after a step. -/
theorem scales_step (O : Ops) (i : grid0.Coords) (hi : (i 0).val < 290) (s0 : S128x256.Idx → EReal) (s1 : S28x128x256.Idx → EReal) (s2 : S28x128x256.Idx → EReal) (s3 : S128x128.Idx → EReal) (s4 : S128x128.Idx → EReal) (s5 : S56x8x128.Idx → EReal) (s6 : S56x8x128.Idx → EReal) (s7 : S8x128.Idx → EReal) (h : Inv O (i 0).val s0 s1 s2 s3 s4 s5 s6 s7) (Y7 : S288x56.Idx → EReal) (h2 : 2 ≤ (i 0).val)
    (r c : ℕ) (hr : r < 288) (hc : c < 56) :
    at2 (fun y : S288x56.Idx => scaleRow (min ((i 0).val - 2) 287) (zed i s7) Y7 (y 0).val (y 1).val) r c
      = if r = (i 0).val - 2 then at2 (O.s15 ((i 0).val - 2)) 0 c else at2 Y7 r c := by
  rw [at2_fun (fun r c => scaleRow (min ((i 0).val - 2) 287) (zed i s7) Y7 r c) hr hc]
  rw [zed_pos _ _ (by omega), h.scales h2 (by omega)]
  have hb : min ((i 0).val - 2) 287 = (i 0).val - 2 := by omega
  rw [hb]
  rfl

/-! ## The body obligation -/

set_option backward.isDefEq.respectTransparency.types false in
set_option maxHeartbeats 4000000 in
theorem sound_value (c : Dev nD) (t : Fin cfg0.N) (Y : (w : Fin cfg0.W) → (cfg0.win w).block.Idx → Elt Ideal (cfg0.win w).elt)
    (hY : ∀ w, (vdat m c).Finds w t (Y w)) :
    iprop(vΦ m c t.val ∗ (vdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6))
      ⊢ wp frame (wpE (defs₀ (F := Ideal)) Variants.none c none) Set.univ (bodyAt0 t) (fun _ => iprop(vΦ m c (t.val + 1) ∗ (vdat m c).owesAt () t.succ ∗ (∃ X, ⌜vafter (ops m c) 0 t (Y 0) X⌝ ∗ owns (c : Thread nD τ) ((cfg0.win 0).stage (cfg0.slots t 0)) fullShare X) ∗ (∃ X, ⌜vafter (ops m c) 1 t (Y 1) X⌝ ∗ owns (c : Thread nD τ) ((cfg0.win 1).stage (cfg0.slots t 1)) fullShare X) ∗ (∃ X, ⌜vafter (ops m c) 2 t (Y 2) X⌝ ∗ owns (c : Thread nD τ) ((cfg0.win 2).stage (cfg0.slots t 2)) fullShare X) ∗ (∃ X, ⌜vafter (ops m c) 3 t (Y 3) X⌝ ∗ owns (c : Thread nD τ) ((cfg0.win 3).stage (cfg0.slots t 3)) fullShare X) ∗ (∃ X, ⌜vafter (ops m c) 4 t (Y 4) X⌝ ∗ owns (c : Thread nD τ) ((cfg0.win 4).stage (cfg0.slots t 4)) fullShare X) ∗ (∃ X, ⌜vafter (ops m c) 5 t (Y 5) X⌝ ∗ owns (c : Thread nD τ) ((cfg0.win 5).stage (cfg0.slots t 5)) fullShare X) ∗ (∃ X, ⌜vafter (ops m c) 6 t (Y 6) X⌝ ∗ owns (c : Thread nD τ) ((cfg0.win 6).stage (cfg0.slots t 6)) fullShare X))) := by
  have hi := coords0 t
  have ht : t.val < 290 := t.isLt
  have e0 := finds0 m c t _ (hY 0)
  have e1 := finds1 m c t _ (hY 1)
  have e2 := finds2 m c t _ (hY 2)
  have e3 := finds3 m c t _ (hY 3)
  have e4 := finds4 m c t _ (hY 4)
  unfold bodyAt0
  rw [show (vdat m c).owesAt () t.succ = (vdat m c).owesAt () t.castSucc from rfl]
  unfold vΦ
  iintro ⟨⟨⟨%s0, %s1, %s2, %s3, %s4, %s5, %s6, %s7, %hinv, S0, S1, S2, S3, S4, S5, S6, S7⟩, Hg⟩, HO, H0, H1, H2, H3, H4, H5, H6⟩
  rw [← hi] at hinv
  iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Y 0) (Y 1) (Y 2) (Y 3) (Y 4) (Y 5) (Y 6) s0 s1 s2 s3 s4 s5 s6 s7 hinv.fixed _) $$ [H0 H1 H2 H3 H4 H5 H6 S0 S1 S2 S3 S4 S5 S6 S7] [Hg HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro ⟨H0, H1, H2, H3, H4, H5, H6, S0, S1, S2, S3, S4, S5, S6, S7⟩
    isplitl [Hg S0 S1 S2 S3 S4 S5 S6 S7]
    · isplitl [S0 S1 S2 S3 S4 S5 S6 S7]
      · iexists _, _, _, _, _, _, _, _
        isplitr; swap
        · isplitl [S0]; · iexact S0
          isplitl [S1]; · iexact S1
          isplitl [S2]; · iexact S2
          isplitl [S3]; · iexact S3
          isplitl [S4]; · iexact S4
          isplitl [S5]; · iexact S5
          isplitl [S6]; · iexact S6
          iexact S7
        · ipureintro
          rw [e0, e1, e2, e3, e4, ← hi]
          exact inv_step (ops m c) (grid0.coords t) (by omega) s0 s1 s2 s3 s4 s5 s6 s7 hinv
      · iexact Hg
    isplitl [HO]; · iexact HO
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro
      intro h2
      rw [← hi] at h2 ⊢
      exact codes_step (ops m c) (grid0.coords t) (by omega) s0 s1 s2 s3 s4 s5 s6 s7 hinv _ h2
    iexists _; isplitr; swap; · iexact H6
    ipureintro
    intro h2 r z hr hz
    rw [← hi] at h2 ⊢
    exact scales_step (ops m c) (grid0.coords t) (by omega) s0 s1 s2 s3 s4 s5 s6 s7 hinv _ h2 r z hr hz

theorem value_row (t : Fin cfg0.N) : defs₀ (F := Ideal) .tc cfg0.body (cfg0.bodyArgs t (cfg0.slots t)) = bodyAt0 t := by
  unfold defs₀; rw [Defs.onTc_tc]

theorem value_obligation (c : Dev nD) : (vdat m c).BodyObligation (defs₀ (F := Ideal)) Variants.none () Set.univ := fun t Y hY => by
  rw [bigSep_W0, bigSep_W0, value_row]
  exact sound_value m c t Y hY

theorem value_in (c : Dev nD) : Pipeline.ΦA spec0 c ⊢ vΦ m c 0 := by
  unfold Pipeline.ΦA vΦ
  rw [scopedRest0_eq]
  iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩
  isplitl [S0 S1 S2 S3 S4 S5 S6 S7]
  · iexists s0, s1, s2, s3, s4, s5, s6, s7
    isplitr; swap
    · isplitl [S0]; · rw [owns_whole]; iexact S0
      isplitl [S1]; · rw [owns_whole]; iexact S1
      isplitl [S2]; · rw [owns_whole]; iexact S2
      isplitl [S3]; · rw [owns_whole]; iexact S3
      isplitl [S4]; · rw [owns_whole]; iexact S4
      isplitl [S5]; · rw [owns_whole]; iexact S5
      isplitl [S6]; · rw [owns_whole]; iexact S6
      rw [owns_whole]; iexact S7
    · ipureintro
      exact ⟨fun h => absurd rfl h, fun h => absurd h (by decide), fun h => absurd h (by decide), fun h => absurd h (by decide), fun h => absurd h (by decide), fun h => absurd h (by decide)⟩
  · iexact Hg

theorem value_out (c : Dev nD) (t : ℕ) : vΦ m c t ⊢ Pipeline.ΦA spec0 c := by
  unfold Pipeline.ΦA vΦ
  rw [scopedRest0_eq]
  iintro ⟨⟨%s0, %s1, %s2, %s3, %s4, %s5, %s6, %s7, %hinv, S0, S1, S2, S3, S4, S5, S6, S7⟩, Hg⟩
  isplitl [S0 S1 S2 S3 S4 S5 S6 S7]
  · isplitl [S0]; · iexists _; rw [← owns_whole]; iexact S0
    isplitl [S1]; · iexists _; rw [← owns_whole]; iexact S1
    isplitl [S2]; · iexists _; rw [← owns_whole]; iexact S2
    isplitl [S3]; · iexists _; rw [← owns_whole]; iexact S3
    isplitl [S4]; · iexists _; rw [← owns_whole]; iexact S4
    isplitl [S5]; · iexists _; rw [← owns_whole]; iexact S5
    isplitl [S6]; · iexists _; rw [← owns_whole]; iexact S6
    iexists _; rw [← owns_whole]; iexact S7
  · iexact Hg

set_option backward.isDefEq.respectTransparency.types false in
/-- The run of the whole program, over the region's data. -/
theorem value_run : θ_run (Cert.KernelIdeal.defs (F := Ideal)) (onTc (τ := Cert.KernelIdeal.τ) (Cert.KernelIdeal.main (F := Ideal))) ⟨m, fun _ => 0, ρ⟩ (fun r => RDat.FramePost (cfgs 0) (fun c => vdat m c) (V m) r ∧ r.2.sem = fun _ => 0) :=
  RDat.θ_run_frame_track cfgs 0 launch0 defs₀ Variants.none (fun c => vdat m c) m ρ main
    (hbody := fun c => value_obligation m c) (hshare := fun c => (vdat m c).share_full fun _ => rfl)
    (howed := fun _ _ => rfl) (V := V m) (hmain := hmain m Variants.none) (hA := fun _ _ => rfl)
    (hin := fun c => value_in m c) (hout := fun c => value_out m c _) (Q' := _) (hQ' := fun _ h => h)

/-! ## The results -/

/-- All bands of codes. -/
def codesOut (O : Ops) : S36864x7168.Idx → EReal := fun y =>
  at2 (O.codes ((y 0).val / 128)) ((y 0).val % 128) (y 1).val
/-- All bands of scales. -/
def scalesOut (O : Ops) : S288x56.Idx → EReal := fun y => at2 (O.s15 (y 0).val) 0 (y 1).val

theorem flush5 : ∀ t : Fin grid0.N, win0_5.flush t = true → 2 ≤ t.val := by decide +kernel
theorem cover5 : win0_5.Covers := by decide +kernel
theorem whole6 : win0_6.WholeAt (⟨289, by decide⟩ : Fin grid0.N) := by decide +kernel
theorem fetch6 : ∀ t : Fin grid0.N, win0_6.fetch t = false := by decide +kernel
theorem flush6 : ∀ t : Fin grid0.N, t.val < 289 → win0_6.flush t = false := by decide +kernel

/-- After step `t` the scales' array holds the rows of the bands done. -/
theorem leaves6 (c : Dev nD) (n : ℕ) : ∀ (t : Fin cfg0.N), t.val = n → ∀ X, (vdat m c).Leaves 6 t X →
    ∀ b z : ℕ, b + 2 ≤ t.val → z < 56 → at2 (n0 := 288) (n1 := 56) X b z = at2 ((ops m c).s15 b) 0 z := by
  induction n with
  | zero => intro t ht X _ b z hb; omega
  | succ n ih =>
    intro t ht X hX b z hb hz
    have hN : t.val < 290 := t.isLt
    obtain ⟨Y, hY, hR⟩ := hX
    have hR' := hR (by omega) b z (by omega) hz
    rw [hR']
    by_cases hbt : b = t.val - 2
    · rw [if_pos hbt, hbt]
    · rw [if_neg hbt]
      have hpos : 0 < t.val := by omega
      rcases (RDat.finds_of_pos (vdat m c) (w := 6) (t := t) (fetch6 t) (by omega) Y).mp hY with hfl | hL
      · exact absurd hfl (by rw [Bool.not_eq_true]; exact flush6 _ (by show t.val - 1 < 289; omega))
      · exact ih _ (by show t.val - 1 = n; omega) Y hL b z (by show b + 2 ≤ t.val - 1; omega) hz

set_option maxHeartbeats 2000000 in
/-- The two result arrays of the run, and the arguments. -/
theorem value_out_eq (r) (hr : RDat.FramePost (cfgs 0) (fun c => vdat m c) (V m) r) (c : Dev nD) :
    r.2.mem ((c.tc : Thread nD τ).loc main_v3_0) = codesOut (ops m c) ∧ r.2.mem ((c.tc : Thread nD τ).loc main_v3_1) = scalesOut (ops m c) := by
  obtain ⟨after, hL, hA⟩ := RDat.FramePost.exists_exact hr c
  constructor
  · refine (hA 5).trans ?_
    refine Pipeline.Dat.arrAt_eq_of_covers _ 5 _ cover5 fun t hf y => ?_
    have h2 := flush5 t hf
    have ht : t.val < 290 := t.isLt
    obtain ⟨Y, -, hR⟩ := hL 5 t hf
    have hR' : after 5 t = (ops m c).codes (t.val - 2) := hR h2
    have h0 : (y 0).val < 128 := (y 0).isLt
    have h1 : (y 1).val < 7168 := (y 1).isLt
    show after 5 t _ = _
    rw [hR']
    refine (at2_idx (n0 := 128) (n1 := 7168) ((ops m c).codes (t.val - 2)) _).trans ?_
    have e0 : ((((cfg0.win 5).blk t).view.emb y) 0).val = 128 * (t.val - 2) + (y 0).val := by
      blk_simp [index5 t]
      try simp
      try omega
    have e1 : ((((cfg0.win 5).blk t).view.emb y) 1).val = (y 1).val := by
      blk_simp [index5 t]
      try simp
    show _ = at2 ((ops m c).codes (((((cfg0.win 5).blk t).view.emb y) 0).val / 128)) (((((cfg0.win 5).blk t).view.emb y) 0).val % 128) ((((cfg0.win 5).blk t).view.emb y) 1).val
    rw [e0, e1, show (128 * (t.val - 2) + (y 0).val) / 128 = t.val - 2 by omega, show (128 * (t.val - 2) + (y 0).val) % 128 = (y 0).val by omega]
  · refine (hA 6).trans ?_
    refine Pipeline.Dat.arrAt_eq_of_after_last _ 6 _ whole6 _ fun j => ?_
    have hX := hL 6 (⟨289, by decide⟩ : Fin grid0.N) whole6.1
    have h0 : (j 0).val < 288 := (j 0).isLt
    have h1 : (j 1).val < 56 := (j 1).isLt
    have := leaves6 m c 289 _ rfl _ hX (j 0).val (j 1).val (by show (j 0).val + 2 ≤ 289; omega) h1
    exact (at2_idx (n0 := 288) (n1 := 56) _ _).trans this

end Cert.KernelIdeal.Hand
end
-- ==== Proof.KerVal.lean ====
module

public import proofs.«01_k».proof.Proof.Link
public import proofs.«01_k».proof.Proof.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

/-! ## The region's bands are the model's -/

theorem mul_sum_of_nonneg {ι : Type} (s : Finset ι) (f : ι → EReal) (a : EReal) (h0 : 0 ≤ a) (ht : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

section

variable {O : Ops} {P : S2x18432x7168.Idx → EReal} {s : S2x144x56.Idx → EReal} {A : S2x64x7168.Idx → EReal} {B : S2x18432x64.Idx → EReal} {g : S2x18432.Idx → EReal}

/-- The merged weight of a tile. -/
theorem mm_eq (hL : Linked O P s A B g) (e p T r c : ℕ) (he : e < 2) (hp : p < 144) (hT : T < 28) (hr : r < 128) (hc : c < 256) :
    O.mm (144 * e + p) T r c = mergedM P s A B e p r (256 * T + c) := by
  have hF : O.mm (144 * e + p) T r c
      = ∑ x : Fin 256, lhsOf (O.b1 (144 * e + p)) r x.val * rhs O.s (O.w1 (144 * e + p)) (O.a1 (144 * e + p)) (144 * e + p) T x.val c := by
    unfold Ops.mm merged
    refine Finset.sum_congr rfl fun x _ => ?_
    rw [at2_fun (fun a b => lhsOf (O.b1 (144 * e + p)) a b) hr x.isLt]
  rw [hF, ← Finset.sum_range (fun x => lhsOf (O.b1 (144 * e + p)) r x * rhs O.s (O.w1 (144 * e + p)) (O.a1 (144 * e + p)) (144 * e + p) T x c),
    show (256 : ℕ) = 128 + (64 + 64) from rfl, Finset.sum_range_add, Finset.sum_range_add]
  have h1 : ∑ x ∈ Finset.range 128, lhsOf (O.b1 (144 * e + p)) r x * rhs O.s (O.w1 (144 * e + p)) (O.a1 (144 * e + p)) (144 * e + p) T x c
      = at3 P e (p * 128 + r) (256 * T + c) * at3 s e p ((256 * T + c) / 128) := by
    rw [Finset.sum_eq_single r]
    · unfold lhsOf rhs
      rw [if_pos hr, if_pos rfl, if_pos hr, one_mul]
      unfold Ops.w1
      rw [at2_fun (fun a b => at2 O.w (128 * (144 * e + p) + a) b) hr (by omega),
        show 128 * (144 * e + p) + r = 18432 * e + (p * 128 + r) by omega, hL.hw e _ _ he (by omega) (by omega),
        show 56 * (144 * e + p) + 2 * T + c / 128 = 56 * (144 * e + p) + (256 * T + c) / 128 by omega, hL.hs e p _ he hp (by omega)]
    · intro x hx hne
      have hx' := Finset.mem_range.1 hx
      unfold lhsOf
      rw [if_pos hx', if_neg (Ne.symm hne), zero_mul]
    · intro h
      exact absurd (Finset.mem_range.2 hr) h
  have h2 : ∑ x ∈ Finset.range 64, lhsOf (O.b1 (144 * e + p)) r (128 + x) * rhs O.s (O.w1 (144 * e + p)) (O.a1 (144 * e + p)) (144 * e + p) T (128 + x) c
      = Ideal.ofBits FTy.f32 1056964608#32 * ∑ k : Fin 64, at3 B e (p * 128 + r) k.val * at3 A e k.val (256 * T + c) := by
    rw [mul_sum_of_nonneg _ _ _ (by rw [ofBits_half_f32]; exact EReal.coe_nonneg.2 (by norm_num)) (by rw [ofBits_half_f32]; exact EReal.coe_ne_top _)]
    rw [Finset.sum_range]
    refine Finset.sum_congr rfl fun k _ => ?_
    have hk := k.isLt
    unfold lhsOf rhs
    rw [if_neg (by omega), if_pos (by omega), if_neg (by omega), if_pos (by omega), Nat.add_sub_cancel_left]
    unfold Ops.b1 Ops.a1
    rw [at2_fun (fun a b => at2 O.b (128 * (144 * e + p) + a) b) hr hk,
      at3_fun (fun a b d => at3 O.a ((144 * e + p) / 144 + a) b d) (by omega) hk (by omega),
      show 128 * (144 * e + p) + r = 18432 * e + (p * 128 + r) by omega, hL.hb e _ _ he (by omega) hk, hL.ha,
      show (144 * e + p) / 144 + 0 = e by omega, ofBits_half_bf16, ofBits_half_f32, mul_assoc, mul_left_comm]
  have h3 : ∑ x ∈ Finset.range 64, lhsOf (O.b1 (144 * e + p)) r (128 + (64 + x)) * rhs O.s (O.w1 (144 * e + p)) (O.a1 (144 * e + p)) (144 * e + p) T (128 + (64 + x)) c = 0 := by
    refine Finset.sum_eq_zero fun x _ => ?_
    unfold lhsOf
    rw [if_neg (by omega), if_neg (by omega), zero_mul]
  rw [h1, h2, h3, add_zero]
  rfl

/-- The sums of squares of a row, up to trip `k`. -/
theorem mix11_eq (M : ℕ → ℕ → ℕ → EReal) (W : ℕ → ℕ → EReal) (r l : ℕ) (hl : l < 128) (hr : r < 128)
    (h : ∀ T c : ℕ, T < 28 → c < 256 → M T r c = W r (256 * T + c)) (k : ℕ) (hk : k ≤ 7) :
    mix11 k M (fun _ => 0) r l = ∑ q ∈ Finset.range (8 * k), W r (q * 128 + l) * W r (q * 128 + l) := by
  induction k with
  | zero =>
    show at2 _ _ _ = _
    unfold at2
    rw [dif_pos ⟨hr, hl⟩]
    simp
  | succ k ih =>
    have hq : ∀ T : ℕ, T < 28 → squares M T r l = W r (2 * T * 128 + l) * W r (2 * T * 128 + l) + W r ((2 * T + 1) * 128 + l) * W r ((2 * T + 1) * 128 + l) := by
      intro T hT
      unfold squares
      rw [h T l hT (by omega), h T (l + 128) hT (by omega), show 256 * T + l = 2 * T * 128 + l by omega,
        show 256 * T + (l + 128) = (2 * T + 1) * 128 + l by omega]
    show mix11 k M _ r l + _ = _
    rw [ih (by omega), hq (4 * k) (by omega), hq (4 * k + 1) (by omega), hq (4 * k + 2) (by omega), hq (4 * k + 3) (by omega),
      show 8 * (k + 1) = 8 * k + 1 + 1 + 1 + 1 + 1 + 1 + 1 + 1 by omega]
    simp only [Finset.sum_range_succ]
    rw [show 2 * (4 * k) = 8 * k by omega, show 2 * (4 * k + 1) = 8 * k + 1 + 1 by omega, show 2 * (4 * k + 2) = 8 * k + 1 + 1 + 1 + 1 by omega,
      show 2 * (4 * k + 3) = 8 * k + 1 + 1 + 1 + 1 + 1 + 1 by omega]
    simp only [add_assoc, Nat.reduceAdd]

/-- The gain of a row. -/
theorem gain_eq (hL : Linked O P s A B g) (e p r : ℕ) (he : e < 2) (hp : p < 144) (hr : r < 128) :
    gainAt (144 * e + p) (O.g1 (144 * e + p)) (O.acc (144 * e + p)) r
      = Ideal.div (gainM g e p r) (normOf (sumSq (mergedM P s A B e p) r)) := by
  have hsum : ∑ x : Fin 128, at2 (O.acc (144 * e + p)) r x.val = sumSq (mergedM P s A B e p) r := by
    unfold sumSq
    rw [Finset.sum_comm]
    refine Finset.sum_congr rfl fun l _ => ?_
    unfold Ops.acc
    rw [at2_fun (fun a b => mix11 7 (O.mm (144 * e + p)) (fun _ => 0) a b) hr l.isLt,
      mix11_eq (O.mm (144 * e + p)) (mergedM P s A B e p) r l.val l.isLt hr (fun T c hT hc => mm_eq hL e p T r c he hp hT hr hc) 7 (le_refl 7),
      Finset.sum_range]
  have hg : ∀ j : ℕ, j < 2 → at2 (O.g1 (144 * e + p)) j r = at2 g j (p * 128 + r) := by
    intro j hj
    unfold Ops.g1
    rw [at2_fun (fun a b => at2 O.g a (128 * ((144 * e + p) % 144) + b)) hj hr, hL.hg]
    congr 1
    omega
  unfold gainAt
  rw [hsum, hg 1 (by omega), hg 0 (by omega)]
  unfold normOf gainM
  congr 1
  by_cases h1 : e = 1
  · subst h1; rw [if_pos (by omega)]
  · have h0 : e = 0 := by omega
    subst h0; rw [if_neg (by omega)]

/-- The entry times the gain. -/
theorem scaled_eq (hL : Linked O P s A B g) (e p T r c l : ℕ) (he : e < 2) (hp : p < 144) (hT : T < 28) (hr : r < 128) (hc : c < 256) (hl : l < 128) :
    at3 (O.m9 (144 * e + p)) T r c * at2 (O.g12 (144 * e + p)) r l = prodM (mergedM P s A B e p) (gainM g e p) r (256 * T + c) := by
  unfold Ops.m9 Ops.g12
  rw [at3_fun (fun a b d => O.mm (144 * e + p) a b d) hT hr hc, mm_eq hL e p T r c he hp hT hr hc,
    at2_fun (fun a _ => gainAt (144 * e + p) (O.g1 (144 * e + p)) (O.acc (144 * e + p)) a) hr hl, gain_eq hL e p r he hp hr]
  rfl

/-- The largest magnitude of a column block. -/
theorem top_eq (hL : Linked O P s A B g) (e p q : ℕ) (he : e < 2) (hp : p < 144) (hq : q < 56) :
    rowAmax (O.x13 (144 * e + p)) q = topM (mergedM P s A B e p) (gainM g e p) q := by
  have hx : ∀ s' l : ℕ, s' < 8 → l < 128 → at3 (O.x13 (144 * e + p)) q s' l
      = Finset.fold max (Ideal.ofBits FTy.f32 4286578688#32) (fun k : Fin 16 => mag (prodM (mergedM P s A B e p) (gainM g e p) (8 * k.val + s') (q * 128 + l))) Finset.univ := by
    intro s' l hs' hl
    unfold Ops.x13
    rw [at3_fun (fun a b d => amax (O.m9 (144 * e + p)) (O.g12 (144 * e + p)) a b d) hq hs' hl]
    unfold amax
    refine Finset.fold_congr fun k _ => ?_
    have hk := k.isLt
    rw [scaled_eq hL e p (q / 2) (8 * k.val + s') (128 * (q % 2) + l) l he hp (by omega) (by omega) (by omega) hl,
      show 256 * (q / 2) + (128 * (q % 2) + l) = q * 128 + l by omega]
    rfl
  unfold rowAmax
  apply le_antisymm
  · refine (Finset.fold_max_le _).2 ⟨by rw [ofBits_bot]; exact bot_le, fun s' _ => ?_⟩
    unfold pick
    rw [if_pos hq]
    refine (Finset.fold_max_le _).2 ⟨by rw [ofBits_bot]; exact bot_le, fun l _ => ?_⟩
    rw [hx s'.val l.val s'.isLt l.isLt]
    refine (Finset.fold_max_le _).2 ⟨by rw [ofBits_bot]; exact bot_le, fun k _ => ?_⟩
    have hk := k.isLt
    have hs' := s'.isLt
    exact le_topM _ _ q ⟨8 * k.val + s'.val, by omega⟩ l
  · unfold topM
    refine (Finset.fold_max_le _).2 ⟨by rw [ofBits_bot]; exact bot_le, fun x _ => ?_⟩
    have hx1 := x.1.isLt
    refine (Finset.le_fold_max _).2 (Or.inr ⟨⟨x.1.val % 8, by omega⟩, Finset.mem_univ _, ?_⟩)
    unfold pick
    rw [if_pos hq]
    refine (Finset.le_fold_max _).2 (Or.inr ⟨x.2, Finset.mem_univ _, ?_⟩)
    rw [hx _ _ (by show x.1.val % 8 < 8; omega) x.2.isLt]
    refine (Finset.le_fold_max _).2 (Or.inr ⟨⟨x.1.val / 8, by omega⟩, Finset.mem_univ _, ?_⟩)
    show _ ≤ mag (prodM _ _ (8 * (x.1.val / 8) + x.1.val % 8) _)
    rw [show 8 * (x.1.val / 8) + x.1.val % 8 = x.1.val by omega]

/-- The scale of a column block and its reciprocal. -/
theorem scales_eq (hL : Linked O P s A B g) (hg : ∀ e r : ℕ, e < 2 → r < 18432 → mag (at2 g e r) ≤ Ideal.ofBits FTy.f32 2139095039#32)
    (e p q : ℕ) (he : e < 2) (hp : p < 144) (hq : q < 56) :
    srowAt (O.x13 (144 * e + p)) q = scaleM (mergedM P s A B e p) (gainM g e p) q
      ∧ invAt (O.x13 (144 * e + p)) q = Ideal.exp2 (0 - expo (topM (mergedM P s A B e p) (gainM g e p) q)) := by
  have h := scale_eq _ (topM_nonneg (mergedM P s A B e p) (gainM g e p) q)
    (topM_le (mergedM P s A B e p) (gainM g e p) ⟨q, hq⟩ (fun r hr => hg e (p * 128 + r) he (by omega)))
  unfold srowAt invAt scaleM
  rw [top_eq hL e p q he hp hq]
  exact h

/-- The first result of the region. -/
theorem codesOut_eq (hL : Linked O P s A B g) (hg : ∀ e r : ℕ, e < 2 → r < 18432 → mag (at2 g e r) ≤ Ideal.ofBits FTy.f32 2139095039#32) :
    codesOut O = codesM P s A B g := by
  funext y
  have h0 : (y 0).val < 36864 := (y 0).isLt
  have h1 : (y 1).val < 7168 := (y 1).isLt
  unfold codesOut codesM codeM
  generalize (y 0).val = n at h0 ⊢
  generalize (y 1).val = c at h1 ⊢
  have he : n / 18432 < 2 := by omega
  have hp : n / 128 % 144 < 144 := by omega
  have hr : n % 128 < 128 := by omega
  have hb : n / 128 = 144 * (n / 18432) + n / 128 % 144 := by omega
  generalize n / 18432 = e at he hb ⊢
  generalize n / 128 % 144 = p at hp hb ⊢
  generalize n % 128 = r at hr ⊢
  rw [hb]
  unfold Ops.codes
  rw [at2_fun (fun a b => clamp (at3 (O.v10 (144 * e + p)) (b / 256) a (b % 256) * at3 (O.i14 (144 * e + p)) (b / 128) (a % 8) (b % 128))) hr h1]
  unfold Ops.v10 Ops.i14
  rw [at3_fun (fun a b d => at3 (O.m9 (144 * e + p)) a b d * at2 (O.g12 (144 * e + p)) b (d % 128)) (by omega) hr (by omega),
    at3_fun (fun a _ _ => invAt (O.x13 (144 * e + p)) a) (by omega) (by omega) (by omega),
    scaled_eq hL e p (c / 256) r (c % 256) _ he hp (by omega) hr (by omega) (by omega),
    (scales_eq hL hg e p (c / 128) he hp (by omega)).2, show 256 * (c / 256) + c % 256 = c by omega]

/-- The second result of the region. -/
theorem scalesOut_eq (hL : Linked O P s A B g) (hg : ∀ e r : ℕ, e < 2 → r < 18432 → mag (at2 g e r) ≤ Ideal.ofBits FTy.f32 2139095039#32) :
    scalesOut O = scalesM P s A B g := by
  funext y
  have h0 : (y 0).val < 288 := (y 0).isLt
  have h1 : (y 1).val < 56 := (y 1).isLt
  unfold scalesOut scalesM
  generalize (y 0).val = n at h0 ⊢
  generalize (y 1).val = c at h1 ⊢
  have he : n / 144 < 2 := by omega
  have hp : n % 144 < 144 := by omega
  have hb : n = 144 * (n / 144) + n % 144 := by omega
  generalize n / 144 = e at he hb ⊢
  generalize n % 144 = p at hp hb ⊢
  subst hb
  unfold Ops.s15
  rw [at2_fun (fun _ b => srowAt (O.x13 (144 * e + p)) b) (by omega) (by omega), (scales_eq hL hg e p c he hp h1).1]

end

end Cert.KernelIdeal.Hand
end
-- ==== Proof.KerRun.lean ====
module

public import proofs.«01_k».proof.Defs
public import proofs.«01_k».proof.Proof.Gen.Pre_magnitude_finite
public import proofs.«01_k».proof.Proof.KerVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (RDat)

/-! ## The kernel's run, under the precondition -/

theorem pre_at (P : S2x18432x7168.Idx → EReal) (s : S2x144x56.Idx → EReal) (A : S2x64x7168.Idx → EReal) (B : S2x18432x64.Idx → EReal) (g : S2x18432.Idx → EReal)
    (h : letI := Cert.Pre_magnitude_finite.Gen.facts; Cert.Pre_magnitude_finite.fn (F := Ideal) P s A B g = fun _ => 1#1) (e r : ℕ) (he : e < 2) (hr : r < 18432) :
    mag (at2 g e r) ≤ Ideal.ofBits FTy.f32 2139095039#32 := by
  have h1 := congrFun h (ix2 ⟨e, he⟩ ⟨r, hr⟩)
  have h2 : at2 g e r = g (ix2 ⟨e, he⟩ ⟨r, hr⟩) := (at2_ix g ⟨e, he⟩ ⟨r, hr⟩).symm
  rw [h2]
  by_contra hn
  have h3 : BitVec.ofBool (decide (mag (g (ix2 ⟨e, he⟩ ⟨r, hr⟩)) ≤ Ideal.ofBits FTy.f32 2139095039#32)) = 1#1 := h1
  rw [decide_eq_false hn] at h3
  exact absurd h3 (by decide)

variable (m : (ℓ : Loc nD τ sig) → Buf (Elt Ideal) ℓ) (ρ : Dev nD → PrngReg)

/-- The kernel's run: the model's two results, its arguments as they began. -/
theorem run_model (hpre : letI := Cert.Pre_magnitude_finite.Gen.facts; Cert.Pre_KernelIdeal_magnitude_finite m) :
    θ_run (defs (F := Ideal)) (onTc (τ := τ) (main (F := Ideal))) ⟨m, fun _ => 0, ρ⟩ (fun r => ∀ c : Dev nD,
      r.2.mem ((c.tc : Thread nD τ).loc main_v3_0) = codesM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_1) = scalesM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (value_run m ρ)
  have hg := fun e r he hr => pre_at _ _ _ _ _ (hpre c) e r he hr
  exact ⟨(value_out_eq m r hr.1 c).1.trans (codesOut_eq (linked m c) hg),
    (value_out_eq m r hr.1 c).2.trans (scalesOut_eq (linked m c) hg),
    ((hr.1 c).2 main_arg0 (Pipeline.mem_restRefs_of main_arg0 (by decide) (by decide))).trans (V_main_arg0 m c),
    ((hr.1 c).2 main_arg1 (Pipeline.mem_restRefs_of main_arg1 (by decide) (by decide))).trans (V_main_arg1 m c),
    (RDat.FramePost.arr_in hr.1 c 2 rfl).trans (V_main_arg2 m c),
    ((hr.1 c).2 main_arg3 (Pipeline.mem_restRefs_of main_arg3 (by decide) (by decide))).trans (V_main_arg3 m c),
    (RDat.FramePost.arr_in hr.1 c 4 rfl).trans (V_main_arg4 m c)⟩

end Cert.KernelIdeal.Hand
end
-- ==== Proof.RefWeight.lean ====
module

public import proofs.«01_k».proof.Proof.Model
public import proofs.«01_k».proof.Proof.Gen.ReferenceIdeal.Skeleton
public import Idealize.ShloMosaic.Lib.Tactic
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (at1 at2 at3 at1_ix at2_ix at3_ix prodM normOf sumSq gainM topM mag expo clamp ofBits_bot)

/-! ## The two reductions over two axes, read as sums over pairs -/

theorem fiber_sum (e : Fin 2) (p : Fin 144) (r : Fin 128) (i : S2x144x128x56x128.Idx) :
    reduces_S2x144x128x56x128_S2x144x128.drop i = ix3 e p r ↔ ∃ k : Fin 56 × Fin 128, (ix5 e p r k.1 k.2 : S2x144x128x56x128.Idx) = i := by
  constructor
  · intro h
    refine ⟨(i 3, i 4), ?_⟩
    funext a; apply Fin.ext
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => rfl
    | ⟨4, _⟩ => rfl
  · rintro ⟨k, rfl⟩
    funext b
    apply Fin.ext
    match b with
    | ⟨0, _⟩ => rfl
    | ⟨1, _⟩ => rfl
    | ⟨2, _⟩ => rfl

theorem reduce_sum (X : S2x144x128x56x128.Idx → EReal) (e : Fin 2) (p : Fin 144) (r : Fin 128) :
    Ideal.reduceAdd reduces_S2x144x128x56x128_S2x144x128 X (ix3 e p r) = ∑ q : Fin 56, ∑ l : Fin 128, X (ix5 e p r q l) := by
  refine (Finset.sum_filter_eq_sum_of_fiber _ (fun k : Fin 56 × Fin 128 => (ix5 e p r k.1 k.2 : S2x144x128x56x128.Idx))
    (fun a b h => Prod.ext (congrFun h 3) (congrFun h 4)) (fiber_sum e p r) X).trans ?_
  exact Fintype.sum_prod_type _

theorem fiber_max (e : Fin 2) (p : Fin 144) (q : Fin 56) (i : S2x144x128x56x128.Idx) :
    reduces_S2x144x128x56x128_S2x144x56.drop i = ix3 e p q ↔ ∃ k : Fin 128 × Fin 128, (ix5 e p k.1 q k.2 : S2x144x128x56x128.Idx) = i := by
  constructor
  · intro h
    refine ⟨(i 2, i 4), ?_⟩
    funext a; apply Fin.ext
    match a with
    | ⟨0, _⟩ => exact (congrArg Fin.val (congrFun h 0)).symm
    | ⟨1, _⟩ => exact (congrArg Fin.val (congrFun h 1)).symm
    | ⟨2, _⟩ => rfl
    | ⟨3, _⟩ => exact (congrArg Fin.val (congrFun h 2)).symm
    | ⟨4, _⟩ => rfl
  · rintro ⟨k, rfl⟩
    funext b
    apply Fin.ext
    match b with
    | ⟨0, _⟩ => rfl
    | ⟨1, _⟩ => rfl
    | ⟨2, _⟩ => rfl

theorem reduce_max (X : S2x144x128x56x128.Idx → EReal) (b : EReal) (e : Fin 2) (p : Fin 144) (q : Fin 56) :
    Finset.fold max b X (Finset.univ.filter fun i => reduces_S2x144x128x56x128_S2x144x56.drop i = ix3 e p q)
      = Finset.fold max b (fun k : Fin 128 × Fin 128 => X (ix5 e p k.1 q k.2)) Finset.univ :=
  Finset.fold_filter_eq_fold_of_fiber max _ (fun k : Fin 128 × Fin 128 => (ix5 e p k.1 q k.2 : S2x144x128x56x128.Idx))
    (fun a c h => Prod.ext (congrFun h 2) (congrFun h 4)) (fiber_max e p q) b X

/-- The merged weight from the stored code, its scale and the low-rank product. -/
def wd (P0 : S2x18432x7168.Idx → EReal) (P1 : S2x144x56.Idx → EReal) (P2 : S2x18432x7168.Idx → EReal) (e p r c : ℕ) : EReal :=
  at3 P0 e (p * 128 + r) c * at3 P1 e p (c / 128) + Ideal.ofBits FTy.f32 1056964608#32 * at3 P2 e (p * 128 + r) c

set_option maxHeartbeats 4000000 in
theorem pay4_at (P0 : S2x18432x7168.Idx → EReal) (P1 : S2x144x56.Idx → EReal) (P2 : S2x18432x7168.Idx → EReal) (P3 : S2x18432.Idx → EReal)
    (e : Fin 2) (p : Fin 144) (r : Fin 128) (q : Fin 56) (l : Fin 128) :
    k0_pay4 (F := Ideal) P0 P1 P2 P3 (ix5 e p r q l) = prodM (wd P0 P1 P2 e.val p.val) (gainM P3 e.val p.val) r.val (q.val * 128 + l.val) := by
  pointwise [k0_pay4]
  simp only [reduce_sum]
  pointwise
  simp only [at3_ix, at2_ix]
  have hd : ∀ (q : Fin 56) (l : Fin 128), (q.val * 128 + l.val) / 128 = q.val := fun q l => by have := l.isLt; omega
  unfold prodM normOf sumSq gainM wd
  simp only [hd]
  try rfl

end Cert.ReferenceIdeal.Hand
end
-- ==== Proof.RefLast.lean ====
module

public import proofs.«01_k».proof.Proof.Model
public import proofs.«01_k».proof.Proof.Gen.ReferenceIdeal.Skeleton
public import Idealize.ShloMosaic.Lib.Tactic
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (at1 at2 at3 at1_ix at2_ix at3_ix prodM normOf sumSq gainM topM mag expo clamp ofBits_bot)

/-! ## The last steps of the reference, read at an index -/

/-- The exponent from the largest magnitude, its multiple and the comparisons. -/
theorem pay1_at (v27 v29 : FVec Ideal S2x144x56 .f32) (v37 : IVec S2x144x56x254 1) (v38 v39 : FVec Ideal S2x144x56x254 .f32) (e : Fin 2) (p : Fin 144) (q : Fin 56) :
    k0_pay1 (F := Ideal) v27 v29 v37 v38 v39 (ix3 e p q)
      = if v27 (ix3 e p q) = 0 then (0 : EReal) else if (v29 (ix3 e p q) : EReal) < Ideal.ofBits FTy.f32 8388608#32 then 0
        else (∑ x : Fin 254, (Scalar.select (v37 (ix4 e p q x)) (v38 (ix4 e p q x)) (v39 (ix4 e p q x)) : EReal)) - Ideal.ofBits FTy.f32 1123811328#32 := by
  pointwise [k0_pay1]

theorem pay2_at (v27 v29 : FVec Ideal S2x144x56 .f32) (v37 : IVec S2x144x56x254 1) (v38 v39 : FVec Ideal S2x144x56x254 .f32) (r : Fin 288) (q : Fin 56) :
    k0_pay2 (F := Ideal) v27 v29 v37 v38 v39 (ix2 r q)
      = Ideal.exp2 (k0_pay1 (F := Ideal) v27 v29 v37 v38 v39 (ix3 ⟨r.val / 144, by have := r.isLt; omega⟩ ⟨r.val % 144, by omega⟩ q)) := by
  pointwise [k0_pay2]
  try rfl

theorem pay3_at (v25 : FVec Ideal S2x144x128x56x128 .f32) (v27 v29 : FVec Ideal S2x144x56 .f32) (v37 : IVec S2x144x56x254 1) (v38 v39 : FVec Ideal S2x144x56x254 .f32) (r : Fin 36864) (q : Fin 7168) :
    k0_pay3 (F := Ideal) v25 v27 v29 v37 v38 v39 (ix2 r q)
      = clamp (v25 (ix5 ⟨r.val / 18432, by have := r.isLt; omega⟩ ⟨r.val / 128 % 144, by omega⟩ ⟨r.val % 128, by omega⟩ ⟨q.val / 128, by have := q.isLt; omega⟩ ⟨q.val % 128, by omega⟩)
        * Ideal.exp2 (0 - k0_pay1 (F := Ideal) v27 v29 v37 v38 v39 (ix3 ⟨r.val / 18432, by have := r.isLt; omega⟩ ⟨r.val / 128 % 144, by omega⟩ ⟨q.val / 128, by have := q.isLt; omega⟩))) := by
  unfold clamp
  rw [min_comm, max_comm]
  pointwise [k0_pay3]
  try rfl

end Cert.ReferenceIdeal.Hand
end
-- ==== Proof.RefCount.lean ====
module

public import proofs.«01_k».proof.Proof.Model
public import proofs.«01_k».proof.Proof.Gen.ReferenceIdeal.Skeleton
public import Idealize.ShloMosaic.Lib.Tactic
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (at1 at2 at3 at1_ix at2_ix at3_ix prodM normOf sumSq gainM topM mag expo clamp ofBits_bot)

/-! ## The comparisons with the powers of two -/

theorem pow_at (e : Fin 2) (p : Fin 144) (q : Fin 56) (k : Fin 254) :
    (iota .tc S2x144x56x254 32 [3] iota_S2x144x56x254_d3_w32 : IVec S2x144x56x254 32) (ix4 e p q k) = BitVec.ofNat 32 k.val := by
  pointwise

theorem spread_at (v : S2x144x56.Idx → EReal) (e : Fin 2) (p : Fin 144) (q : Fin 56) (k : Fin 254) :
    (broadcastTo S2x144x56x254 (shapeCast S2x144x56x1 v shapeCasts_S2x144x56_S2x144x56x1) broadcasts_S2x144x56x1_S2x144x56x254 : S2x144x56x254.Idx → EReal) (ix4 e p q k) = v (ix3 e p q) := by
  pointwise

theorem sitofp_ofNat (k : Fin 254) : (FloatOps.sitofp (F := Ideal) FTy.f32 (BitVec.ofNat 32 k.val) : EReal) = ((k.val : ℝ) : EReal) := by
  have h : (BitVec.ofNat 32 k.val).toInt = (k.val : ℤ) := by
    have := k.isLt
    rw [BitVec.toInt_eq_toNat_cond, BitVec.toNat_ofNat, Nat.mod_eq_of_lt (by omega), if_pos (by omega)]
  show (((BitVec.ofNat 32 k.val).toInt : ℝ) : EReal) = _
  rw [h, Int.cast_natCast]

theorem one_f32 : Ideal.ofBits FTy.f32 1065353216#32 = 1 := by
  have h : Ideal.ofBits FTy.f32 1065353216#32 = ((1 : ℝ) : EReal) := by
    simp [Ideal.ofBits, Ideal.ieee, -EReal.coe_mul]
    all_goals norm_num
  rw [h, EReal.coe_one]

theorem power_at (e : Fin 2) (p : Fin 144) (q : Fin 56) (k : Fin 254) :
    (exp2 (subf (sitofp FTy.f32 (iota .tc S2x144x56x254 32 [3] iota_S2x144x56x254_d3_w32)) (broadcast S2x144x56x254 (FloatOps.ofBits FTy.f32 1123811328#32))) : FVec Ideal S2x144x56x254 .f32) (ix4 e p q k)
      = Ideal.exp2 (((k.val : ℝ) : EReal) - Ideal.ofBits FTy.f32 1123811328#32) := by
  have h : ∀ w : BitVec 32, (iota .tc S2x144x56x254 32 [3] iota_S2x144x56x254_d3_w32 : IVec S2x144x56x254 32) (ix4 e p q k) = w →
      (exp2 (subf (sitofp FTy.f32 (iota .tc S2x144x56x254 32 [3] iota_S2x144x56x254_d3_w32)) (broadcast S2x144x56x254 (FloatOps.ofBits FTy.f32 1123811328#32))) : FVec Ideal S2x144x56x254 .f32) (ix4 e p q k)
        = Ideal.exp2 (FloatOps.sitofp (F := Ideal) FTy.f32 w - Ideal.ofBits FTy.f32 1123811328#32) := by
    intro w hw
    subst hw
    rfl
  rw [h _ (pow_at e p q k), sitofp_ofNat]

theorem cmp_oge {s : Shape} (a b : FVec Ideal s .f32) (y : s.Idx) : (cmpf .oge a b : IVec s 1) y = BitVec.ofBool (decide (b y ≤ a y : Prop)) := rfl

/-- Whether the `k`-th power of two is at most the multiple, selecting one or zero. -/
theorem pay7_at (P0 : S2x18432x7168.Idx → EReal) (P1 : S2x144x56.Idx → EReal) (P2 : S2x18432x7168.Idx → EReal) (P3 : S2x18432.Idx → EReal)
    (e : Fin 2) (p : Fin 144) (q : Fin 56) (k : Fin 254) :
    (Scalar.select (k0_pay7 (F := Ideal) P0 P1 P2 P3 (ix4 e p q k)) (k0_pay8 (F := Ideal) (ix4 e p q k)) (k0_pay9 (F := Ideal) (ix4 e p q k)) : EReal)
      = if Ideal.exp2 (((k.val : ℝ) : EReal) - Ideal.ofBits FTy.f32 1123811328#32) ≤ k0_pay6 (F := Ideal) P0 P1 P2 P3 (ix3 e p q) then 1 else 0 := by
  have h1 : k0_pay8 (F := Ideal) (ix4 e p q k) = (1 : EReal) := one_f32
  have h0 : k0_pay9 (F := Ideal) (ix4 e p q k) = (0 : EReal) := Ideal.ofBits_zero FTy.f32
  have h7 : k0_pay7 (F := Ideal) P0 P1 P2 P3 (ix4 e p q k)
      = BitVec.ofBool (decide (Ideal.exp2 (((k.val : ℝ) : EReal) - Ideal.ofBits FTy.f32 1123811328#32) ≤ k0_pay6 (F := Ideal) P0 P1 P2 P3 (ix3 e p q))) := by
    unfold k0_pay7
    generalize k0_pay6 (F := Ideal) P0 P1 P2 P3 = v
    refine (cmp_oge _ _ _).trans ?_
    rw [spread_at, power_at]
  rw [h1, h0, h7]
  by_cases h : Ideal.exp2 (((k.val : ℝ) : EReal) - Ideal.ofBits FTy.f32 1123811328#32) ≤ k0_pay6 (F := Ideal) P0 P1 P2 P3 (ix3 e p q)
  · rw [if_pos h, decide_eq_true h]; rfl
  · rw [if_neg h, decide_eq_false h]; rfl

end Cert.ReferenceIdeal.Hand
end
-- ==== Proof.RefModel.lean ====
module

public import proofs.«01_k».proof.Proof.RefWeight
public import proofs.«01_k».proof.Proof.RefLast
public import proofs.«01_k».proof.Proof.RefCount
public import proofs.«01_k».proof.Proof.Gen.ReferenceIdeal.Skeleton
public import Idealize.ShloMosaic.Lib.Tactic
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (at1 at2 at3 at1_ix at2_ix at3_ix prodM normOf sumSq gainM topM mag expo clamp ofBits_bot codeM scaleM)

/-! ## The reference's payloads are the model -/

section

variable (P0 : S2x18432x7168.Idx → EReal) (P1 : S2x144x56.Idx → EReal) (P2 : S2x18432x7168.Idx → EReal) (P3 : S2x18432.Idx → EReal)

theorem pay5_at (e : Fin 2) (p : Fin 144) (q : Fin 56) :
    k0_pay5 (F := Ideal) P0 P1 P2 P3 (ix3 e p q) = topM (wd P0 P1 P2 e.val p.val) (gainM P3 e.val p.val) q.val := by
  have h : k0_pay5 (F := Ideal) P0 P1 P2 P3 (ix3 e p q)
      = Finset.fold max (Ideal.ofBits FTy.f32 4286578688#32) (fun x => mag (k0_pay4 (F := Ideal) P0 P1 P2 P3 x))
        (Finset.univ.filter fun i => reduces_S2x144x128x56x128_S2x144x56.drop i = ix3 e p q) := by
    unfold k0_pay5
    generalize k0_pay4 (F := Ideal) P0 P1 P2 P3 = v
    pointwise
    rfl
  rw [h, reduce_max]
  unfold topM
  refine Finset.fold_congr fun k _ => ?_
  rw [pay4_at]

theorem mulf_at {s : Shape} (a b : FVec Ideal s .f32) (y : s.Idx) (z : EReal) (h : (b y : EReal) = z) : (mulf a b y : EReal) = (a y : EReal) * z := by
  subst h
  rfl

theorem pay6_at (e : Fin 2) (p : Fin 144) (q : Fin 56) :
    k0_pay6 (F := Ideal) P0 P1 P2 P3 (ix3 e p q) = k0_pay5 (F := Ideal) P0 P1 P2 P3 (ix3 e p q) * Ideal.ofBits FTy.f32 991054117#32 := by
  exact mulf_at (k0_pay5 (F := Ideal) P0 P1 P2 P3) _ (ix3 e p q) _ rfl

/-- The exponent of a block. -/
theorem expo_at (e : Fin 2) (p : Fin 144) (q : Fin 56) :
    k0_pay1 (F := Ideal) (k0_pay5 (F := Ideal) P0 P1 P2 P3) (k0_pay6 (F := Ideal) P0 P1 P2 P3) (k0_pay7 (F := Ideal) P0 P1 P2 P3) (k0_pay8 (F := Ideal)) (k0_pay9 (F := Ideal)) (ix3 e p q)
      = expo (topM (wd P0 P1 P2 e.val p.val) (gainM P3 e.val p.val) q.val) := by
  rw [pay1_at, Finset.sum_congr rfl fun k _ => pay7_at P0 P1 P2 P3 e p q k, pay6_at, pay5_at]
  rfl

theorem codes_at (r : Fin 36864) (q : Fin 7168) :
    k0_pay3 (F := Ideal) (k0_pay4 (F := Ideal) P0 P1 P2 P3) (k0_pay5 (F := Ideal) P0 P1 P2 P3) (k0_pay6 (F := Ideal) P0 P1 P2 P3) (k0_pay7 (F := Ideal) P0 P1 P2 P3) (k0_pay8 (F := Ideal)) (k0_pay9 (F := Ideal)) (ix2 r q)
      = codeM (wd P0 P1 P2 (r.val / 18432) (r.val / 128 % 144)) (gainM P3 (r.val / 18432) (r.val / 128 % 144)) (r.val % 128) q.val := by
  rw [pay3_at, pay4_at, expo_at]
  unfold codeM
  dsimp only
  rw [show q.val / 128 * 128 + q.val % 128 = q.val by omega]

theorem scales_at (r : Fin 288) (q : Fin 56) :
    k0_pay2 (F := Ideal) (k0_pay5 (F := Ideal) P0 P1 P2 P3) (k0_pay6 (F := Ideal) P0 P1 P2 P3) (k0_pay7 (F := Ideal) P0 P1 P2 P3) (k0_pay8 (F := Ideal)) (k0_pay9 (F := Ideal)) (ix2 r q)
      = scaleM (wd P0 P1 P2 (r.val / 144) (r.val % 144)) (gainM P3 (r.val / 144) (r.val % 144)) q.val := by
  rw [pay2_at, expo_at]
  rfl

end

end Cert.ReferenceIdeal.Hand
end
-- ==== Proof.RefRun.lean ====
module

public import proofs.«01_k».proof.Proof.Gen.ReferenceIdeal.Value
public import Idealize.ShloMosaic.Lib.Tactic
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-! ## The reference's run -/

variable (m : (ℓ : Loc nD τ sig) → Buf (Elt Ideal) ℓ) (c : Dev nD)

/-- The low-rank product as the host forms it. -/
def delta (B : S2x18432x64.Idx → EReal) (A : S2x64x7168.Idx → EReal) : S2x18432x7168.Idx → EReal :=
  Host.dotGeneral (F := Ideal) (φ₁ := .bf16) (φ₂ := .bf16) dot_S2x18432x64_S2x64x7168_S2x18432x7168_2_1_1_2_0_0 none B A

theorem entry_delta : V m c main_v0 = delta (m ((c : Thread nD τ).loc main_arg3)) (m ((c : Thread nD τ).loc main_arg2)) := by
  entry_read
  rfl

theorem delta_at (B : S2x18432x64.Idx → EReal) (A : S2x64x7168.Idx → EReal) (e : Fin 2) (r : Fin 18432) (q : Fin 7168) :
    delta B A (ix3 e r q) = ∑ k : Fin 64, B (ix3 e r k) * A (ix3 e k q) := by
  unfold delta
  pointwise

theorem index0 : ∀ t : Fin grid0.N, win0_0.index t = ![0, 0, 0] := by decide +kernel
theorem index1 : ∀ t : Fin grid0.N, win0_1.index t = ![0, 0, 0] := by decide +kernel
theorem index2 : ∀ t : Fin grid0.N, win0_2.index t = ![0, 0, 0] := by decide +kernel
theorem index3 : ∀ t : Fin grid0.N, win0_3.index t = ![0, 0] := by decide +kernel

theorem blk0 (t : Fin cfg0.N) : iblk m c 0 t = m ((c : Thread nD τ).loc main_arg0) := by
  funext y
  blk_point [iblk, V, index0 t] <;> simp

theorem blk1 (t : Fin cfg0.N) : iblk m c 1 t = m ((c : Thread nD τ).loc main_arg1) := by
  funext y
  blk_point [iblk, V, index1 t] <;> simp

theorem blk2 (t : Fin cfg0.N) : iblk m c 2 t = delta (m ((c : Thread nD τ).loc main_arg3)) (m ((c : Thread nD τ).loc main_arg2)) := by
  rw [← entry_delta]
  have h : ∀ X : S2x18432x7168.Idx → EReal, ((win0_2.blk t).view.read (Elt Ideal) X : S2x18432x7168.Idx → EReal) = X := by
    intro X
    funext y
    blk_point [index2 t] <;> simp
  exact h _

theorem blk3 (t : Fin cfg0.N) : iblk m c 3 t = m ((c : Thread nD τ).loc main_arg4) := by
  funext y
  blk_point [iblk, V, index3 t] <;> simp

/-- What the body leaves in the two output buffers, from the contents of the four inputs. -/
theorem out4_eq (x0 : S2x18432x7168.Idx → EReal) (x1 : S2x144x56.Idx → EReal) (x2 : S2x18432x7168.Idx → EReal) (x3 : S2x18432.Idx → EReal) :
    out0_4 (F := Ideal) x0 x1 x2 x3 = k0_pay3 (F := Ideal) (k0_pay4 (F := Ideal) x0 x1 x2 x3) (k0_pay5 (F := Ideal) x0 x1 x2 x3) (k0_pay6 (F := Ideal) x0 x1 x2 x3) (k0_pay7 (F := Ideal) x0 x1 x2 x3) (k0_pay8 (F := Ideal)) (k0_pay9 (F := Ideal)) := by
  unfold_out out0_4
  frame_out

theorem out5_eq (x0 : S2x18432x7168.Idx → EReal) (x1 : S2x144x56.Idx → EReal) (x2 : S2x18432x7168.Idx → EReal) (x3 : S2x18432.Idx → EReal) :
    out0_5 (F := Ideal) x0 x1 x2 x3 = k0_pay2 (F := Ideal) (k0_pay5 (F := Ideal) x0 x1 x2 x3) (k0_pay6 (F := Ideal) x0 x1 x2 x3) (k0_pay7 (F := Ideal) x0 x1 x2 x3) (k0_pay8 (F := Ideal)) (k0_pay9 (F := Ideal)) := by
  unfold_out out0_5
  frame_out

/-- Output window 4's array after the run. -/
theorem arr4 : (dats m 0 c).arrAt 4 cfg0.N = out0_4 (F := Ideal) (m ((c : Thread nD τ).loc main_arg0)) (m ((c : Thread nD τ).loc main_arg1)) (delta (m ((c : Thread nD τ).loc main_arg3)) (m ((c : Thread nD τ).loc main_arg2))) (m ((c : Thread nD τ).loc main_arg4)) := by
  refine (dats m 0 c).arrAt_eq_of_after_last 4 t0_0 (by decide +kernel) _ fun j => ?_
  rw [after0_4, blk0, blk1, blk2, blk3]
  generalize out0_4 (F := Ideal) (m ((c : Thread nD τ).loc main_arg0)) (m ((c : Thread nD τ).loc main_arg1)) (delta (m ((c : Thread nD τ).loc main_arg3)) (m ((c : Thread nD τ).loc main_arg2))) (m ((c : Thread nD τ).loc main_arg4)) = X
  rfl

/-- Output window 5's array after the run. -/
theorem arr5 : (dats m 0 c).arrAt 5 cfg0.N = out0_5 (F := Ideal) (m ((c : Thread nD τ).loc main_arg0)) (m ((c : Thread nD τ).loc main_arg1)) (delta (m ((c : Thread nD τ).loc main_arg3)) (m ((c : Thread nD τ).loc main_arg2))) (m ((c : Thread nD τ).loc main_arg4)) := by
  refine (dats m 0 c).arrAt_eq_of_after_last 5 t0_0 (by decide +kernel) _ fun j => ?_
  rw [after0_5, blk0, blk1, blk2, blk3]
  generalize out0_5 (F := Ideal) (m ((c : Thread nD τ).loc main_arg0)) (m ((c : Thread nD τ).loc main_arg1)) (delta (m ((c : Thread nD τ).loc main_arg3)) (m ((c : Thread nD τ).loc main_arg2))) (m ((c : Thread nD τ).loc main_arg4)) = X
  rfl

end Cert.ReferenceIdeal.Hand
end
-- ==== Proof.RefVal.lean ====
module

public import proofs.«01_k».proof.Proof.RefModel
public import proofs.«01_k».proof.Proof.RefRun

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (at3 at3_ix mergedM codesM scalesM)

/-! ## The reference's results are the model's -/

theorem at3_delta (B : S2x18432x64.Idx → EReal) (A : S2x64x7168.Idx → EReal) (e r q : ℕ) :
    at3 (delta B A) e r q = ∑ k : Fin 64, at3 B e r k.val * at3 A e k.val q := by
  by_cases h : e < 2 ∧ r < 18432 ∧ q < 7168
  · have h1 : at3 (delta B A) e r q = delta B A (ix3 ⟨e, h.1⟩ ⟨r, h.2.1⟩ ⟨q, h.2.2⟩) := (at3_ix (delta B A) ⟨e, h.1⟩ ⟨r, h.2.1⟩ ⟨q, h.2.2⟩).symm
    rw [h1, delta_at]
    refine Finset.sum_congr rfl fun k _ => ?_
    rw [at3_ix B, at3_ix A]
  · have h1 : at3 (delta B A) e r q = 0 := by unfold at3; rw [dif_neg h]
    rw [h1]
    refine (Finset.sum_eq_zero fun k _ => ?_).symm
    by_cases hB : e < 2 ∧ r < 18432 ∧ k.val < 64
    · have hA : at3 A e k.val q = 0 := by
        unfold at3
        rw [dif_neg fun hA => h ⟨hA.1, hB.2.1, hA.2.2⟩]
      rw [hA, mul_zero]
    · have hB' : at3 B e r k.val = 0 := by unfold at3; rw [dif_neg hB]
      rw [hB', zero_mul]

theorem wd_delta (P : S2x18432x7168.Idx → EReal) (s : S2x144x56.Idx → EReal) (A : S2x64x7168.Idx → EReal) (B : S2x18432x64.Idx → EReal) (e p : ℕ) :
    wd P s (delta B A) e p = mergedM P s A B e p := by
  funext r c
  unfold wd mergedM
  rw [at3_delta]

variable (m : (ℓ : Loc nD τ sig) → Buf (Elt Ideal) ℓ) (ρ : Dev nD → PrngReg)

theorem arr4_model (c : Dev nD) : (dats m 0 c).arrAt 4 cfg0.N
    = codesM (m ((c : Thread nD τ).loc main_arg0)) (m ((c : Thread nD τ).loc main_arg1)) (m ((c : Thread nD τ).loc main_arg2)) (m ((c : Thread nD τ).loc main_arg3)) (m ((c : Thread nD τ).loc main_arg4)) := by
  refine ((arr4 m c).trans (out4_eq _ _ _ _)).trans ?_
  refine funext fun y => ?_
  rw [eq_ix2 y]
  refine (codes_at _ _ _ _ _ _).trans ?_
  rw [wd_delta]
  rfl

theorem arr5_model (c : Dev nD) : (dats m 0 c).arrAt 5 cfg0.N
    = scalesM (m ((c : Thread nD τ).loc main_arg0)) (m ((c : Thread nD τ).loc main_arg1)) (m ((c : Thread nD τ).loc main_arg2)) (m ((c : Thread nD τ).loc main_arg3)) (m ((c : Thread nD τ).loc main_arg4)) := by
  refine ((arr5 m c).trans (out5_eq _ _ _ _)).trans ?_
  refine funext fun y => ?_
  rw [eq_ix2 y]
  refine (scales_at _ _ _ _ _ _).trans ?_
  rw [wd_delta]
  rfl

/-- The reference's run: the model's two results, its arguments as they began. -/
theorem run_model : θ_run (defs (F := Ideal)) (onTc (τ := τ) (main (F := Ideal))) ⟨m, fun _ => 0, ρ⟩ (fun r => ∀ c : Dev nD,
      r.2.mem ((c.tc : Thread nD τ).loc main_v1_0) = codesM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v1_1) = scalesM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (arr4_model m c), (h c).2.1.trans (arr5_model m c), (h c).2.2⟩)
    (Cert.ReferenceIdeal.Value.run_blocks m ρ)

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_magnitude_finite
public import proofs.«01_k».proof.Proof.Gen.ReferenceIdeal
public import proofs.«01_k».proof.Proof.Gen.ReferenceIdeal.Launch
public import proofs.«01_k».proof.Proof.Gen.ReferenceIdeal.Points
public import proofs.«01_k».proof.Proof.Gen.ReferenceIdeal.Skeleton
public import proofs.«01_k».proof.Proof.Gen.ReferenceIdeal.Frame
public import proofs.«01_k».proof.Proof.Gen.ReferenceIdeal.Value
public import proofs.«01_k».proof.Proof.KFrame
public import proofs.«01_k».proof.Proof.IFrame
public import proofs.«01_k».proof.Proof.KerRun
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- Both programs end with the model's two results, the reference's arguments being the kernel's. -/
theorem algebraic :
    letI := Cert.KernelIdeal.Gen.facts; letI := Cert.ReferenceIdeal.Gen.facts; letI := Cert.Pre_magnitude_finite.Gen.facts
    Cert.algebraic_KernelIdeal_ReferenceIdeal_pre_magnitude_finite := by
  intro m g m' g' hpre hargs
  refine ⟨_, _, Cert.KernelIdeal.Hand.run_model m g hpre, (θ_run Cert.ReferenceIdeal.defs _ _).mono (fun r h c => ?_) (Cert.ReferenceIdeal.Hand.run_model m' g')⟩
  obtain ⟨h0, h1, hk⟩ := h c
  obtain ⟨a0, a1, a2, a3, a4⟩ := hargs c
  rw [a0, a1, a2, a3, a4] at h0 h1
  exact ⟨h0, h1, hk⟩

theorem claim : Cert.Claim :=
  ⟨Cert.Kernel.Gen.facts, Cert.KernelIdeal.Gen.facts, Cert.ReferenceIdeal.Gen.facts, Cert.Pre_magnitude_finite.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, trivial, algebraic⟩

end Cert.Proof

end
